-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_affine [hPre_finite_and_affine : Cert.Pre_finite_and_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_affine [hPre_finite_and_affine : Cert.Pre_finite_and_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_affine [hKernelIdeal : Cert.KernelIdeal.Facts] [hPre_finite_and_affine : Cert.Pre_finite_and_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_affine [hReferenceIdeal : Cert.ReferenceIdeal.Facts] [hPre_finite_and_affine : Cert.Pre_finite_and_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.sign_bit.Statement Cert.KernelIdeal.S1x8 .f32

def algebraic_KernelIdeal_ReferenceIdeal_pre_finite_and_affine [hKernelIdeal : Cert.KernelIdeal.Facts] [hReferenceIdeal : Cert.ReferenceIdeal.Facts] [hPre_finite_and_affine : Cert.Pre_finite_and_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_affine : Cert.Pre_finite_and_affine.Facts),
    quiescent_Kernel (hKernel := hKernel)
    ∧ quiescent_KernelIdeal (hKernelIdeal := hKernelIdeal)
    ∧ quiescent_KernelIdeal_pre_finite_and_affine (hKernelIdeal := hKernelIdeal) (hPre_finite_and_affine := hPre_finite_and_affine)
    ∧ quiescent_ReferenceIdeal (hReferenceIdeal := hReferenceIdeal)
    ∧ quiescent_ReferenceIdeal_pre_finite_and_affine (hReferenceIdeal := hReferenceIdeal) (hPre_finite_and_affine := hPre_finite_and_affine)
    ∧ preserves_Kernel_KernelIdeal
    ∧ algebraic_KernelIdeal_ReferenceIdeal_pre_finite_and_affine (hKernelIdeal := hKernelIdeal) (hReferenceIdeal := hReferenceIdeal) (hPre_finite_and_affine := hPre_finite_and_affine)
-- ==== Pre_finite_and_affine.lean ====
abbrev S8x512x3 : Shape := ⟨3, ![8, 512, 3]⟩
abbrev S8x2048x3 : Shape := ⟨3, ![8, 2048, 3]⟩
abbrev S8x4x4 : Shape := ⟨3, ![8, 4, 4]⟩
abbrev S_ : Shape := ⟨0, ![]⟩
abbrev S8x1x3 : Shape := ⟨3, ![8, 1, 3]⟩
abbrev S8x3 : Shape := ⟨2, ![8, 3]⟩
abbrev S8x1x1 : Shape := ⟨3, ![8, 1, 1]⟩
abbrev S8 : Shape := ⟨1, ![8]⟩

class Facts : Prop where
  bcast_S_S8x512x3 : S_.BroadcastsInDim S8x512x3 (![] : Fin 0 → Fin S8x512x3.rank)
  reducesTo_S8x512x3_S_d0_1_2 : S8x512x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_
  bcast_S_S8x4x4 : S_.BroadcastsInDim S8x4x4 (![] : Fin 0 → Fin S8x4x4.rank)
  reducesTo_S8x4x4_S_d0_1_2 : S8x4x4.ReducesTo [0, 1, 2] S_
  slices_S8x4x4_S8x1x3_0_3_0 : S8x4x4.Slices ![0, 3, 0] S8x1x3
  shapeCasts_S8x1x3_S8x3 : S8x1x3.ShapeCasts S8x3
  bcast_S_S8x3 : S_.BroadcastsInDim S8x3 (![] : Fin 0 → Fin S8x3.rank)
  reducesTo_S8x3_S_d0_1 : S8x3.ReducesTo [0, 1] S_
  slices_S8x4x4_S8x1x1_0_3_3 : S8x4x4.Slices ![0, 3, 3] S8x1x1
  shapeCasts_S8x1x1_S8 : S8x1x1.ShapeCasts S8
  bcast_S_S8 : S_.BroadcastsInDim S8 (![] : Fin 0 → Fin S8.rank)
  reducesTo_S8_S_d0 : S8.ReducesTo [0] S_

variable [Facts]

def fn_part1 {F : FTy → Type} [FloatOps F] (main_arg2 : FVec F S8x4x4 .f32) (main_v16 : IVec S_ 1) : IVec S_ 1 :=
  let main_v17 : FVec F S8x1x3 .f32 := (extractStridedSlice S8x1x3 ![0, 3, 0] · slices_S8x4x4_S8x1x3_0_3_0) main_arg2
  let main_v18 : FVec F S8x3 .f32 := shapeCast S8x3 main_v17 shapeCasts_S8x1x3_S8x3
  let main_cst_5 : FVec F S_ .f32 := constant S_ .f32 0x00000000#32
  let main_v19 : FVec F S8x3 .f32 := broadcastInDim S8x3 ![] bcast_S_S8x3 main_cst_5
  let main_v20 : IVec S8x3 1 := cmpf .oeq main_v18 main_v19
  let main_c_6 : IVec S_ 1 := constantI S_ 1 1#1
  let main_v21 : IVec S_ 1 := (fun x v => Host.reduce IntOp.andi x v reducesTo_S8x3_S_d0_1 h_S_) main_v20 main_c_6
  let main_v22 : IVec S_ 1 := andi main_v16 main_v21
  let main_v23 : FVec F S8x1x1 .f32 := (extractStridedSlice S8x1x1 ![0, 3, 3] · slices_S8x4x4_S8x1x1_0_3_3) main_arg2
  let main_v24 : FVec F S8 .f32 := shapeCast S8 main_v23 shapeCasts_S8x1x1_S8
  let main_cst_7 : FVec F S_ .f32 := constant S_ .f32 0x3F800000#32
  let main_v25 : FVec F S8 .f32 := broadcastInDim S8 ![] bcast_S_S8 main_cst_7
  let main_v26 : IVec S8 1 := cmpf .oeq main_v24 main_v25
  let main_c_8 : IVec S_ 1 := constantI S_ 1 1#1
  let main_v27 : IVec S_ 1 := (fun x v => Host.reduce IntOp.andi x v reducesTo_S8_S_d0 h_S_) main_v26 main_c_8
  let main_v28 : IVec S_ 1 := andi main_v22 main_v27
  main_v28

def fn {F : FTy → Type} [FloatOps F] (main_arg0 : FVec F S8x512x3 .f32) (main_arg1 : FVec F S8x2048x3 .f32) (main_arg2 : FVec F S8x4x4 .f32) (main_arg3 : FVec F S_ .f32) : IVec S_ 1 :=
  let main_v0 : FVec F S8x512x3 .f32 := Host.absf main_arg0
  let main_cst : FVec F S_ .f32 := constant S_ .f32 0x7F800000#32
  let main_v1 : FVec F S8x512x3 .f32 := broadcastInDim S8x512x3 ![] bcast_S_S8x512x3 main_cst
  let main_v2 : IVec S8x512x3 1 := cmpf .olt main_v0 main_v1
  let main_c : IVec S_ 1 := constantI S_ 1 1#1
  let main_v3 : IVec S_ 1 := (fun x v => Host.reduce IntOp.andi x v reducesTo_S8x512x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x4x4 .f32 := Host.absf main_arg2
  let main_cst_2 : FVec F S_ .f32 := constant S_ .f32 0x7F800000#32
  let main_v10 : FVec F S8x4x4 .f32 := broadcastInDim S8x4x4 ![] bcast_S_S8x4x4 main_cst_2
  let main_v11 : IVec S8x4x4 1 := cmpf .olt main_v9 main_v10
  let main_c_3 : IVec S_ 1 := constantI S_ 1 1#1
  let main_v12 : IVec S_ 1 := (fun x v => Host.reduce IntOp.andi x v reducesTo_S8x4x4_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_v16 : IVec S_ 1 := andi main_v13 main_v15
  fn_part1 (F := F) main_arg2 main_v16
-- ==== Kernel.lean ====
abbrev S8x512x3 : Shape := ⟨3, ![8, 512, 3]⟩
abbrev S8x2048x3 : Shape := ⟨3, ![8, 2048, 3]⟩
abbrev S8x4x4 : Shape := ⟨3, ![8, 4, 4]⟩
abbrev S_ : Shape := ⟨0, ![]⟩
abbrev S3x512x8 : Shape := ⟨3, ![3, 512, 8]⟩
abbrev S8x3x2048 : Shape := ⟨3, ![8, 3, 2048]⟩
abbrev S1x1 : Shape := ⟨2, ![1, 1]⟩
abbrev S1x512x8 : Shape := ⟨3, ![1, 512, 8]⟩
abbrev S512x8 : Shape := ⟨2, ![512, 8]⟩
abbrev S1x1x2048 : Shape := ⟨3, ![1, 1, 2048]⟩
abbrev S1x2048 : Shape := ⟨2, ![1, 2048]⟩
abbrev S1x3x2048 : Shape := ⟨3, ![1, 3, 2048]⟩
abbrev S3x2048 : Shape := ⟨2, ![3, 2048]⟩
abbrev S512x2048 : Shape := ⟨2, ![512, 2048]⟩
abbrev S1x1x1 : Shape := ⟨3, ![1, 1, 1]⟩
abbrev S1x8 : Shape := ⟨2, ![1, 8]⟩
abbrev S512x1 : Shape := ⟨2, ![512, 1]⟩
abbrev S512x3 : Shape := ⟨2, ![512, 3]⟩
abbrev S512 : Shape := ⟨1, ![512]⟩
abbrev S8 : Shape := ⟨1, ![8]⟩
abbrev S1x4 : Shape := ⟨2, ![1, 4]⟩
abbrev S4x4 : Shape := ⟨2, ![4, 4]⟩
abbrev S1x4x4 : Shape := ⟨3, ![1, 4, 4]⟩

abbrev nBuf : Space → Nat
  | .hbm => 8
  | .vmem => 5
  | .smem => 0
  | _ => 0

abbrev bufTy : (tb : Table) → Fin (tcTables nBuf tb) → BufTy
  | .hbm, ⟨0, _⟩ => ⟨S8x512x3, .f32⟩
  | .hbm, ⟨1, _⟩ => ⟨S8x2048x3, .f32⟩
  | .hbm, ⟨2, _⟩ => ⟨S8x4x4, .f32⟩
  | .hbm, ⟨3, _⟩ => ⟨S_, .f32⟩
  | .hbm, ⟨4, _⟩ => ⟨S3x512x8, .f32⟩
  | .hbm, ⟨5, _⟩ => ⟨S8x3x2048, .f32⟩
  | .hbm, ⟨6, _⟩ => ⟨S1x1, .f32⟩
  | .hbm, ⟨7, _⟩ => ⟨S8x4x4, .f32⟩
  | .local _ .vmem, ⟨0, _⟩ => ⟨S3x512x8, .f32⟩
  | .local _ .vmem, ⟨1, _⟩ => ⟨S8x3x2048, .f32⟩
  | .local _ .vmem, ⟨2, _⟩ => ⟨S8x4x4, .f32⟩
  | .local _ .vmem, ⟨3, _⟩ => ⟨S1x1, .f32⟩
  | .local _ .vmem, ⟨4, _⟩ => ⟨S8x4x4, .f32⟩
  | _, _ => ⟨S8x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c8_i32 : BitVec 32 := 8#32
  let v362 : BitVec 32 := Scalar.addi c0_i32 c8_i32
  let c1_i32 : BitVec 32 := 1#32
  ⟨c0_i32, v362, c1_i32⟩
abbrev stage0_0 : Fin 1 → Memref sig .tc .vmem S3x512x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F]
-- ==== ReferenceIdeal.lean ====
abbrev S8x512x3 : Shape := ⟨3, ![8, 512, 3]⟩
abbrev S8x2048x3 : Shape := ⟨3, ![8, 2048, 3]⟩
abbrev S8x4x4 : Shape := ⟨3, ![8, 4, 4]⟩
abbrev S_ : Shape := ⟨0, ![]⟩
abbrev S8x2048 : Shape := ⟨2, ![8, 2048]⟩
abbrev S8x3x3 : Shape := ⟨3, ![8, 3, 3]⟩
abbrev S8x3x1 : Shape := ⟨3, ![8, 3, 1]⟩
abbrev S8x3 : Shape := ⟨2, ![8, 3]⟩
abbrev S8x1x3 : Shape := ⟨3, ![8, 1, 3]⟩
abbrev S8x512 : Shape := ⟨2, ![8, 512]⟩
abbrev S8x512x1 : Shape := ⟨3, ![8, 512, 1]⟩
abbrev S8x1x2048 : Shape := ⟨3, ![8, 1, 2048]⟩
abbrev S8x512x2048 : Shape := ⟨3, ![8, 512, 2048]⟩
abbrev S8x1 : Shape := ⟨2, ![8, 1]⟩
abbrev S3x3 : Shape := ⟨2, ![3, 3]⟩
abbrev S8x1x1 : Shape := ⟨3, ![8, 1, 1]⟩
abbrev S3 : Shape := ⟨1, ![3]⟩
abbrev S3x1 : Shape := ⟨2, ![3, 1]⟩
abbrev S3x2 : Shape := ⟨2, ![3, 2]⟩
abbrev S8 : Shape := ⟨1, ![8]⟩
abbrev S1x3 : Shape := ⟨2, ![1, 3]⟩
abbrev S4x4 : Shape := ⟨2, ![4, 4]⟩
abbrev S1x4 : Shape := ⟨2, ![1, 4]⟩
abbrev S8x1x4 : Shape := ⟨3, ![8, 1, 4]⟩
abbrev S8x3x4 : Shape := ⟨3, ![8, 3, 4]⟩

abbrev nBuf : Space → Nat
  | .hbm => 1165
  | .vmem => 0
  | .smem => 0
  | _ => 0

abbrev hbmTy0_0 (i : Nat) : BufTy := match i % 128 with
  | 0 => ⟨S8x512x3, .f32⟩
  | 1 => ⟨S8x2048x3, .f32⟩
  | 2 => ⟨S8x4x4, .f32⟩
  | 3 => ⟨S_, .f32⟩
  | 4 => ⟨S_, .f32⟩
  | 5 => ⟨S8x512x3, .f32⟩
  | 6 => ⟨S8x512x3, .f32⟩
  | 7 => ⟨S_, .f32⟩
  | 8 => ⟨S_, .f32⟩
  | 9 => ⟨S8x512x3, .f32⟩
  | 10 => ⟨S8x512x3, .f32⟩
  | 11 => ⟨S8x2048x3, .f32⟩
  | 12 => ⟨S_, .f32⟩
  | 13 => ⟨S8x2048, .f32⟩
  | 14 => ⟨S_, .i32⟩
  | 15 => ⟨S_, .i32⟩
  | 16 => ⟨S8x512x3, .f32⟩
  | 17 => ⟨S8x2048, .f32⟩
  | 18 => ⟨S8x2048x3, .f32⟩
  | 19 => ⟨S_, .i32⟩
  | 20 => ⟨S_, .i32⟩
  | 21 => ⟨S8x4x4, .f32⟩
  | 22 => ⟨S_, .i32⟩
  | 23 => ⟨S_, .i1⟩
  | 24 => ⟨S_, .i32⟩
  | 25 => ⟨S_, .i32⟩
  | 26 => ⟨S8x3x3, .f32⟩
  | 27 => ⟨S8x3x1, .f32⟩
  | 28 => ⟨S8x3, .f32⟩
  | 29 => ⟨S8x512x3, .f32⟩
  | 30 => ⟨S8x1x3, .f32⟩
  | 31 => ⟨S8x512x3, .f32⟩
  | 32 => ⟨S8x512x3, .f32⟩
  | 33 => ⟨S8x512x3, .f32⟩
  | 34 => ⟨S_, .f32⟩
  | 35 => ⟨S8x512, .f32⟩
  | 36 => ⟨S8x512x1, .f32⟩
  | 37 => ⟨S8x1x2048, .f32⟩
  | 38 => ⟨S8x512x2048, .f32⟩
  | 39 => ⟨S8x512x2048, .f32⟩
  | 40 => ⟨S8x512x2048, .f32⟩
  | 41 => ⟨S8x512x2048, .f32⟩
  | 42 => ⟨S_, .f32⟩
  | 43 => ⟨S8x512x2048, .f32⟩
  | 44 => ⟨S8x512x2048, .f32⟩
  | 45 => ⟨S8x512x2048, .f32⟩
  | 46 => ⟨S8x512x2048, .f32⟩
  | 47 => ⟨S8x512x1, .f32⟩
  | 48 => ⟨S8x512x1, .i32⟩
  | 49 => ⟨S8x512, .i32⟩
  | 50 => ⟨S8x512x1, .i32⟩
  | 51 => ⟨S8x512x3, .f32⟩
  | 52 => ⟨S8x512x3, .f32⟩
  | 53 => ⟨S8x512x3, .f32⟩
  | 54 => ⟨S_, .f32⟩
  | 55 => ⟨S8x512, .f32⟩
  | 56 => ⟨S_, .f32⟩
  | 57 => ⟨S8x512, .f32⟩
  | 58 => ⟨S8x512, .f32⟩
  | 59 => ⟨S8x512, .f32⟩
  | 60 => ⟨S_, .f32⟩
  | 61 => ⟨S8x512, .f32⟩
  | 62 => ⟨S8x512, .i1⟩
  | 63 => ⟨S8x512, .f32⟩
  | 64 => ⟨S_, .f32⟩
  | 65 => ⟨S8x512, .f32⟩
  | 66 => ⟨S8x512, .i1⟩
  | 67 => ⟨S_, .f32⟩
  | 68 => ⟨S8x512, .f32⟩
  | 69 => ⟨S8x512, .f32⟩
  | 70 => ⟨S_, .f32⟩
  | 71 => ⟨S_, .f32⟩
  | 72 => ⟨S8x512, .f32⟩
  | 73 => ⟨S8x512, .f32⟩
  | 74 => ⟨S8x512, .f32⟩
  | 75 => ⟨S8x512x1, .f32⟩
  | 76 => ⟨S_, .f32⟩
  | 77 => ⟨S8x1, .f32⟩
  | 78 => ⟨S_, .f32⟩
  | 79 => ⟨S8x1, .f32⟩
  | 80 => ⟨S8x1, .f32⟩
  | 81 => ⟨S8x512x3, .f32⟩
  | 82 => ⟨S8x512x3, .f32⟩
  | 83 => ⟨S_, .f32⟩
  | 84 => ⟨S8x3, .f32⟩
  | 85 => ⟨S8x3, .f32⟩
  | 86 => ⟨S8x3, .f32⟩
  | 87 => ⟨S8x512x3, .f32⟩
  | 88 => ⟨S8x512x3, .f32⟩
  | 89 => ⟨S_, .f32⟩
  | 90 => ⟨S8x3, .f32⟩
  | 91 => ⟨S8x3, .f32⟩
  | 92 => ⟨S8x3, .f32⟩
  | 93 => ⟨S8x1x3, .f32⟩
  | 94 => ⟨S8x512x3, .f32⟩
  | 95 => ⟨S8x512x3, .f32⟩
  | 96 => ⟨S8x1x3, .f32⟩
  | 97 => ⟨S8x512x3, .f32⟩
  | 98 => ⟨S8x512x3, .f32⟩
  | 99 => ⟨S8x512x3, .f32⟩
  | 100 => ⟨S8x512x3, .f32⟩
  | 101 => ⟨S8x3x3, .f32⟩
  | 102 => ⟨S8x3x3, .f32⟩
  | 103 => ⟨S3x3, .i32⟩
  | 104 => ⟨S3x3, .i32⟩
  | 105 => ⟨S_, .i32⟩
  | 106 => ⟨S3x3, .i32⟩
  | 107 => ⟨S3x3, .i32⟩
  | 108 => ⟨S3x3, .i1⟩
  | 109 => ⟨S3x3, .f32⟩
  | 110 => ⟨S8x3x3, .f32⟩
  | 111 => ⟨S8x1x1, .f32⟩
  | 112 => ⟨S8x1x1, .f32⟩
  | 113 => ⟨S8x1x1, .f32⟩
  | 114 => ⟨S8x1x1, .f32⟩
  | 115 => ⟨S_, .f32⟩
  | 116 => ⟨S8x1x1, .f32⟩
  | 117 => ⟨S8x1x1, .i1⟩
  | 118 => ⟨S8x1x1, .f32⟩
  | 119 => ⟨S_, .f32⟩
  | 120 => ⟨S_, .f32⟩
  | 121 => ⟨S8x1x1, .f32⟩
  | 122 => ⟨S8x1x1, .f32⟩
  | 123 => ⟨S_, .f32⟩
  | 124 => ⟨S8x1x1, .f32⟩
  | 125 => ⟨S8x1x1, .f32⟩
  | 126 => ⟨S8x1x1, .f32⟩
  | 127 => ⟨S_, .f32⟩
  | _ => ⟨S8x512x3, .f32⟩

abbrev hbmTy0_1 (i : Nat) : BufTy := match i % 128 with
  | 0 => ⟨S8x1x1, .f32⟩
  | 1 => ⟨S8x1x1, .i1⟩
  | 2 => ⟨S_, .f32⟩
  | 3 => ⟨S_, .f32⟩
  | 4 => ⟨S8x1x1, .f32⟩
  | 5 => ⟨S8x1x1, .f32⟩
  | 6 => ⟨S8x1x1, .f32⟩
  | 7 => ⟨S8x1x1, .f32⟩
  | 8 => ⟨S8x1x1, .f32⟩
  | 9 => ⟨S_, .f32⟩
  | 10 => ⟨S8x1x1, .f32⟩
  | 11 => ⟨S8x1x1, .f32⟩
  | 12 => ⟨S8x1x1, .f32⟩
  | 13 => ⟨S8x1x1, .f32⟩
  | 14 => ⟨S8x1x1, .f32⟩
  | 15 => ⟨S8x1x1, .f32⟩
  | 16 => ⟨S_, .f32⟩
  | 17 => ⟨S_, .f32⟩
  | 18 => ⟨S8x1x1, .f32⟩
  | 19 => ⟨S8x1x1, .f32⟩
  | 20 => ⟨S8x1x1, .f32⟩
  | 21 => ⟨S_, .f32⟩
  | 22 => ⟨S8x1x1, .f32⟩
  | 23 => ⟨S8x1x1, .f32⟩
  | 24 => ⟨S8x1x1, .f32⟩
  | 25 => ⟨S_, .f32⟩
  | 26 => ⟨S8x1x1, .f32⟩
  | 27 => ⟨S8x1x1, .f32⟩
  | 28 => ⟨S8x1x1, .f32⟩
  | 29 => ⟨S_, .f32⟩
  | 30 => ⟨S8x1x1, .f32⟩
  | 31 => ⟨S_, .f32⟩
  | 32 => ⟨S8x1x1, .f32⟩
  | 33 => ⟨S8x1x1, .f32⟩
  | 34 => ⟨S8x1x3, .f32⟩
  | 35 => ⟨S8x1x3, .f32⟩
  | 36 => ⟨S8x1x3, .f32⟩
  | 37 => ⟨S8x3x3, .f32⟩
  | 38 => ⟨S8x1x3, .f32⟩
  | 39 => ⟨S8x1x3, .f32⟩
  | 40 => ⟨S8x1x3, .f32⟩
  | 41 => ⟨S8x3x3, .f32⟩
  | 42 => ⟨S8x3x3, .f32⟩
  | 43 => ⟨S8x3x3, .f32⟩
  | 44 => ⟨S8x3x3, .f32⟩
  | 45 => ⟨S8x3x3, .f32⟩
  | 46 => ⟨S8x1x1, .f32⟩
  | 47 => ⟨S8x1x1, .f32⟩
  | 48 => ⟨S8x1x1, .f32⟩
  | 49 => ⟨S8x1x1, .f32⟩
  | 50 => ⟨S_, .f32⟩
  | 51 => ⟨S8x1x1, .f32⟩
  | 52 => ⟨S8x1x1, .i1⟩
  | 53 => ⟨S8x1x1, .f32⟩
  | 54 => ⟨S_, .f32⟩
  | 55 => ⟨S_, .f32⟩
  | 56 => ⟨S8x1x1, .f32⟩
  | 57 => ⟨S8x1x1, .f32⟩
  | 58 => ⟨S_, .f32⟩
  | 59 => ⟨S8x1x1, .f32⟩
  | 60 => ⟨S8x1x1, .f32⟩
  | 61 => ⟨S8x1x1, .f32⟩
  | 62 => ⟨S_, .f32⟩
  | 63 => ⟨S8x1x1, .f32⟩
  | 64 => ⟨S8x1x1, .i1⟩
  | 65 => ⟨S_, .f32⟩
  | 66 => ⟨S_, .f32⟩
  | 67 => ⟨S8x1x1, .f32⟩
  | 68 => ⟨S8x1x1, .f32⟩
  | 69 => ⟨S8x1x1, .f32⟩
  | 70 => ⟨S8x1x1, .f32⟩
  | 71 => ⟨S8x1x1, .f32⟩
  | 72 => ⟨S_, .f32⟩
  | 73 => ⟨S8x1x1, .f32⟩
  | 74 => ⟨S8x1x1, .f32⟩
  | 75 => ⟨S8x1x1, .f32⟩
  | 76 => ⟨S8x1x1, .f32⟩
  | 77 => ⟨S8x1x1, .f32⟩
  | 78 => ⟨S8x1x1, .f32⟩
  | 79 => ⟨S_, .f32⟩
  | 80 => ⟨S_, .f32⟩
  | 81 => ⟨S8x1x1, .f32⟩
  | 82 => ⟨S8x1x1, .f32⟩
  | 83 => ⟨S8x1x1, .f32⟩
  | 84 => ⟨S_, .f32⟩
  | 85 => ⟨S8x1x1, .f32⟩
  | 86 => ⟨S8x1x1, .f32⟩
  | 87 => ⟨S8x1x1, .f32⟩
  | 88 => ⟨S_, .f32⟩
  | 89 => ⟨S8x1x1, .f32⟩
  | 90 => ⟨S8x1x1, .f32⟩
  | 91 => ⟨S8x1x1, .f32⟩
  | 92 => ⟨S_, .f32⟩
  | 93 => ⟨S8x1x1, .f32⟩
  | 94 => ⟨S_, .f32⟩
  | 95 => ⟨S8x1x1, .f32⟩
  | 96 => ⟨S8x1x1, .f32⟩
  | 97 => ⟨S8x1x3, .f32⟩
  | 98 => ⟨S8x1x3, .f32⟩
  | 99 => ⟨S8x1x3, .f32⟩
  | 100 => ⟨S8x3x3, .f32⟩
  | 101 => ⟨S8x1x3, .f32⟩
  | 102 => ⟨S8x1x3, .f32⟩
  | 103 => ⟨S8x1x3, .f32⟩
  | 104 => ⟨S8x3x3, .f32⟩
  | 105 => ⟨S8x3x3, .f32⟩
  | 106 => ⟨S8x3x3, .f32⟩
  | 107 => ⟨S8x3x3, .f32⟩
  | 108 => ⟨S8x3x3, .f32⟩
  | 109 => ⟨S8x1x1, .f32⟩
  | 110 => ⟨S8x1x1, .f32⟩
  | 111 => ⟨S8x1x1, .f32⟩
  | 112 => ⟨S8x1x1, .f32⟩
  | 113 => ⟨S_, .f32⟩
  | 114 => ⟨S8x1x1, .f32⟩
  | 115 => ⟨S8x1x1, .i1⟩
  | 116 => ⟨S8x1x1, .f32⟩
  | 117 => ⟨S_, .f32⟩
  | 118 => ⟨S_, .f32⟩
  | 119 => ⟨S8x1x1, .f32⟩
  | 120 => ⟨S8x1x1, .f32⟩
  | 121 => ⟨S_, .f32⟩
  | 122 => ⟨S8x1x1, .f32⟩
  | 123 => ⟨S8x1x1, .f32⟩
  | 124 => ⟨S8x1x1, .f32⟩
  | 125 => ⟨S_, .f32⟩
  | 126 => ⟨S8x1x1, .f32⟩
  | 127 => ⟨S8x1x1, .i1⟩
  | _ => ⟨S8x512x3, .f32⟩

abbrev hbmTy0_2 (i : Nat) : BufTy := match i % 128 with
  | 0 => ⟨S_, .f32⟩
  | 1 => ⟨S_, .f32⟩
  | 2 => ⟨S8x1x1, .f32⟩
  | 3 => ⟨S8x1x1, .f32⟩
  | 4 => ⟨S8x1x1, .f32⟩
  | 5 => ⟨S8x1x1, .f32⟩
  | 6 => ⟨S8x1x1, .f32⟩
  | 7 => ⟨S_, .f32⟩
  | 8 => ⟨S8x1x1, .f32⟩
  | 9 => ⟨S8x1x1, .f32⟩
  | 10 => ⟨S8x1x1, .f32⟩
  | 11 => ⟨S8x1x1, .f32⟩
  | 12 => ⟨S8x1x1, .f32⟩
  | 13 => ⟨S8x1x1, .f32⟩
  | 14 => ⟨S_, .f32⟩
  | 15 => ⟨S_, .f32⟩
  | 16 => ⟨S8x1x1, .f32⟩
  | 17 => ⟨S8x1x1, .f32⟩
  | 18 => ⟨S8x1x1, .f32⟩
  | 19 => ⟨S_, .f32⟩
  | 20 => ⟨S8x1x1, .f32⟩
  | 21 => ⟨S8x1x1, .f32⟩
  | 22 => ⟨S8x1x1, .f32⟩
  | 23 => ⟨S_, .f32⟩
  | 24 => ⟨S8x1x1, .f32⟩
  | 25 => ⟨S8x1x1, .f32⟩
  | 26 => ⟨S8x1x1, .f32⟩
  | 27 => ⟨S_, .f32⟩
  | 28 => ⟨S8x1x1, .f32⟩
  | 29 => ⟨S_, .f32⟩
  | 30 => ⟨S8x1x1, .f32⟩
  | 31 => ⟨S8x1x1, .f32⟩
  | 32 => ⟨S8x1x3, .f32⟩
  | 33 => ⟨S8x1x3, .f32⟩
  | 34 => ⟨S8x1x3, .f32⟩
  | 35 => ⟨S8x3x3, .f32⟩
  | 36 => ⟨S8x1x3, .f32⟩
  | 37 => ⟨S8x1x3, .f32⟩
  | 38 => ⟨S8x1x3, .f32⟩
  | 39 => ⟨S8x3x3, .f32⟩
  | 40 => ⟨S8x3x3, .f32⟩
  | 41 => ⟨S8x3x3, .f32⟩
  | 42 => ⟨S8x3x3, .f32⟩
  | 43 => ⟨S8x3x3, .f32⟩
  | 44 => ⟨S8x1x1, .f32⟩
  | 45 => ⟨S8x1x1, .f32⟩
  | 46 => ⟨S8x1x1, .f32⟩
  | 47 => ⟨S8x1x1, .f32⟩
  | 48 => ⟨S_, .f32⟩
  | 49 => ⟨S8x1x1, .f32⟩
  | 50 => ⟨S8x1x1, .i1⟩
  | 51 => ⟨S8x1x1, .f32⟩
  | 52 => ⟨S_, .f32⟩
  | 53 => ⟨S_, .f32⟩
  | 54 => ⟨S8x1x1, .f32⟩
  | 55 => ⟨S8x1x1, .f32⟩
  | 56 => ⟨S_, .f32⟩
  | 57 => ⟨S8x1x1, .f32⟩
  | 58 => ⟨S8x1x1, .f32⟩
  | 59 => ⟨S8x1x1, .f32⟩
  | 60 => ⟨S_, .f32⟩
  | 61 => ⟨S8x1x1, .f32⟩
  | 62 => ⟨S8x1x1, .i1⟩
  | 63 => ⟨S_, .f32⟩
  | 64 => ⟨S_, .f32⟩
  | 65 => ⟨S8x1x1, .f32⟩
  | 66 => ⟨S8x1x1, .f32⟩
  | 67 => ⟨S8x1x1, .f32⟩
  | 68 => ⟨S8x1x1, .f32⟩
  | 69 => ⟨S8x1x1, .f32⟩
  | 70 => ⟨S_, .f32⟩
  | 71 => ⟨S8x1x1, .f32⟩
  | 72 => ⟨S8x1x1, .f32⟩
  | 73 => ⟨S8x1x1, .f32⟩
  | 74 => ⟨S8x1x1, .f32⟩
  | 75 => ⟨S8x1x1, .f32⟩
  | 76 => ⟨S8x1x1, .f32⟩
  | 77 => ⟨S_, .f32⟩
  | 78 => ⟨S_, .f32⟩
  | 79 => ⟨S8x1x1, .f32⟩
  | 80 => ⟨S8x1x1, .f32⟩
  | 81 => ⟨S8x1x1, .f32⟩
  | 82 => ⟨S_, .f32⟩
  | 83 => ⟨S8x1x1, .f32⟩
  | 84 => ⟨S8x1x1, .f32⟩
  | 85 => ⟨S8x1x1, .f32⟩
  | 86 => ⟨S_, .f32⟩
  | 87 => ⟨S8x1x1, .f32⟩
  | 88 => ⟨S8x1x1, .f32⟩
  | 89 => ⟨S8x1x1, .f32⟩
  | 90 => ⟨S_, .f32⟩
  | 91 => ⟨S8x1x1, .f32⟩
  | 92 => ⟨S_, .f32⟩
  | 93 => ⟨S8x1x1, .f32⟩
  | 94 => ⟨S8x1x1, .f32⟩
  | 95 => ⟨S8x1x3, .f32⟩
  | 96 => ⟨S8x1x3, .f32⟩
  | 97 => ⟨S8x1x3, .f32⟩
  | 98 => ⟨S8x3x3, .f32⟩
  | 99 => ⟨S8x1x3, .f32⟩
  | 100 => ⟨S8x1x3, .f32⟩
  | 101 => ⟨S8x1x3, .f32⟩
  | 102 => ⟨S8x3x3, .f32⟩
  | 103 => ⟨S8x3x3, .f32⟩
  | 104 => ⟨S8x3x3, .f32⟩
  | 105 => ⟨S8x3x3, .f32⟩
  | 106 => ⟨S8x3x3, .f32⟩
  | 107 => ⟨S8x1x1, .f32⟩
  | 108 => ⟨S8x1x1, .f32⟩
  | 109 => ⟨S8x1x1, .f32⟩
  | 110 => ⟨S8x1x1, .f32⟩
  | 111 => ⟨S_, .f32⟩
  | 112 => ⟨S8x1x1, .f32⟩
  | 113 => ⟨S8x1x1, .i1⟩
  | 114 => ⟨S8x1x1, .f32⟩
  | 115 => ⟨S_, .f32⟩
  | 116 => ⟨S_, .f32⟩
  | 117 => ⟨S8x1x1, .f32⟩
  | 118 => ⟨S8x1x1, .f32⟩
  | 119 => ⟨S_, .f32⟩
  | 120 => ⟨S8x1x1, .f32⟩
  | 121 => ⟨S8x1x1, .f32⟩
  | 122 => ⟨S8x1x1, .f32⟩
  | 123 => ⟨S_, .f32⟩
  | 124 => ⟨S8x1x1, .f32⟩
  | 125 => ⟨S8x1x1, .i1⟩
  | 126 => ⟨S_, .f32⟩
  | 127 => ⟨S_, .f32⟩
  | _ => ⟨S8x512x3, .f32⟩

abbrev hbmTy0_3 (i : Nat) : BufTy := match i % 128 with
  | 0 => ⟨S8x1x1, .f32⟩
  | 1 => ⟨S8x1x1, .f32⟩
  | 2 => ⟨S8x1x1, .f32⟩
  | 3 => ⟨S8x1x1, .f32⟩
  | 4 => ⟨S8x1x1, .f32⟩
  | 5 => ⟨S_, .f32⟩
  | 6 => ⟨S8x1x1, .f32⟩
  | 7 => ⟨S8x1x1, .f32⟩
  | 8 => ⟨S8x1x1, .f32⟩
  | 9 => ⟨S8x1x1, .f32⟩
  | 10 => ⟨S8x1x1, .f32⟩
  | 11 => ⟨S8x1x1, .f32⟩
  | 12 => ⟨S_, .f32⟩
  | 13 => ⟨S_, .f32⟩
  | 14 => ⟨S8x1x1, .f32⟩
  | 15 => ⟨S8x1x1, .f32⟩
  | 16 => ⟨S8x1x1, .f32⟩
  | 17 => ⟨S_, .f32⟩
  | 18 => ⟨S8x1x1, .f32⟩
  | 19 => ⟨S8x1x1, .f32⟩
  | 20 => ⟨S8x1x1, .f32⟩
  | 21 => ⟨S_, .f32⟩
  | 22 => ⟨S8x1x1, .f32⟩
  | 23 => ⟨S8x1x1, .f32⟩
  | 24 => ⟨S8x1x1, .f32⟩
  | 25 => ⟨S_, .f32⟩
  | 26 => ⟨S8x1x1, .f32⟩
  | 27 => ⟨S_, .f32⟩
  | 28 => ⟨S8x1x1, .f32⟩
  | 29 => ⟨S8x1x1, .f32⟩
  | 30 => ⟨S8x1x3, .f32⟩
  | 31 => ⟨S8x1x3, .f32⟩
  | 32 => ⟨S8x1x3, .f32⟩
  | 33 => ⟨S8x3x3, .f32⟩
  | 34 => ⟨S8x1x3, .f32⟩
  | 35 => ⟨S8x1x3, .f32⟩
  | 36 => ⟨S8x1x3, .f32⟩
  | 37 => ⟨S8x3x3, .f32⟩
  | 38 => ⟨S8x3x3, .f32⟩
  | 39 => ⟨S8x3x3, .f32⟩
  | 40 => ⟨S8x3x3, .f32⟩
  | 41 => ⟨S8x3x3, .f32⟩
  | 42 => ⟨S8x1x1, .f32⟩
  | 43 => ⟨S8x1x1, .f32⟩
  | 44 => ⟨S8x1x1, .f32⟩
  | 45 => ⟨S8x1x1, .f32⟩
  | 46 => ⟨S_, .f32⟩
  | 47 => ⟨S8x1x1, .f32⟩
  | 48 => ⟨S8x1x1, .i1⟩
  | 49 => ⟨S8x1x1, .f32⟩
  | 50 => ⟨S_, .f32⟩
  | 51 => ⟨S_, .f32⟩
  | 52 => ⟨S8x1x1, .f32⟩
  | 53 => ⟨S8x1x1, .f32⟩
  | 54 => ⟨S_, .f32⟩
  | 55 => ⟨S8x1x1, .f32⟩
  | 56 => ⟨S8x1x1, .f32⟩
  | 57 => ⟨S8x1x1, .f32⟩
  | 58 => ⟨S_, .f32⟩
  | 59 => ⟨S8x1x1, .f32⟩
  | 60 => ⟨S8x1x1, .i1⟩
  | 61 => ⟨S_, .f32⟩
  | 62 => ⟨S_, .f32⟩
  | 63 => ⟨S8x1x1, .f32⟩
  | 64 => ⟨S8x1x1, .f32⟩
  | 65 => ⟨S8x1x1, .f32⟩
  | 66 => ⟨S8x1x1, .f32⟩
  | 67 => ⟨S8x1x1, .f32⟩
  | 68 => ⟨S_, .f32⟩
  | 69 => ⟨S8x1x1, .f32⟩
  | 70 => ⟨S8x1x1, .f32⟩
  | 71 => ⟨S8x1x1, .f32⟩
  | 72 => ⟨S8x1x1, .f32⟩
  | 73 => ⟨S8x1x1, .f32⟩
  | 74 => ⟨S8x1x1, .f32⟩
  | 75 => ⟨S_, .f32⟩
  | 76 => ⟨S_, .f32⟩
  | 77 => ⟨S8x1x1, .f32⟩
  | 78 => ⟨S8x1x1, .f32⟩
  | 79 => ⟨S8x1x1, .f32⟩
  | 80 => ⟨S_, .f32⟩
  | 81 => ⟨S8x1x1, .f32⟩
  | 82 => ⟨S8x1x1, .f32⟩
  | 83 => ⟨S8x1x1, .f32⟩
  | 84 => ⟨S_, .f32⟩
  | 85 => ⟨S8x1x1, .f32⟩
  | 86 => ⟨S8x1x1, .f32⟩
  | 87 => ⟨S8x1x1, .f32⟩
  | 88 => ⟨S_, .f32⟩
  | 89 => ⟨S8x1x1, .f32⟩
  | 90 => ⟨S_, .f32⟩
  | 91 => ⟨S8x1x1, .f32⟩
  | 92 => ⟨S8x1x1, .f32⟩
  | 93 => ⟨S8x1x3, .f32⟩
  | 94 => ⟨S8x1x3, .f32⟩
  | 95 => ⟨S8x1x3, .f32⟩
  | 96 => ⟨S8x3x3, .f32⟩
  | 97 => ⟨S8x1x3, .f32⟩
  | 98 => ⟨S8x1x3, .f32⟩
  | 99 => ⟨S8x1x3, .f32⟩
  | 100 => ⟨S8x3x3, .f32⟩
  | 101 => ⟨S8x3x3, .f32⟩
  | 102 => ⟨S8x3x3, .f32⟩
  | 103 => ⟨S8x3x3, .f32⟩
  | 104 => ⟨S8x3x3, .f32⟩
  | 105 => ⟨S8x1x1, .f32⟩
  | 106 => ⟨S8x1x1, .f32⟩
  | 107 => ⟨S8x1x1, .f32⟩
  | 108 => ⟨S8x1x1, .f32⟩
  | 109 => ⟨S_, .f32⟩
  | 110 => ⟨S8x1x1, .f32⟩
  | 111 => ⟨S8x1x1, .i1⟩
  | 112 => ⟨S8x1x1, .f32⟩
  | 113 => ⟨S_, .f32⟩
  | 114 => ⟨S_, .f32⟩
  | 115 => ⟨S8x1x1, .f32⟩
  | 116 => ⟨S8x1x1, .f32⟩
  | 117 => ⟨S_, .f32⟩
  | 118 => ⟨S8x1x1, .f32⟩
  | 119 => ⟨S8x1x1, .f32⟩
  | 120 => ⟨S8x1x1, .f32⟩
  | 121 => ⟨S_, .f32⟩
  | 122 => ⟨S8x1x1, .f32⟩
  | 123 => ⟨S8x1x1, .i1⟩
  | 124 => ⟨S_, .f32⟩
  | 125 => ⟨S_, .f32⟩
  | 126 => ⟨S8x1x1, .f32⟩
  | 127 => ⟨S8x1x1, .f32⟩
  | _ => ⟨S8x512x3, .f32⟩

abbrev hbmTy0_4 (i : Nat) : BufTy := match i % 128 with
  | 0 => ⟨S8x1x1, .f32⟩
  | 1 => ⟨S8x1x1, .f32⟩
  | 2 => ⟨S8x1x1, .f32⟩
  | 3 => ⟨S_, .f32⟩
  | 4 => ⟨S8x1x1, .f32⟩
  | 5 => ⟨S8x1x1, .f32⟩
  | 6 => ⟨S8x1x1, .f32⟩
  | 7 => ⟨S8x1x1, .f32⟩
  | 8 => ⟨S8x1x1, .f32⟩
  | 9 => ⟨S8x1x1, .f32⟩
  | 10 => ⟨S_, .f32⟩
  | 11 => ⟨S_, .f32⟩
  | 12 => ⟨S8x1x1, .f32⟩
  | 13 => ⟨S8x1x1, .f32⟩
  | 14 => ⟨S8x1x1, .f32⟩
  | 15 => ⟨S_, .f32⟩
  | 16 => ⟨S8x1x1, .f32⟩
  | 17 => ⟨S8x1x1, .f32⟩
  | 18 => ⟨S8x1x1, .f32⟩
  | 19 => ⟨S_, .f32⟩
  | 20 => ⟨S8x1x1, .f32⟩
  | 21 => ⟨S8x1x1, .f32⟩
  | 22 => ⟨S8x1x1, .f32⟩
  | 23 => ⟨S_, .f32⟩
  | 24 => ⟨S8x1x1, .f32⟩
  | 25 => ⟨S_, .f32⟩
  | 26 => ⟨S8x1x1, .f32⟩
  | 27 => ⟨S8x1x1, .f32⟩
  | 28 => ⟨S8x1x3, .f32⟩
  | 29 => ⟨S8x1x3, .f32⟩
  | 30 => ⟨S8x1x3, .f32⟩
  | 31 => ⟨S8x3x3, .f32⟩
  | 32 => ⟨S8x1x3, .f32⟩
  | 33 => ⟨S8x1x3, .f32⟩
  | 34 => ⟨S8x1x3, .f32⟩
  | 35 => ⟨S8x3x3, .f32⟩
  | 36 => ⟨S8x3x3, .f32⟩
  | 37 => ⟨S8x3x3, .f32⟩
  | 38 => ⟨S8x3x3, .f32⟩
  | 39 => ⟨S8x3x3, .f32⟩
  | 40 => ⟨S8x1x1, .f32⟩
  | 41 => ⟨S8x1x1, .f32⟩
  | 42 => ⟨S8x1x1, .f32⟩
  | 43 => ⟨S8x1x1, .f32⟩
  | 44 => ⟨S_, .f32⟩
  | 45 => ⟨S8x1x1, .f32⟩
  | 46 => ⟨S8x1x1, .i1⟩
  | 47 => ⟨S8x1x1, .f32⟩
  | 48 => ⟨S_, .f32⟩
  | 49 => ⟨S_, .f32⟩
  | 50 => ⟨S8x1x1, .f32⟩
  | 51 => ⟨S8x1x1, .f32⟩
  | 52 => ⟨S_, .f32⟩
  | 53 => ⟨S8x1x1, .f32⟩
  | 54 => ⟨S8x1x1, .f32⟩
  | 55 => ⟨S8x1x1, .f32⟩
  | 56 => ⟨S_, .f32⟩
  | 57 => ⟨S8x1x1, .f32⟩
  | 58 => ⟨S8x1x1, .i1⟩
  | 59 => ⟨S_, .f32⟩
  | 60 => ⟨S_, .f32⟩
  | 61 => ⟨S8x1x1, .f32⟩
  | 62 => ⟨S8x1x1, .f32⟩
  | 63 => ⟨S8x1x1, .f32⟩
  | 64 => ⟨S8x1x1, .f32⟩
  | 65 => ⟨S8x1x1, .f32⟩
  | 66 => ⟨S_, .f32⟩
  | 67 => ⟨S8x1x1, .f32⟩
  | 68 => ⟨S8x1x1, .f32⟩
  | 69 => ⟨S8x1x1, .f32⟩
  | 70 => ⟨S8x1x1, .f32⟩
  | 71 => ⟨S8x1x1, .f32⟩
  | 72 => ⟨S8x1x1, .f32⟩
  | 73 => ⟨S_, .f32⟩
  | 74 => ⟨S_, .f32⟩
  | 75 => ⟨S8x1x1, .f32⟩
  | 76 => ⟨S8x1x1, .f32⟩
  | 77 => ⟨S8x1x1, .f32⟩
  | 78 => ⟨S_, .f32⟩
  | 79 => ⟨S8x1x1, .f32⟩
  | 80 => ⟨S8x1x1, .f32⟩
  | 81 => ⟨S8x1x1, .f32⟩
  | 82 => ⟨S_, .f32⟩
  | 83 => ⟨S8x1x1, .f32⟩
  | 84 => ⟨S8x1x1, .f32⟩
  | 85 => ⟨S8x1x1, .f32⟩
  | 86 => ⟨S_, .f32⟩
  | 87 => ⟨S8x1x1, .f32⟩
  | 88 => ⟨S_, .f32⟩
  | 89 => ⟨S8x1x1, .f32⟩
  | 90 => ⟨S8x1x1, .f32⟩
  | 91 => ⟨S8x1x3, .f32⟩
  | 92 => ⟨S8x1x3, .f32⟩
  | 93 => ⟨S8x1x3, .f32⟩
  | 94 => ⟨S8x3x3, .f32⟩
  | 95 => ⟨S8x1x3, .f32⟩
  | 96 => ⟨S8x1x3, .f32⟩
  | 97 => ⟨S8x1x3, .f32⟩
  | 98 => ⟨S8x3x3, .f32⟩
  | 99 => ⟨S8x3x3, .f32⟩
  | 100 => ⟨S8x3x3, .f32⟩
  | 101 => ⟨S8x3x3, .f32⟩
  | 102 => ⟨S8x3x3, .f32⟩
  | 103 => ⟨S8x1x1, .f32⟩
  | 104 => ⟨S8x1x1, .f32⟩
  | 105 => ⟨S8x1x1, .f32⟩
  | 106 => ⟨S8x1x1, .f32⟩
  | 107 => ⟨S_, .f32⟩
  | 108 => ⟨S8x1x1, .f32⟩
  | 109 => ⟨S8x1x1, .i1⟩
  | 110 => ⟨S8x1x1, .f32⟩
  | 111 => ⟨S_, .f32⟩
  | 112 => ⟨S_, .f32⟩
  | 113 => ⟨S8x1x1, .f32⟩
  | 114 => ⟨S8x1x1, .f32⟩
  | 115 => ⟨S_, .f32⟩
  | 116 => ⟨S8x1x1, .f32⟩
  | 117 => ⟨S8x1x1, .f32⟩
  | 118 => ⟨S8x1x1, .f32⟩
  | 119 => ⟨S_, .f32⟩
  | 120 => ⟨S8x1x1, .f32⟩
  | 121 => ⟨S8x1x1, .i1⟩
  | 122 => ⟨S_, .f32⟩
  | 123 => ⟨S_, .f32⟩
  | 124 => ⟨S8x1x1, .f32⟩
  | 125 => ⟨S8x1x1, .f32⟩
  | 126 => ⟨S8x1x1, .f32⟩
  | 127 => ⟨S8x1x1, .f32⟩
  | _ => ⟨S8x512x3, .f32⟩

abbrev hbmTy0_5 (i : Nat) : BufTy := match i % 128 with
  | 0 => ⟨S8x1x1, .f32⟩
  | 1 => ⟨S_, .f32⟩
  | 2 => ⟨S8x1x1, .f32⟩
  | 3 => ⟨S8x1x1, .f32⟩
  | 4 => ⟨S8x1x1, .f32⟩
  | 5 => ⟨S8x1x1, .f32⟩
  | 6 => ⟨S8x1x1, .f32⟩
  | 7 => ⟨S8x1x1, .f32⟩
  | 8 => ⟨S_, .f32⟩
  | 9 => ⟨S_, .f32⟩
  | 10 => ⟨S8x1x1, .f32⟩
  | 11 => ⟨S8x1x1, .f32⟩
  | 12 => ⟨S8x1x1, .f32⟩
  | 13 => ⟨S_, .f32⟩
  | 14 => ⟨S8x1x1, .f32⟩
  | 15 => ⟨S8x1x1, .f32⟩
  | 16 => ⟨S8x1x1, .f32⟩
  | 17 => ⟨S_, .f32⟩
  | 18 => ⟨S8x1x1, .f32⟩
  | 19 => ⟨S8x1x1, .f32⟩
  | 20 => ⟨S8x1x1, .f32⟩
  | 21 => ⟨S_, .f32⟩
  | 22 => ⟨S8x1x1, .f32⟩
  | 23 => ⟨S_, .f32⟩
  | 24 => ⟨S8x1x1, .f32⟩
  | 25 => ⟨S8x1x1, .f32⟩
  | 26 => ⟨S8x1x3, .f32⟩
  | 27 => ⟨S8x1x3, .f32⟩
  | 28 => ⟨S8x1x3, .f32⟩
  | 29 => ⟨S8x3x3, .f32⟩
  | 30 => ⟨S8x1x3, .f32⟩
  | 31 => ⟨S8x1x3, .f32⟩
  | 32 => ⟨S8x1x3, .f32⟩
  | 33 => ⟨S8x3x3, .f32⟩
  | 34 => ⟨S8x3x3, .f32⟩
  | 35 => ⟨S8x3x3, .f32⟩
  | 36 => ⟨S8x3x3, .f32⟩
  | 37 => ⟨S8x3x3, .f32⟩
  | 38 => ⟨S8x1x1, .f32⟩
  | 39 => ⟨S8x1x1, .f32⟩
  | 40 => ⟨S8x1x1, .f32⟩
  | 41 => ⟨S8x1x1, .f32⟩
  | 42 => ⟨S_, .f32⟩
  | 43 => ⟨S8x1x1, .f32⟩
  | 44 => ⟨S8x1x1, .i1⟩
  | 45 => ⟨S8x1x1, .f32⟩
  | 46 => ⟨S_, .f32⟩
  | 47 => ⟨S_, .f32⟩
  | 48 => ⟨S8x1x1, .f32⟩
  | 49 => ⟨S8x1x1, .f32⟩
  | 50 => ⟨S_, .f32⟩
  | 51 => ⟨S8x1x1, .f32⟩
  | 52 => ⟨S8x1x1, .f32⟩
  | 53 => ⟨S8x1x1, .f32⟩
  | 54 => ⟨S_, .f32⟩
  | 55 => ⟨S8x1x1, .f32⟩
  | 56 => ⟨S8x1x1, .i1⟩
  | 57 => ⟨S_, .f32⟩
  | 58 => ⟨S_, .f32⟩
  | 59 => ⟨S8x1x1, .f32⟩
  | 60 => ⟨S8x1x1, .f32⟩
  | 61 => ⟨S8x1x1, .f32⟩
  | 62 => ⟨S8x1x1, .f32⟩
  | 63 => ⟨S8x1x1, .f32⟩
  | 64 => ⟨S_, .f32⟩
  | 65 => ⟨S8x1x1, .f32⟩
  | 66 => ⟨S8x1x1, .f32⟩
  | 67 => ⟨S8x1x1, .f32⟩
  | 68 => ⟨S8x1x1, .f32⟩
  | 69 => ⟨S8x1x1, .f32⟩
  | 70 => ⟨S8x1x1, .f32⟩
  | 71 => ⟨S_, .f32⟩
  | 72 => ⟨S_, .f32⟩
  | 73 => ⟨S8x1x1, .f32⟩
  | 74 => ⟨S8x1x1, .f32⟩
  | 75 => ⟨S8x1x1, .f32⟩
  | 76 => ⟨S_, .f32⟩
  | 77 => ⟨S8x1x1, .f32⟩
  | 78 => ⟨S8x1x1, .f32⟩
  | 79 => ⟨S8x1x1, .f32⟩
  | 80 => ⟨S_, .f32⟩
  | 81 => ⟨S8x1x1, .f32⟩
  | 82 => ⟨S8x1x1, .f32⟩
  | 83 => ⟨S8x1x1, .f32⟩
  | 84 => ⟨S_, .f32⟩
  | 85 => ⟨S8x1x1, .f32⟩
  | 86 => ⟨S_, .f32⟩
  | 87 => ⟨S8x1x1, .f32⟩
  | 88 => ⟨S8x1x1, .f32⟩
  | 89 => ⟨S8x1x3, .f32⟩
  | 90 => ⟨S8x1x3, .f32⟩
  | 91 => ⟨S8x1x3, .f32⟩
  | 92 => ⟨S8x3x3, .f32⟩
  | 93 => ⟨S8x1x3, .f32⟩
  | 94 => ⟨S8x1x3, .f32⟩
  | 95 => ⟨S8x1x3, .f32⟩
  | 96 => ⟨S8x3x3, .f32⟩
  | 97 => ⟨S8x3x3, .f32⟩
  | 98 => ⟨S8x3x3, .f32⟩
  | 99 => ⟨S8x3x3, .f32⟩
  | 100 => ⟨S8x3x3, .f32⟩
  | 101 => ⟨S8x1x1, .f32⟩
  | 102 => ⟨S8x1x1, .f32⟩
  | 103 => ⟨S8x1x1, .f32⟩
  | 104 => ⟨S8x1x1, .f32⟩
  | 105 => ⟨S_, .f32⟩
  | 106 => ⟨S8x1x1, .f32⟩
  | 107 => ⟨S8x1x1, .i1⟩
  | 108 => ⟨S8x1x1, .f32⟩
  | 109 => ⟨S_, .f32⟩
  | 110 => ⟨S_, .f32⟩
  | 111 => ⟨S8x1x1, .f32⟩
  | 112 => ⟨S8x1x1, .f32⟩
  | 113 => ⟨S_, .f32⟩
  | 114 => ⟨S8x1x1, .f32⟩
  | 115 => ⟨S8x1x1, .f32⟩
  | 116 => ⟨S8x1x1, .f32⟩
  | 117 => ⟨S_, .f32⟩
  | 118 => ⟨S8x1x1, .f32⟩
  | 119 => ⟨S8x1x1, .i1⟩
  | 120 => ⟨S_, .f32⟩
  | 121 => ⟨S_, .f32⟩
  | 122 => ⟨S8x1x1, .f32⟩
  | 123 => ⟨S8x1x1, .f32⟩
  | 124 => ⟨S8x1x1, .f32⟩
  | 125 => ⟨S8x1x1, .f32⟩
  | 126 => ⟨S8x1x1, .f32⟩
  | 127 => ⟨S_, .f32⟩
  | _ => ⟨S8x512x3, .f32⟩

abbrev hbmTy0_6 (i : Nat) : BufTy := match i % 128 with
  | 0 => ⟨S8x1x1, .f32⟩
  | 1 => ⟨S8x1x1, .f32⟩
  | 2 => ⟨S8x1x1, .f32⟩
  | 3 => ⟨S8x1x1, .f32⟩
  | 4 => ⟨S8x1x1, .f32⟩
  | 5 => ⟨S8x1x1, .f32⟩
  | 6 => ⟨S_, .f32⟩
  | 7 => ⟨S_, .f32⟩
  | 8 => ⟨S8x1x1, .f32⟩
  | 9 => ⟨S8x1x1, .f32⟩
  | 10 => ⟨S8x1x1, .f32⟩
  | 11 => ⟨S_, .f32⟩
  | 12 => ⟨S8x1x1, .f32⟩
  | 13 => ⟨S8x1x1, .f32⟩
  | 14 => ⟨S8x1x1, .f32⟩
  | 15 => ⟨S_, .f32⟩
  | 16 => ⟨S8x1x1, .f32⟩
  | 17 => ⟨S8x1x1, .f32⟩
  | 18 => ⟨S8x1x1, .f32⟩
  | 19 => ⟨S_, .f32⟩
  | 20 => ⟨S8x1x1, .f32⟩
  | 21 => ⟨S_, .f32⟩
  | 22 => ⟨S8x1x1, .f32⟩
  | 23 => ⟨S8x1x1, .f32⟩
  | 24 => ⟨S8x1x3, .f32⟩
  | 25 => ⟨S8x1x3, .f32⟩
  | 26 => ⟨S8x1x3, .f32⟩
  | 27 => ⟨S8x3x3, .f32⟩
  | 28 => ⟨S8x1x3, .f32⟩
  | 29 => ⟨S8x1x3, .f32⟩
  | 30 => ⟨S8x1x3, .f32⟩
  | 31 => ⟨S8x3x3, .f32⟩
  | 32 => ⟨S8x3x3, .f32⟩
  | 33 => ⟨S8x3x3, .f32⟩
  | 34 => ⟨S8x3x3, .f32⟩
  | 35 => ⟨S8x3x3, .f32⟩
  | 36 => ⟨S8x1x1, .f32⟩
  | 37 => ⟨S8x1x1, .f32⟩
  | 38 => ⟨S8x1x1, .f32⟩
  | 39 => ⟨S8x1x1, .f32⟩
  | 40 => ⟨S_, .f32⟩
  | 41 => ⟨S8x1x1, .f32⟩
  | 42 => ⟨S8x1x1, .i1⟩
  | 43 => ⟨S8x1x1, .f32⟩
  | 44 => ⟨S_, .f32⟩
  | 45 => ⟨S_, .f32⟩
  | 46 => ⟨S8x1x1, .f32⟩
  | 47 => ⟨S8x1x1, .f32⟩
  | 48 => ⟨S_, .f32⟩
  | 49 => ⟨S8x1x1, .f32⟩
  | 50 => ⟨S8x1x1, .f32⟩
  | 51 => ⟨S8x1x1, .f32⟩
  | 52 => ⟨S_, .f32⟩
  | 53 => ⟨S8x1x1, .f32⟩
  | 54 => ⟨S8x1x1, .i1⟩
  | 55 => ⟨S_, .f32⟩
  | 56 => ⟨S_, .f32⟩
  | 57 => ⟨S8x1x1, .f32⟩
  | 58 => ⟨S8x1x1, .f32⟩
  | 59 => ⟨S8x1x1, .f32⟩
  | 60 => ⟨S8x1x1, .f32⟩
  | 61 => ⟨S8x1x1, .f32⟩
  | 62 => ⟨S_, .f32⟩
  | 63 => ⟨S8x1x1, .f32⟩
  | 64 => ⟨S8x1x1, .f32⟩
  | 65 => ⟨S8x1x1, .f32⟩
  | 66 => ⟨S8x1x1, .f32⟩
  | 67 => ⟨S8x1x1, .f32⟩
  | 68 => ⟨S8x1x1, .f32⟩
  | 69 => ⟨S_, .f32⟩
  | 70 => ⟨S_, .f32⟩
  | 71 => ⟨S8x1x1, .f32⟩
  | 72 => ⟨S8x1x1, .f32⟩
  | 73 => ⟨S8x1x1, .f32⟩
  | 74 => ⟨S_, .f32⟩
  | 75 => ⟨S8x1x1, .f32⟩
  | 76 => ⟨S8x1x1, .f32⟩
  | 77 => ⟨S8x1x1, .f32⟩
  | 78 => ⟨S_, .f32⟩
  | 79 => ⟨S8x1x1, .f32⟩
  | 80 => ⟨S8x1x1, .f32⟩
  | 81 => ⟨S8x1x1, .f32⟩
  | 82 => ⟨S_, .f32⟩
  | 83 => ⟨S8x1x1, .f32⟩
  | 84 => ⟨S_, .f32⟩
  | 85 => ⟨S8x1x1, .f32⟩
  | 86 => ⟨S8x1x1, .f32⟩
  | 87 => ⟨S8x1x3, .f32⟩
  | 88 => ⟨S8x1x3, .f32⟩
  | 89 => ⟨S8x1x3, .f32⟩
  | 90 => ⟨S8x3x3, .f32⟩
  | 91 => ⟨S8x1x3, .f32⟩
  | 92 => ⟨S8x1x3, .f32⟩
  | 93 => ⟨S8x1x3, .f32⟩
  | 94 => ⟨S8x3x3, .f32⟩
  | 95 => ⟨S8x3x3, .f32⟩
  | 96 => ⟨S8x3x3, .f32⟩
  | 97 => ⟨S8x3x3, .f32⟩
  | 98 => ⟨S8x3x3, .f32⟩
  | 99 => ⟨S8x1x1, .f32⟩
  | 100 => ⟨S8x1x1, .f32⟩
  | 101 => ⟨S8x1x1, .f32⟩
  | 102 => ⟨S8x1x1, .f32⟩
  | 103 => ⟨S_, .f32⟩
  | 104 => ⟨S8x1x1, .f32⟩
  | 105 => ⟨S8x1x1, .i1⟩
  | 106 => ⟨S8x1x1, .f32⟩
  | 107 => ⟨S_, .f32⟩
  | 108 => ⟨S_, .f32⟩
  | 109 => ⟨S8x1x1, .f32⟩
  | 110 => ⟨S8x1x1, .f32⟩
  | 111 => ⟨S_, .f32⟩
  | 112 => ⟨S8x1x1, .f32⟩
  | 113 => ⟨S8x1x1, .f32⟩
  | 114 => ⟨S8x1x1, .f32⟩
  | 115 => ⟨S_, .f32⟩
  | 116 => ⟨S8x1x1, .f32⟩
  | 117 => ⟨S8x1x1, .i1⟩
  | 118 => ⟨S_, .f32⟩
  | 119 => ⟨S_, .f32⟩
  | 120 => ⟨S8x1x1, .f32⟩
  | 121 => ⟨S8x1x1, .f32⟩
  | 122 => ⟨S8x1x1, .f32⟩
  | 123 => ⟨S8x1x1, .f32⟩
  | 124 => ⟨S8x1x1, .f32⟩
  | 125 => ⟨S_, .f32⟩
  | 126 => ⟨S8x1x1, .f32⟩
  | 127 => ⟨S8x1x1, .f32⟩
  | _ => ⟨S8x512x3, .f32⟩

abbrev hbmTy0_7 (i : Nat) : BufTy := match i % 128 with
  | 0 => ⟨S8x1x1, .f32⟩
  | 1 => ⟨S8x1x1, .f32⟩
  | 2 => ⟨S8x1x1, .f32⟩
  | 3 => ⟨S8x1x1, .f32⟩
  | 4 => ⟨S_, .f32⟩
  | 5 => ⟨S_, .f32⟩
  | 6 => ⟨S8x1x1, .f32⟩
  | 7 => ⟨S8x1x1, .f32⟩
  | 8 => ⟨S8x1x1, .f32⟩
  | 9 => ⟨S_, .f32⟩
  | 10 => ⟨S8x1x1, .f32⟩
  | 11 => ⟨S8x1x1, .f32⟩
  | 12 => ⟨S8x1x1, .f32⟩
  | 13 => ⟨S_, .f32⟩
  | 14 => ⟨S8x1x1, .f32⟩
  | 15 => ⟨S8x1x1, .f32⟩
  | 16 => ⟨S8x1x1, .f32⟩
  | 17 => ⟨S_, .f32⟩
  | 18 => ⟨S8x1x1, .f32⟩
  | 19 => ⟨S_, .f32⟩
  | 20 => ⟨S8x1x1, .f32⟩
  | 21 => ⟨S8x1x1, .f32⟩
  | 22 => ⟨S8x1x3, .f32⟩
  | 23 => ⟨S8x1x3, .f32⟩
  | 24 => ⟨S8x1x3, .f32⟩
  | 25 => ⟨S8x3x3, .f32⟩
  | 26 => ⟨S8x1x3, .f32⟩
  | 27 => ⟨S8x1x3, .f32⟩
  | 28 => ⟨S8x1x3, .f32⟩
  | 29 => ⟨S8x3x3, .f32⟩
  | 30 => ⟨S8x3x3, .f32⟩
  | 31 => ⟨S8x3x3, .f32⟩
  | 32 => ⟨S8x3x3, .f32⟩
  | 33 => ⟨S8x3x3, .f32⟩
  | 34 => ⟨S8x1x1, .f32⟩
  | 35 => ⟨S8x1x1, .f32⟩
  | 36 => ⟨S8x1x1, .f32⟩
  | 37 => ⟨S8x1x1, .f32⟩
  | 38 => ⟨S_, .f32⟩
  | 39 => ⟨S8x1x1, .f32⟩
  | 40 => ⟨S8x1x1, .i1⟩
  | 41 => ⟨S8x1x1, .f32⟩
  | 42 => ⟨S_, .f32⟩
  | 43 => ⟨S_, .f32⟩
  | 44 => ⟨S8x1x1, .f32⟩
  | 45 => ⟨S8x1x1, .f32⟩
  | 46 => ⟨S_, .f32⟩
  | 47 => ⟨S8x1x1, .f32⟩
  | 48 => ⟨S8x1x1, .f32⟩
  | 49 => ⟨S8x1x1, .f32⟩
  | 50 => ⟨S_, .f32⟩
  | 51 => ⟨S8x1x1, .f32⟩
  | 52 => ⟨S8x1x1, .i1⟩
  | 53 => ⟨S_, .f32⟩
  | 54 => ⟨S_, .f32⟩
  | 55 => ⟨S8x1x1, .f32⟩
  | 56 => ⟨S8x1x1, .f32⟩
  | 57 => ⟨S8x1x1, .f32⟩
  | 58 => ⟨S8x1x1, .f32⟩
  | 59 => ⟨S8x1x1, .f32⟩
  | 60 => ⟨S_, .f32⟩
  | 61 => ⟨S8x1x1, .f32⟩
  | 62 => ⟨S8x1x1, .f32⟩
  | 63 => ⟨S8x1x1, .f32⟩
  | 64 => ⟨S8x1x1, .f32⟩
  | 65 => ⟨S8x1x1, .f32⟩
  | 66 => ⟨S8x1x1, .f32⟩
  | 67 => ⟨S_, .f32⟩
  | 68 => ⟨S_, .f32⟩
  | 69 => ⟨S8x1x1, .f32⟩
  | 70 => ⟨S8x1x1, .f32⟩
  | 71 => ⟨S8x1x1, .f32⟩
  | 72 => ⟨S_, .f32⟩
  | 73 => ⟨S8x1x1, .f32⟩
  | 74 => ⟨S8x1x1, .f32⟩
  | 75 => ⟨S8x1x1, .f32⟩
  | 76 => ⟨S_, .f32⟩
  | 77 => ⟨S8x1x1, .f32⟩
  | 78 => ⟨S8x1x1, .f32⟩
  | 79 => ⟨S8x1x1, .f32⟩
  | 80 => ⟨S_, .f32⟩
  | 81 => ⟨S8x1x1, .f32⟩
  | 82 => ⟨S_, .f32⟩
  | 83 => ⟨S8x1x1, .f32⟩
  | 84 => ⟨S8x1x1, .f32⟩
  | 85 => ⟨S8x1x3, .f32⟩
  | 86 => ⟨S8x1x3, .f32⟩
  | 87 => ⟨S8x1x3, .f32⟩
  | 88 => ⟨S8x3x3, .f32⟩
  | 89 => ⟨S8x1x3, .f32⟩
  | 90 => ⟨S8x1x3, .f32⟩
  | 91 => ⟨S8x1x3, .f32⟩
  | 92 => ⟨S8x3x3, .f32⟩
  | 93 => ⟨S8x3x3, .f32⟩
  | 94 => ⟨S8x3x3, .f32⟩
  | 95 => ⟨S8x3x3, .f32⟩
  | 96 => ⟨S8x3x3, .f32⟩
  | 97 => ⟨S8x1x1, .f32⟩
  | 98 => ⟨S8x1x1, .f32⟩
  | 99 => ⟨S8x1x1, .f32⟩
  | 100 => ⟨S8x1x1, .f32⟩
  | 101 => ⟨S_, .f32⟩
  | 102 => ⟨S8x1x1, .f32⟩
  | 103 => ⟨S8x1x1, .i1⟩
  | 104 => ⟨S8x1x1, .f32⟩
  | 105 => ⟨S_, .f32⟩
  | 106 => ⟨S_, .f32⟩
  | 107 => ⟨S8x1x1, .f32⟩
  | 108 => ⟨S8x1x1, .f32⟩
  | 109 => ⟨S_, .f32⟩
  | 110 => ⟨S8x1x1, .f32⟩
  | 111 => ⟨S8x1x1, .f32⟩
  | 112 => ⟨S8x1x1, .f32⟩
  | 113 => ⟨S_, .f32⟩
  | 114 => ⟨S8x1x1, .f32⟩
  | 115 => ⟨S8x1x1, .i1⟩
  | 116 => ⟨S_, .f32⟩
  | 117 => ⟨S_, .f32⟩
  | 118 => ⟨S8x1x1, .f32⟩
  | 119 => ⟨S8x1x1, .f32⟩
  | 120 => ⟨S8x1x1, .f32⟩
  | 121 => ⟨S8x1x1, .f32⟩
  | 122 => ⟨S8x1x1, .f32⟩
  | 123 => ⟨S_, .f32⟩
  | 124 => ⟨S8x1x1, .f32⟩
  | 125 => ⟨S8x1x1, .f32⟩
  | 126 => ⟨S8x1x1, .f32⟩
  | 127 => ⟨S8x1x1, .f32⟩
  | _ => ⟨S8x512x3, .f32⟩

abbrev hbmTy0_8 (i : Nat) : BufTy := match i % 128 with
  | 0 => ⟨S8x1x1, .f32⟩
  | 1 => ⟨S8x1x1, .f32⟩
  | 2 => ⟨S_, .f32⟩
  | 3 => ⟨S_, .f32⟩
  | 4 => ⟨S8x1x1, .f32⟩
  | 5 => ⟨S8x1x1, .f32⟩
  | 6 => ⟨S8x1x1, .f32⟩
  | 7 => ⟨S_, .f32⟩
  | 8 => ⟨S8x1x1, .f32⟩
  | 9 => ⟨S8x1x1, .f32⟩
  | 10 => ⟨S8x1x1, .f32⟩
  | 11 => ⟨S_, .f32⟩
  | 12 => ⟨S8x1x1, .f32⟩
  | 13 => ⟨S8x1x1, .f32⟩
  | 14 => ⟨S8x1x1, .f32⟩
  | 15 => ⟨S_, .f32⟩
  | 16 => ⟨S8x1x1, .f32⟩
  | 17 => ⟨S_, .f32⟩
  | 18 => ⟨S8x1x1, .f32⟩
  | 19 => ⟨S8x1x1, .f32⟩
  | 20 => ⟨S8x1x3, .f32⟩
  | 21 => ⟨S8x1x3, .f32⟩
  | 22 => ⟨S8x1x3, .f32⟩
  | 23 => ⟨S8x3x3, .f32⟩
  | 24 => ⟨S8x1x3, .f32⟩
  | 25 => ⟨S8x1x3, .f32⟩
  | 26 => ⟨S8x1x3, .f32⟩
  | 27 => ⟨S8x3x3, .f32⟩
  | 28 => ⟨S8x3x3, .f32⟩
  | 29 => ⟨S8x3x3, .f32⟩
  | 30 => ⟨S8x3x3, .f32⟩
  | 31 => ⟨S8x3x3, .f32⟩
  | 32 => ⟨S3, .i32⟩
  | 33 => ⟨S3, .i32⟩
  | 34 => ⟨S_, .i32⟩
  | 35 => ⟨S3, .i32⟩
  | 36 => ⟨S3, .i1⟩
  | 37 => ⟨S_, .i32⟩
  | 38 => ⟨S3, .i32⟩
  | 39 => ⟨S3, .i32⟩
  | 40 => ⟨S3, .i32⟩
  | 41 => ⟨S_, .i32⟩
  | 42 => ⟨S3, .i32⟩
  | 43 => ⟨S3, .i1⟩
  | 44 => ⟨S_, .i32⟩
  | 45 => ⟨S3, .i32⟩
  | 46 => ⟨S3, .i32⟩
  | 47 => ⟨S3, .i32⟩
  | 48 => ⟨S3x1, .i32⟩
  | 49 => ⟨S3x1, .i32⟩
  | 50 => ⟨S3x2, .i32⟩
  | 51 => ⟨S8x3, .f32⟩
  | 52 => ⟨S_, .f32⟩
  | 53 => ⟨S8x3, .f32⟩
  | 54 => ⟨S8x3, .f32⟩
  | 55 => ⟨S8x3, .f32⟩
  | 56 => ⟨S8x3x3, .f32⟩
  | 57 => ⟨S8x1x3, .f32⟩
  | 58 => ⟨S8x3x3, .f32⟩
  | 59 => ⟨S8x3x3, .f32⟩
  | 60 => ⟨S8x3x3, .f32⟩
  | 61 => ⟨S8x1x1, .f32⟩
  | 62 => ⟨S8, .f32⟩
  | 63 => ⟨S8x1x1, .f32⟩
  | 64 => ⟨S8, .f32⟩
  | 65 => ⟨S8x1x1, .f32⟩
  | 66 => ⟨S8, .f32⟩
  | 67 => ⟨S8, .f32⟩
  | 68 => ⟨S8x1x1, .f32⟩
  | 69 => ⟨S8, .f32⟩
  | 70 => ⟨S8x1x1, .f32⟩
  | 71 => ⟨S8, .f32⟩
  | 72 => ⟨S8, .f32⟩
  | 73 => ⟨S8, .f32⟩
  | 74 => ⟨S8, .f32⟩
  | 75 => ⟨S8x1x1, .f32⟩
  | 76 => ⟨S8, .f32⟩
  | 77 => ⟨S8x1x1, .f32⟩
  | 78 => ⟨S8, .f32⟩
  | 79 => ⟨S8x1x1, .f32⟩
  | 80 => ⟨S8, .f32⟩
  | 81 => ⟨S8, .f32⟩
  | 82 => ⟨S8x1x1, .f32⟩
  | 83 => ⟨S8, .f32⟩
  | 84 => ⟨S8x1x1, .f32⟩
  | 85 => ⟨S8, .f32⟩
  | 86 => ⟨S8, .f32⟩
  | 87 => ⟨S8, .f32⟩
  | 88 => ⟨S8, .f32⟩
  | 89 => ⟨S8, .f32⟩
  | 90 => ⟨S8x1x1, .f32⟩
  | 91 => ⟨S8, .f32⟩
  | 92 => ⟨S8x1x1, .f32⟩
  | 93 => ⟨S8, .f32⟩
  | 94 => ⟨S8x1x1, .f32⟩
  | 95 => ⟨S8, .f32⟩
  | 96 => ⟨S8, .f32⟩
  | 97 => ⟨S8x1x1, .f32⟩
  | 98 => ⟨S8, .f32⟩
  | 99 => ⟨S8x1x1, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8x3, .f32⟩
  | 107 => ⟨S8x1, .f32⟩
  | 108 => ⟨S8x1, .i32⟩
  | 109 => ⟨S3, .i32⟩
  | 110 => ⟨S1x3, .i32⟩
  | 111 => ⟨S8x3, .i32⟩
  | 112 => ⟨S8x3, .i32⟩
  | 113 => ⟨S8x3, .i1⟩
  | 114 => ⟨S8x1, .f32⟩
  | 115 => ⟨S_, .f32⟩
  | 116 => ⟨S_, .f32⟩
  | 117 => ⟨S8x3, .f32⟩
  | 118 => ⟨S8x3, .f32⟩
  | 119 => ⟨S8x3, .f32⟩
  | 120 => ⟨S8x1x3, .f32⟩
  | 121 => ⟨S8x3x3, .f32⟩
  | 122 => ⟨S8x3x3, .f32⟩
  | 123 => ⟨S8x3x3, .f32⟩
  | 124 => ⟨S8x3, .f32⟩
  | 125 => ⟨S8x3, .f32⟩
  | 126 => ⟨S4x4, .i32⟩
  | 127 => ⟨S4x4, .i32⟩
  | _ => ⟨S8x512x3, .f32⟩

abbrev hbmTy0_9 (i : Nat) : BufTy := match i % 128 with
  | 0 => ⟨S_, .i32⟩
  | 1 => ⟨S4x4, .i32⟩
  | 2 => ⟨S4x4, .i32⟩
  | 3 => ⟨S4x4, .i1⟩
  | 4 => ⟨S4x4, .f32⟩
  | 5 => ⟨S1x4, .f32⟩
  | 6 => ⟨S8x1x4, .f32⟩
  | 7 => ⟨S8x3x1, .f32⟩
  | 8 => ⟨S8x3x4, .f32⟩
  | 9 => ⟨S8x4x4, .f32⟩
  | 10 => ⟨S8x4x4, .f32⟩
  | 11 => ⟨S_, .i32⟩
  | 12 => ⟨S_, .i32⟩
  | _ => ⟨S8x512x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S8x512x3, .f32⟩

abbrev bufTy : (tb : Table) → Fin (tcTables nBuf tb) → BufTy
  | .hbm, ⟨i, _⟩ => hbmTy i
  | _, _ => ⟨S8x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_c : Ref sig .tc := ⟨.hbm, 14, rfl⟩
abbrev main_c_2 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_while0c_c_8 : Ref sig .tc := ⟨.hbm, 22, rfl⟩
abbrev main_while0c_v8 : Ref sig .tc := ⟨.hbm, 23, rfl⟩
abbrev main_while0b_c_8 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_cst_9 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_cst_10 : Ref sig .tc := ⟨.hbm, 42, rfl⟩
abbrev main_while0b_v24 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_values : Ref sig .tc := ⟨.hbm, 47, rfl⟩
abbrev main_while0b_indices : Ref sig .tc := ⟨.hbm, 48, rfl⟩
abbrev main_while0b_v28 : Ref sig .tc := ⟨.hbm, 49, rfl⟩
abbrev main_while0b_call0_v0 : Ref sig .tc := ⟨.hbm, 50, rfl⟩
abbrev main_while0b_v29 : Ref sig .tc := ⟨.hbm, 51, rfl⟩
abbrev main_while0b_v30 : Ref sig .tc := ⟨.hbm, 52, rfl⟩
abbrev main_while0b_v31 : Ref sig .tc := ⟨.hbm, 53, rfl⟩
abbrev main_while0b_cst_11 : Ref sig .tc := ⟨.hbm, 54, rfl⟩
abbrev main_while0b_v32 : Ref sig .tc := ⟨.hbm, 55, rfl⟩
abbrev main_while0b_cst_12 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_cst_13 : Ref sig .tc := ⟨.hbm, 60, rfl⟩
abbrev main_while0b_v36 : Ref sig .tc := ⟨.hbm, 61, rfl⟩
abbrev main_while0b_v37 : Ref sig .tc := ⟨.hbm, 62, rfl⟩
abbrev main_while0b_v38 : Ref sig .tc := ⟨.hbm, 63, rfl⟩
abbrev main_while0b_cst_14 : Ref sig .tc := ⟨.hbm, 64, rfl⟩
abbrev main_while0b_v39 : Ref sig .tc := ⟨.hbm, 65, rfl⟩
abbrev main_while0b_v40 : Ref sig .tc := ⟨.hbm, 66, rfl⟩
abbrev main_while0b_cst_15 : Ref sig .tc := ⟨.hbm, 67, rfl⟩
abbrev main_while0b_v41 : Ref sig .tc := ⟨.hbm, 68, rfl⟩
abbrev main_while0b_v42 : Ref sig .tc := ⟨.hbm, 69, rfl⟩
abbrev main_while0b_cst_16 : Ref sig .tc := ⟨.hbm, 70, rfl⟩
abbrev main_while0b_call1_v0 : Ref sig .tc := ⟨.hbm, 71, rfl⟩
abbrev main_while0b_call1_v1 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_cst_17 : Ref sig .tc := ⟨.hbm, 76, rfl⟩
abbrev main_while0b_v46 : Ref sig .tc := ⟨.hbm, 77, rfl⟩
abbrev main_while0b_cst_18 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_cst_19 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_cst_20 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_c_21 : Ref sig .tc := ⟨.hbm, 105, rfl⟩
abbrev main_while0b_v71 : Ref sig .tc := ⟨.hbm, 106, rfl⟩
abbrev main_while0b_v72 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_cst_22 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_cst_23 : Ref sig .tc := ⟨.hbm, 119, rfl⟩
abbrev main_while0b_call2_v0 : Ref sig .tc := ⟨.hbm, 120, rfl⟩
abbrev main_while0b_call2_v1 : Ref sig .tc := ⟨.hbm, 121, rfl⟩
abbrev main_while0b_v83 : Ref sig .tc := ⟨.hbm, 122, rfl⟩
abbrev main_while0b_cst_24 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_cst_25 : Ref sig .tc := ⟨.hbm, 127, rfl⟩
abbrev main_while0b_v87 : Ref sig .tc := ⟨.hbm, 128, rfl⟩
abbrev main_while0b_v88 : Ref sig .tc := ⟨.hbm, 129, rfl⟩
abbrev main_while0b_cst_26 : Ref sig .tc := ⟨.hbm, 130, rfl⟩
abbrev main_while0b_cst_27 : Ref sig .tc := ⟨.hbm, 131, rfl⟩
abbrev main_while0b_call3_v0 : Ref sig .tc := ⟨.hbm, 132, rfl⟩
abbrev main_while0b_call3_v1 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_cst_28 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_cst_29 : Ref sig .tc := ⟨.hbm, 144, rfl⟩
abbrev main_while0b_call4_v0 : Ref sig .tc := ⟨.hbm, 145, rfl⟩
abbrev main_while0b_call4_v1 : Ref sig .tc := ⟨.hbm, 146, rfl⟩
abbrev main_while0b_v98 : Ref sig .tc := ⟨.hbm, 147, rfl⟩
abbrev main_while0b_v99 : Ref sig .tc := ⟨.hbm, 148, rfl⟩
abbrev main_while0b_cst_30 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_cst_31 : Ref sig .tc := ⟨.hbm, 153, rfl⟩
abbrev main_while0b_v103 : Ref sig .tc := ⟨.hbm, 154, rfl⟩
abbrev main_while0b_v104 : Ref sig .tc := ⟨.hbm, 155, rfl⟩
abbrev main_while0b_v105 : Ref sig .tc := ⟨.hbm, 156, rfl⟩
abbrev main_while0b_cst_32 : Ref sig .tc := ⟨.hbm, 157, rfl⟩
abbrev main_while0b_v106 : Ref sig .tc := ⟨.hbm, 158, rfl⟩
abbrev main_while0b_cst_33 : Ref sig .tc := ⟨.hbm, 159, rfl⟩
abbrev main_while0b_v107 : Ref sig .tc := ⟨.hbm, 160, rfl⟩
abbrev main_while0b_v108 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_v120 : Ref sig .tc := ⟨.hbm, 173, rfl⟩
abbrev main_while0b_v121 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_cst_34 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_cst_35 : Ref sig .tc := ⟨.hbm, 182, rfl⟩
abbrev main_while0b_call5_v0 : Ref sig .tc := ⟨.hbm, 183, rfl⟩
abbrev main_while0b_call5_v1 : Ref sig .tc := ⟨.hbm, 184, rfl⟩
abbrev main_while0b_v128 : Ref sig .tc := ⟨.hbm, 185, rfl⟩
abbrev main_while0b_cst_36 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_cst_37 : Ref sig .tc := ⟨.hbm, 190, rfl⟩
abbrev main_while0b_v132 : Ref sig .tc := ⟨.hbm, 191, rfl⟩
abbrev main_while0b_v133 : Ref sig .tc := ⟨.hbm, 192, rfl⟩
abbrev main_while0b_cst_38 : Ref sig .tc := ⟨.hbm, 193, rfl⟩
abbrev main_while0b_cst_39 : Ref sig .tc := ⟨.hbm, 194, rfl⟩
abbrev main_while0b_call6_v0 : Ref sig .tc := ⟨.hbm, 195, rfl⟩
abbrev main_while0b_call6_v1 : Ref sig .tc := ⟨.hbm, 196, rfl⟩
abbrev main_while0b_v134 : Ref sig .tc := ⟨.hbm, 197, rfl⟩
abbrev main_while0b_v135 : Ref sig .tc := ⟨.hbm, 198, rfl⟩
abbrev main_while0b_v136 : Ref sig .tc := ⟨.hbm, 199, rfl⟩
abbrev main_while0b_cst_40 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_v142 : Ref sig .tc := ⟨.hbm, 206, rfl⟩
abbrev main_while0b_cst_41 : Ref sig .tc := ⟨.hbm, 207, rfl⟩
abbrev main_while0b_call7_v0 : Ref sig .tc := ⟨.hbm, 208, rfl⟩
abbrev main_while0b_call7_v1 : Ref sig .tc := ⟨.hbm, 209, rfl⟩
abbrev main_while0b_v143 : Ref sig .tc := ⟨.hbm, 210, rfl⟩
abbrev main_while0b_v144 : Ref sig .tc := ⟨.hbm, 211, rfl⟩
abbrev main_while0b_cst_42 : Ref sig .tc := ⟨.hbm, 212, rfl⟩
abbrev main_while0b_v145 : Ref sig .tc := ⟨.hbm, 213, rfl⟩
abbrev main_while0b_v146 : Ref sig .tc := ⟨.hbm, 214, rfl⟩
abbrev main_while0b_v147 : Ref sig .tc := ⟨.hbm, 215, rfl⟩
abbrev main_while0b_cst_43 : Ref sig .tc := ⟨.hbm, 216, rfl⟩
abbrev main_while0b_v148 : Ref sig .tc := ⟨.hbm, 217, rfl⟩
abbrev main_while0b_v149 : Ref sig .tc := ⟨.hbm, 218, rfl⟩
abbrev main_while0b_v150 : Ref sig .tc := ⟨.hbm, 219, rfl⟩
abbrev main_while0b_cst_44 : Ref sig .tc := ⟨.hbm, 220, rfl⟩
abbrev main_while0b_v151 : Ref sig .tc := ⟨.hbm, 221, rfl⟩
abbrev main_while0b_cst_45 : Ref sig .tc := ⟨.hbm, 222, rfl⟩
abbrev main_while0b_v152 : Ref sig .tc := ⟨.hbm, 223, rfl⟩
abbrev main_while0b_v153 : Ref sig .tc := ⟨.hbm, 224, rfl⟩
abbrev main_while0b_v154 : Ref sig .tc := ⟨.hbm, 225, rfl⟩
abbrev main_while0b_v155 : Ref sig .tc := ⟨.hbm, 226, rfl⟩
abbrev main_while0b_v156 : Ref sig .tc := ⟨.hbm, 227, rfl⟩
abbrev main_while0b_v157 : Ref sig .tc := ⟨.hbm, 228, rfl⟩
abbrev main_while0b_v158 : Ref sig .tc := ⟨.hbm, 229, rfl⟩
abbrev main_while0b_v159 : Ref sig .tc := ⟨.hbm, 230, rfl⟩
abbrev main_while0b_v160 : Ref sig .tc := ⟨.hbm, 231, rfl⟩
abbrev main_while0b_v161 : Ref sig .tc := ⟨.hbm, 232, rfl⟩
abbrev main_while0b_v162 : Ref sig .tc := ⟨.hbm, 233, rfl⟩
abbrev main_while0b_v163 : Ref sig .tc := ⟨.hbm, 234, rfl⟩
abbrev main_while0b_v164 : Ref sig .tc := ⟨.hbm, 235, rfl⟩
abbrev main_while0b_v165 : Ref sig .tc := ⟨.hbm, 236, rfl⟩
abbrev main_while0b_v166 : Ref sig .tc := ⟨.hbm, 237, rfl⟩
abbrev main_while0b_v167 : Ref sig .tc := ⟨.hbm, 238, rfl⟩
abbrev main_while0b_v168 : Ref sig .tc := ⟨.hbm, 239, rfl⟩
abbrev main_while0b_v169 : Ref sig .tc := ⟨.hbm, 240, rfl⟩
abbrev main_while0b_cst_46 : Ref sig .tc := ⟨.hbm, 241, rfl⟩
abbrev main_while0b_v170 : Ref sig .tc := ⟨.hbm, 242, rfl⟩
abbrev main_while0b_v171 : Ref sig .tc := ⟨.hbm, 243, rfl⟩
abbrev main_while0b_v172 : Ref sig .tc := ⟨.hbm, 244, rfl⟩
abbrev main_while0b_cst_47 : Ref sig .tc := ⟨.hbm, 245, rfl⟩
abbrev main_while0b_call8_v0 : Ref sig .tc := ⟨.hbm, 246, rfl⟩
abbrev main_while0b_call8_v1 : Ref sig .tc := ⟨.hbm, 247, rfl⟩
abbrev main_while0b_v173 : Ref sig .tc := ⟨.hbm, 248, rfl⟩
abbrev main_while0b_cst_48 : Ref sig .tc := ⟨.hbm, 249, rfl⟩
abbrev main_while0b_v174 : Ref sig .tc := ⟨.hbm, 250, rfl⟩
abbrev main_while0b_v175 : Ref sig .tc := ⟨.hbm, 251, rfl⟩
abbrev main_while0b_v176 : Ref sig .tc := ⟨.hbm, 252, rfl⟩
abbrev main_while0b_cst_49 : Ref sig .tc := ⟨.hbm, 253, rfl⟩
abbrev main_while0b_v177 : Ref sig .tc := ⟨.hbm, 254, rfl⟩
abbrev main_while0b_v178 : Ref sig .tc := ⟨.hbm, 255, rfl⟩
abbrev main_while0b_cst_50 : Ref sig .tc := ⟨.hbm, 256, rfl⟩
abbrev main_while0b_cst_51 : Ref sig .tc := ⟨.hbm, 257, rfl⟩
abbrev main_while0b_call9_v0 : Ref sig .tc := ⟨.hbm, 258, rfl⟩
abbrev main_while0b_call9_v1 : Ref sig .tc := ⟨.hbm, 259, rfl⟩
abbrev main_while0b_v179 : Ref sig .tc := ⟨.hbm, 260, rfl⟩
abbrev main_while0b_v180 : Ref sig .tc := ⟨.hbm, 261, rfl⟩
abbrev main_while0b_v181 : Ref sig .tc := ⟨.hbm, 262, rfl⟩
abbrev main_while0b_cst_52 : Ref sig .tc := ⟨.hbm, 263, rfl⟩
abbrev main_while0b_v182 : Ref sig .tc := ⟨.hbm, 264, rfl⟩
abbrev main_while0b_v183 : Ref sig .tc := ⟨.hbm, 265, rfl⟩
abbrev main_while0b_v184 : Ref sig .tc := ⟨.hbm, 266, rfl⟩
abbrev main_while0b_v185 : Ref sig .tc := ⟨.hbm, 267, rfl⟩
abbrev main_while0b_v186 : Ref sig .tc := ⟨.hbm, 268, rfl⟩
abbrev main_while0b_v187 : Ref sig .tc := ⟨.hbm, 269, rfl⟩
abbrev main_while0b_cst_53 : Ref sig .tc := ⟨.hbm, 270, rfl⟩
abbrev main_while0b_call10_v0 : Ref sig .tc := ⟨.hbm, 271, rfl⟩
abbrev main_while0b_call10_v1 : Ref sig .tc := ⟨.hbm, 272, rfl⟩
abbrev main_while0b_v188 : Ref sig .tc := ⟨.hbm, 273, rfl⟩
abbrev main_while0b_v189 : Ref sig .tc := ⟨.hbm, 274, rfl⟩
abbrev main_while0b_cst_54 : Ref sig .tc := ⟨.hbm, 275, rfl⟩
abbrev main_while0b_v190 : Ref sig .tc := ⟨.hbm, 276, rfl⟩
abbrev main_while0b_v191 : Ref sig .tc := ⟨.hbm, 277, rfl⟩
abbrev main_while0b_v192 : Ref sig .tc := ⟨.hbm, 278, rfl⟩
abbrev main_while0b_cst_55 : Ref sig .tc := ⟨.hbm, 279, rfl⟩
abbrev main_while0b_v193 : Ref sig .tc := ⟨.hbm, 280, rfl⟩
abbrev main_while0b_v194 : Ref sig .tc := ⟨.hbm, 281, rfl⟩
abbrev main_while0b_v195 : Ref sig .tc := ⟨.hbm, 282, rfl⟩
abbrev main_while0b_cst_56 : Ref sig .tc := ⟨.hbm, 283, rfl⟩
abbrev main_while0b_v196 : Ref sig .tc := ⟨.hbm, 284, rfl⟩
abbrev main_while0b_cst_57 : Ref sig .tc := ⟨.hbm, 285, rfl⟩
abbrev main_while0b_v197 : Ref sig .tc := ⟨.hbm, 286, rfl⟩
abbrev main_while0b_v198 : Ref sig .tc := ⟨.hbm, 287, rfl⟩
abbrev main_while0b_v199 : Ref sig .tc := ⟨.hbm, 288, rfl⟩
abbrev main_while0b_v200 : Ref sig .tc := ⟨.hbm, 289, rfl⟩
abbrev main_while0b_v201 : Ref sig .tc := ⟨.hbm, 290, rfl⟩
abbrev main_while0b_v202 : Ref sig .tc := ⟨.hbm, 291, rfl⟩
abbrev main_while0b_v203 : Ref sig .tc := ⟨.hbm, 292, rfl⟩
abbrev main_while0b_v204 : Ref sig .tc := ⟨.hbm, 293, rfl⟩
abbrev main_while0b_v205 : Ref sig .tc := ⟨.hbm, 294, rfl⟩
abbrev main_while0b_v206 : Ref sig .tc := ⟨.hbm, 295, rfl⟩
abbrev main_while0b_v207 : Ref sig .tc := ⟨.hbm, 296, rfl⟩
abbrev main_while0b_v208 : Ref sig .tc := ⟨.hbm, 297, rfl⟩
abbrev main_while0b_v209 : Ref sig .tc := ⟨.hbm, 298, rfl⟩
abbrev main_while0b_v210 : Ref sig .tc := ⟨.hbm, 299, rfl⟩
abbrev main_while0b_v211 : Ref sig .tc := ⟨.hbm, 300, rfl⟩
abbrev main_while0b_v212 : Ref sig .tc := ⟨.hbm, 301, rfl⟩
abbrev main_while0b_v213 : Ref sig .tc := ⟨.hbm, 302, rfl⟩
abbrev main_while0b_v214 : Ref sig .tc := ⟨.hbm, 303, rfl⟩
abbrev main_while0b_cst_58 : Ref sig .tc := ⟨.hbm, 304, rfl⟩
abbrev main_while0b_v215 : Ref sig .tc := ⟨.hbm, 305, rfl⟩
abbrev main_while0b_v216 : Ref sig .tc := ⟨.hbm, 306, rfl⟩
abbrev main_while0b_v217 : Ref sig .tc := ⟨.hbm, 307, rfl⟩
abbrev main_while0b_cst_59 : Ref sig .tc := ⟨.hbm, 308, rfl⟩
abbrev main_while0b_call11_v0 : Ref sig .tc := ⟨.hbm, 309, rfl⟩
abbrev main_while0b_call11_v1 : Ref sig .tc := ⟨.hbm, 310, rfl⟩
abbrev main_while0b_v218 : Ref sig .tc := ⟨.hbm, 311, rfl⟩
abbrev main_while0b_cst_60 : Ref sig .tc := ⟨.hbm, 312, rfl⟩
abbrev main_while0b_v219 : Ref sig .tc := ⟨.hbm, 313, rfl⟩
abbrev main_while0b_v220 : Ref sig .tc := ⟨.hbm, 314, rfl⟩
abbrev main_while0b_v221 : Ref sig .tc := ⟨.hbm, 315, rfl⟩
abbrev main_while0b_cst_61 : Ref sig .tc := ⟨.hbm, 316, rfl⟩
abbrev main_while0b_v222 : Ref sig .tc := ⟨.hbm, 317, rfl⟩
abbrev main_while0b_v223 : Ref sig .tc := ⟨.hbm, 318, rfl⟩
abbrev main_while0b_cst_62 : Ref sig .tc := ⟨.hbm, 319, rfl⟩
abbrev main_while0b_cst_63 : Ref sig .tc := ⟨.hbm, 320, rfl⟩
abbrev main_while0b_call12_v0 : Ref sig .tc := ⟨.hbm, 321, rfl⟩
abbrev main_while0b_call12_v1 : Ref sig .tc := ⟨.hbm, 322, rfl⟩
abbrev main_while0b_v224 : Ref sig .tc := ⟨.hbm, 323, rfl⟩
abbrev main_while0b_v225 : Ref sig .tc := ⟨.hbm, 324, rfl⟩
abbrev main_while0b_v226 : Ref sig .tc := ⟨.hbm, 325, rfl⟩
abbrev main_while0b_cst_64 : Ref sig .tc := ⟨.hbm, 326, rfl⟩
abbrev main_while0b_v227 : Ref sig .tc := ⟨.hbm, 327, rfl⟩
abbrev main_while0b_v228 : Ref sig .tc := ⟨.hbm, 328, rfl⟩
abbrev main_while0b_v229 : Ref sig .tc := ⟨.hbm, 329, rfl⟩
abbrev main_while0b_v230 : Ref sig .tc := ⟨.hbm, 330, rfl⟩
abbrev main_while0b_v231 : Ref sig .tc := ⟨.hbm, 331, rfl⟩
abbrev main_while0b_v232 : Ref sig .tc := ⟨.hbm, 332, rfl⟩
abbrev main_while0b_cst_65 : Ref sig .tc := ⟨.hbm, 333, rfl⟩
abbrev main_while0b_call13_v0 : Ref sig .tc := ⟨.hbm, 334, rfl⟩
abbrev main_while0b_call13_v1 : Ref sig .tc := ⟨.hbm, 335, rfl⟩
abbrev main_while0b_v233 : Ref sig .tc := ⟨.hbm, 336, rfl⟩
abbrev main_while0b_v234 : Ref sig .tc := ⟨.hbm, 337, rfl⟩
abbrev main_while0b_cst_66 : Ref sig .tc := ⟨.hbm, 338, rfl⟩
abbrev main_while0b_v235 : Ref sig .tc := ⟨.hbm, 339, rfl⟩
abbrev main_while0b_v236 : Ref sig .tc := ⟨.hbm, 340, rfl⟩
abbrev main_while0b_v237 : Ref sig .tc := ⟨.hbm, 341, rfl⟩
abbrev main_while0b_cst_67 : Ref sig .tc := ⟨.hbm, 342, rfl⟩
abbrev main_while0b_v238 : Ref sig .tc := ⟨.hbm, 343, rfl⟩
abbrev main_while0b_v239 : Ref sig .tc := ⟨.hbm, 344, rfl⟩
abbrev main_while0b_v240 : Ref sig .tc := ⟨.hbm, 345, rfl⟩
abbrev main_while0b_cst_68 : Ref sig .tc := ⟨.hbm, 346, rfl⟩
abbrev main_while0b_v241 : Ref sig .tc := ⟨.hbm, 347, rfl⟩
abbrev main_while0b_cst_69 : Ref sig .tc := ⟨.hbm, 348, rfl⟩
abbrev main_while0b_v242 : Ref sig .tc := ⟨.hbm, 349, rfl⟩
abbrev main_while0b_v243 : Ref sig .tc := ⟨.hbm, 350, rfl⟩
abbrev main_while0b_v244 : Ref sig .tc := ⟨.hbm, 351, rfl⟩
abbrev main_while0b_v245 : Ref sig .tc := ⟨.hbm, 352, rfl⟩
abbrev main_while0b_v246 : Ref sig .tc := ⟨.hbm, 353, rfl⟩
abbrev main_while0b_v247 : Ref sig .tc := ⟨.hbm, 354, rfl⟩
abbrev main_while0b_v248 : Ref sig .tc := ⟨.hbm, 355, rfl⟩
abbrev main_while0b_v249 : Ref sig .tc := ⟨.hbm, 356, rfl⟩
abbrev main_while0b_v250 : Ref sig .tc := ⟨.hbm, 357, rfl⟩
abbrev main_while0b_v251 : Ref sig .tc := ⟨.hbm, 358, rfl⟩
abbrev main_while0b_v252 : Ref sig .tc := ⟨.hbm, 359, rfl⟩
abbrev main_while0b_v253 : Ref sig .tc := ⟨.hbm, 360, rfl⟩
abbrev main_while0b_v254 : Ref sig .tc := ⟨.hbm, 361, rfl⟩
abbrev main_while0b_v255 : Ref sig .tc := ⟨.hbm, 362, rfl⟩
abbrev main_while0b_v256 : Ref sig .tc := ⟨.hbm, 363, rfl⟩
abbrev main_while0b_v257 : Ref sig .tc := ⟨.hbm, 364, rfl⟩
abbrev main_while0b_v258 : Ref sig .tc := ⟨.hbm, 365, rfl⟩
abbrev main_while0b_v259 : Ref sig .tc := ⟨.hbm, 366, rfl⟩
abbrev main_while0b_cst_70 : Ref sig .tc := ⟨.hbm, 367, rfl⟩
abbrev main_while0b_v260 : Ref sig .tc := ⟨.hbm, 368, rfl⟩
abbrev main_while0b_v261 : Ref sig .tc := ⟨.hbm, 369, rfl⟩
abbrev main_while0b_v262 : Ref sig .tc := ⟨.hbm, 370, rfl⟩
abbrev main_while0b_cst_71 : Ref sig .tc := ⟨.hbm, 371, rfl⟩
abbrev main_while0b_call14_v0 : Ref sig .tc := ⟨.hbm, 372, rfl⟩
abbrev main_while0b_call14_v1 : Ref sig .tc := ⟨.hbm, 373, rfl⟩
abbrev main_while0b_v263 : Ref sig .tc := ⟨.hbm, 374, rfl⟩
abbrev main_while0b_cst_72 : Ref sig .tc := ⟨.hbm, 375, rfl⟩
abbrev main_while0b_v264 : Ref sig .tc := ⟨.hbm, 376, rfl⟩
abbrev main_while0b_v265 : Ref sig .tc := ⟨.hbm, 377, rfl⟩
abbrev main_while0b_v266 : Ref sig .tc := ⟨.hbm, 378, rfl⟩
abbrev main_while0b_cst_73 : Ref sig .tc := ⟨.hbm, 379, rfl⟩
abbrev main_while0b_v267 : Ref sig .tc := ⟨.hbm, 380, rfl⟩
abbrev main_while0b_v268 : Ref sig .tc := ⟨.hbm, 381, rfl⟩
abbrev main_while0b_cst_74 : Ref sig .tc := ⟨.hbm, 382, rfl⟩
abbrev main_while0b_cst_75 : Ref sig .tc := ⟨.hbm, 383, rfl⟩
abbrev main_while0b_call15_v0 : Ref sig .tc := ⟨.hbm, 384, rfl⟩
abbrev main_while0b_call15_v1 : Ref sig .tc := ⟨.hbm, 385, rfl⟩
abbrev main_while0b_v269 : Ref sig .tc := ⟨.hbm, 386, rfl⟩
abbrev main_while0b_v270 : Ref sig .tc := ⟨.hbm, 387, rfl⟩
abbrev main_while0b_v271 : Ref sig .tc := ⟨.hbm, 388, rfl⟩
abbrev main_while0b_cst_76 : Ref sig .tc := ⟨.hbm, 389, rfl⟩
abbrev main_while0b_v272 : Ref sig .tc := ⟨.hbm, 390, rfl⟩
abbrev main_while0b_v273 : Ref sig .tc := ⟨.hbm, 391, rfl⟩
abbrev main_while0b_v274 : Ref sig .tc := ⟨.hbm, 392, rfl⟩
abbrev main_while0b_v275 : Ref sig .tc := ⟨.hbm, 393, rfl⟩
abbrev main_while0b_v276 : Ref sig .tc := ⟨.hbm, 394, rfl⟩
abbrev main_while0b_v277 : Ref sig .tc := ⟨.hbm, 395, rfl⟩
abbrev main_while0b_cst_77 : Ref sig .tc := ⟨.hbm, 396, rfl⟩
abbrev main_while0b_call16_v0 : Ref sig .tc := ⟨.hbm, 397, rfl⟩
abbrev main_while0b_call16_v1 : Ref sig .tc := ⟨.hbm, 398, rfl⟩
abbrev main_while0b_v278 : Ref sig .tc := ⟨.hbm, 399, rfl⟩
abbrev main_while0b_v279 : Ref sig .tc := ⟨.hbm, 400, rfl⟩
abbrev main_while0b_cst_78 : Ref sig .tc := ⟨.hbm, 401, rfl⟩
abbrev main_while0b_v280 : Ref sig .tc := ⟨.hbm, 402, rfl⟩
abbrev main_while0b_v281 : Ref sig .tc := ⟨.hbm, 403, rfl⟩
abbrev main_while0b_v282 : Ref sig .tc := ⟨.hbm, 404, rfl⟩
abbrev main_while0b_cst_79 : Ref sig .tc := ⟨.hbm, 405, rfl⟩
abbrev main_while0b_v283 : Ref sig .tc := ⟨.hbm, 406, rfl⟩
abbrev main_while0b_v284 : Ref sig .tc := ⟨.hbm, 407, rfl⟩
abbrev main_while0b_v285 : Ref sig .tc := ⟨.hbm, 408, rfl⟩
abbrev main_while0b_cst_80 : Ref sig .tc := ⟨.hbm, 409, rfl⟩
abbrev main_while0b_v286 : Ref sig .tc := ⟨.hbm, 410, rfl⟩
abbrev main_while0b_cst_81 : Ref sig .tc := ⟨.hbm, 411, rfl⟩
abbrev main_while0b_v287 : Ref sig .tc := ⟨.hbm, 412, rfl⟩
abbrev main_while0b_v288 : Ref sig .tc := ⟨.hbm, 413, rfl⟩
abbrev main_while0b_v289 : Ref sig .tc := ⟨.hbm, 414, rfl⟩
abbrev main_while0b_v290 : Ref sig .tc := ⟨.hbm, 415, rfl⟩
abbrev main_while0b_v291 : Ref sig .tc := ⟨.hbm, 416, rfl⟩
abbrev main_while0b_v292 : Ref sig .tc := ⟨.hbm, 417, rfl⟩
abbrev main_while0b_v293 : Ref sig .tc := ⟨.hbm, 418, rfl⟩
abbrev main_while0b_v294 : Ref sig .tc := ⟨.hbm, 419, rfl⟩
abbrev main_while0b_v295 : Ref sig .tc := ⟨.hbm, 420, rfl⟩
abbrev main_while0b_v296 : Ref sig .tc := ⟨.hbm, 421, rfl⟩
abbrev main_while0b_v297 : Ref sig .tc := ⟨.hbm, 422, rfl⟩
abbrev main_while0b_v298 : Ref sig .tc := ⟨.hbm, 423, rfl⟩
abbrev main_while0b_v299 : Ref sig .tc := ⟨.hbm, 424, rfl⟩
abbrev main_while0b_v300 : Ref sig .tc := ⟨.hbm, 425, rfl⟩
abbrev main_while0b_v301 : Ref sig .tc := ⟨.hbm, 426, rfl⟩
abbrev main_while0b_v302 : Ref sig .tc := ⟨.hbm, 427, rfl⟩
abbrev main_while0b_v303 : Ref sig .tc := ⟨.hbm, 428, rfl⟩
abbrev main_while0b_v304 : Ref sig .tc := ⟨.hbm, 429, rfl⟩
abbrev main_while0b_cst_82 : Ref sig .tc := ⟨.hbm, 430, rfl⟩
abbrev main_while0b_v305 : Ref sig .tc := ⟨.hbm, 431, rfl⟩
abbrev main_while0b_v306 : Ref sig .tc := ⟨.hbm, 432, rfl⟩
abbrev main_while0b_v307 : Ref sig .tc := ⟨.hbm, 433, rfl⟩
abbrev main_while0b_cst_83 : Ref sig .tc := ⟨.hbm, 434, rfl⟩
abbrev main_while0b_call17_v0 : Ref sig .tc := ⟨.hbm, 435, rfl⟩
abbrev main_while0b_call17_v1 : Ref sig .tc := ⟨.hbm, 436, rfl⟩
abbrev main_while0b_v308 : Ref sig .tc := ⟨.hbm, 437, rfl⟩
abbrev main_while0b_cst_84 : Ref sig .tc := ⟨.hbm, 438, rfl⟩
abbrev main_while0b_v309 : Ref sig .tc := ⟨.hbm, 439, rfl⟩
abbrev main_while0b_v310 : Ref sig .tc := ⟨.hbm, 440, rfl⟩
abbrev main_while0b_v311 : Ref sig .tc := ⟨.hbm, 441, rfl⟩
abbrev main_while0b_cst_85 : Ref sig .tc := ⟨.hbm, 442, rfl⟩
abbrev main_while0b_v312 : Ref sig .tc := ⟨.hbm, 443, rfl⟩
abbrev main_while0b_v313 : Ref sig .tc := ⟨.hbm, 444, rfl⟩
abbrev main_while0b_cst_86 : Ref sig .tc := ⟨.hbm, 445, rfl⟩
abbrev main_while0b_cst_87 : Ref sig .tc := ⟨.hbm, 446, rfl⟩
abbrev main_while0b_call18_v0 : Ref sig .tc := ⟨.hbm, 447, rfl⟩
abbrev main_while0b_call18_v1 : Ref sig .tc := ⟨.hbm, 448, rfl⟩
abbrev main_while0b_v314 : Ref sig .tc := ⟨.hbm, 449, rfl⟩
abbrev main_while0b_v315 : Ref sig .tc := ⟨.hbm, 450, rfl⟩
abbrev main_while0b_v316 : Ref sig .tc := ⟨.hbm, 451, rfl⟩
abbrev main_while0b_cst_88 : Ref sig .tc := ⟨.hbm, 452, rfl⟩
abbrev main_while0b_v317 : Ref sig .tc := ⟨.hbm, 453, rfl⟩
abbrev main_while0b_v318 : Ref sig .tc := ⟨.hbm, 454, rfl⟩
abbrev main_while0b_v319 : Ref sig .tc := ⟨.hbm, 455, rfl⟩
abbrev main_while0b_v320 : Ref sig .tc := ⟨.hbm, 456, rfl⟩
abbrev main_while0b_v321 : Ref sig .tc := ⟨.hbm, 457, rfl⟩
abbrev main_while0b_v322 : Ref sig .tc := ⟨.hbm, 458, rfl⟩
abbrev main_while0b_cst_89 : Ref sig .tc := ⟨.hbm, 459, rfl⟩
abbrev main_while0b_call19_v0 : Ref sig .tc := ⟨.hbm, 460, rfl⟩
abbrev main_while0b_call19_v1 : Ref sig .tc := ⟨.hbm, 461, rfl⟩
abbrev main_while0b_v323 : Ref sig .tc := ⟨.hbm, 462, rfl⟩
abbrev main_while0b_v324 : Ref sig .tc := ⟨.hbm, 463, rfl⟩
abbrev main_while0b_cst_90 : Ref sig .tc := ⟨.hbm, 464, rfl⟩
abbrev main_while0b_v325 : Ref sig .tc := ⟨.hbm, 465, rfl⟩
abbrev main_while0b_v326 : Ref sig .tc := ⟨.hbm, 466, rfl⟩
abbrev main_while0b_v327 : Ref sig .tc := ⟨.hbm, 467, rfl⟩
abbrev main_while0b_cst_91 : Ref sig .tc := ⟨.hbm, 468, rfl⟩
abbrev main_while0b_v328 : Ref sig .tc := ⟨.hbm, 469, rfl⟩
abbrev main_while0b_v329 : Ref sig .tc := ⟨.hbm, 470, rfl⟩
abbrev main_while0b_v330 : Ref sig .tc := ⟨.hbm, 471, rfl⟩
abbrev main_while0b_cst_92 : Ref sig .tc := ⟨.hbm, 472, rfl⟩
abbrev main_while0b_v331 : Ref sig .tc := ⟨.hbm, 473, rfl⟩
abbrev main_while0b_cst_93 : Ref sig .tc := ⟨.hbm, 474, rfl⟩
abbrev main_while0b_v332 : Ref sig .tc := ⟨.hbm, 475, rfl⟩
abbrev main_while0b_v333 : Ref sig .tc := ⟨.hbm, 476, rfl⟩
abbrev main_while0b_v334 : Ref sig .tc := ⟨.hbm, 477, rfl⟩
abbrev main_while0b_v335 : Ref sig .tc := ⟨.hbm, 478, rfl⟩
abbrev main_while0b_v336 : Ref sig .tc := ⟨.hbm, 479, rfl⟩
abbrev main_while0b_v337 : Ref sig .tc := ⟨.hbm, 480, rfl⟩
abbrev main_while0b_v338 : Ref sig .tc := ⟨.hbm, 481, rfl⟩
abbrev main_while0b_v339 : Ref sig .tc := ⟨.hbm, 482, rfl⟩
abbrev main_while0b_v340 : Ref sig .tc := ⟨.hbm, 483, rfl⟩
abbrev main_while0b_v341 : Ref sig .tc := ⟨.hbm, 484, rfl⟩
abbrev main_while0b_v342 : Ref sig .tc := ⟨.hbm, 485, rfl⟩
abbrev main_while0b_v343 : Ref sig .tc := ⟨.hbm, 486, rfl⟩
abbrev main_while0b_v344 : Ref sig .tc := ⟨.hbm, 487, rfl⟩
abbrev main_while0b_v345 : Ref sig .tc := ⟨.hbm, 488, rfl⟩
abbrev main_while0b_v346 : Ref sig .tc := ⟨.hbm, 489, rfl⟩
abbrev main_while0b_v347 : Ref sig .tc := ⟨.hbm, 490, rfl⟩
abbrev main_while0b_v348 : Ref sig .tc := ⟨.hbm, 491, rfl⟩
abbrev main_while0b_v349 : Ref sig .tc := ⟨.hbm, 492, rfl⟩
abbrev main_while0b_cst_94 : Ref sig .tc := ⟨.hbm, 493, rfl⟩
abbrev main_while0b_v350 : Ref sig .tc := ⟨.hbm, 494, rfl⟩
abbrev main_while0b_v351 : Ref sig .tc := ⟨.hbm, 495, rfl⟩
abbrev main_while0b_v352 : Ref sig .tc := ⟨.hbm, 496, rfl⟩
abbrev main_while0b_cst_95 : Ref sig .tc := ⟨.hbm, 497, rfl⟩
abbrev main_while0b_call20_v0 : Ref sig .tc := ⟨.hbm, 498, rfl⟩
abbrev main_while0b_call20_v1 : Ref sig .tc := ⟨.hbm, 499, rfl⟩
abbrev main_while0b_v353 : Ref sig .tc := ⟨.hbm, 500, rfl⟩
abbrev main_while0b_cst_96 : Ref sig .tc := ⟨.hbm, 501, rfl⟩
abbrev main_while0b_v354 : Ref sig .tc := ⟨.hbm, 502, rfl⟩
abbrev main_while0b_v355 : Ref sig .tc := ⟨.hbm, 503, rfl⟩
abbrev main_while0b_v356 : Ref sig .tc := ⟨.hbm, 504, rfl⟩
abbrev main_while0b_cst_97 : Ref sig .tc := ⟨.hbm, 505, rfl⟩
abbrev main_while0b_v357 : Ref sig .tc := ⟨.hbm, 506, rfl⟩
abbrev main_while0b_v358 : Ref sig .tc := ⟨.hbm, 507, rfl⟩
abbrev main_while0b_cst_98 : Ref sig .tc := ⟨.hbm, 508, rfl⟩
abbrev main_while0b_cst_99 : Ref sig .tc := ⟨.hbm, 509, rfl⟩
abbrev main_while0b_call21_v0 : Ref sig .tc := ⟨.hbm, 510, rfl⟩
abbrev main_while0b_call21_v1 : Ref sig .tc := ⟨.hbm, 511, rfl⟩
abbrev main_while0b_v359 : Ref sig .tc := ⟨.hbm, 512, rfl⟩
abbrev main_while0b_v360 : Ref sig .tc := ⟨.hbm, 513, rfl⟩
abbrev main_while0b_v361 : Ref sig .tc := ⟨.hbm, 514, rfl⟩
abbrev main_while0b_cst_100 : Ref sig .tc := ⟨.hbm, 515, rfl⟩
abbrev main_while0b_v362 : Ref sig .tc := ⟨.hbm, 516, rfl⟩
abbrev main_while0b_v363 : Ref sig .tc := ⟨.hbm, 517, rfl⟩
abbrev main_while0b_v364 : Ref sig .tc := ⟨.hbm, 518, rfl⟩
abbrev main_while0b_v365 : Ref sig .tc := ⟨.hbm, 519, rfl⟩
abbrev main_while0b_v366 : Ref sig .tc := ⟨.hbm, 520, rfl⟩
abbrev main_while0b_v367 : Ref sig .tc := ⟨.hbm, 521, rfl⟩
abbrev main_while0b_cst_101 : Ref sig .tc := ⟨.hbm, 522, rfl⟩
abbrev main_while0b_call22_v0 : Ref sig .tc := ⟨.hbm, 523, rfl⟩
abbrev main_while0b_call22_v1 : Ref sig .tc := ⟨.hbm, 524, rfl⟩
abbrev main_while0b_v368 : Ref sig .tc := ⟨.hbm, 525, rfl⟩
abbrev main_while0b_v369 : Ref sig .tc := ⟨.hbm, 526, rfl⟩
abbrev main_while0b_cst_102 : Ref sig .tc := ⟨.hbm, 527, rfl⟩
abbrev main_while0b_v370 : Ref sig .tc := ⟨.hbm, 528, rfl⟩
abbrev main_while0b_v371 : Ref sig .tc := ⟨.hbm, 529, rfl⟩
abbrev main_while0b_v372 : Ref sig .tc := ⟨.hbm, 530, rfl⟩
abbrev main_while0b_cst_103 : Ref sig .tc := ⟨.hbm, 531, rfl⟩
abbrev main_while0b_v373 : Ref sig .tc := ⟨.hbm, 532, rfl⟩
abbrev main_while0b_v374 : Ref sig .tc := ⟨.hbm, 533, rfl⟩
abbrev main_while0b_v375 : Ref sig .tc := ⟨.hbm, 534, rfl⟩
abbrev main_while0b_cst_104 : Ref sig .tc := ⟨.hbm, 535, rfl⟩
abbrev main_while0b_v376 : Ref sig .tc := ⟨.hbm, 536, rfl⟩
abbrev main_while0b_cst_105 : Ref sig .tc := ⟨.hbm, 537, rfl⟩
abbrev main_while0b_v377 : Ref sig .tc := ⟨.hbm, 538, rfl⟩
abbrev main_while0b_v378 : Ref sig .tc := ⟨.hbm, 539, rfl⟩
abbrev main_while0b_v379 : Ref sig .tc := ⟨.hbm, 540, rfl⟩
abbrev main_while0b_v380 : Ref sig .tc := ⟨.hbm, 541, rfl⟩
abbrev main_while0b_v381 : Ref sig .tc := ⟨.hbm, 542, rfl⟩
abbrev main_while0b_v382 : Ref sig .tc := ⟨.hbm, 543, rfl⟩
abbrev main_while0b_v383 : Ref sig .tc := ⟨.hbm, 544, rfl⟩
abbrev main_while0b_v384 : Ref sig .tc := ⟨.hbm, 545, rfl⟩
abbrev main_while0b_v385 : Ref sig .tc := ⟨.hbm, 546, rfl⟩
abbrev main_while0b_v386 : Ref sig .tc := ⟨.hbm, 547, rfl⟩
abbrev main_while0b_v387 : Ref sig .tc := ⟨.hbm, 548, rfl⟩
abbrev main_while0b_v388 : Ref sig .tc := ⟨.hbm, 549, rfl⟩
abbrev main_while0b_v389 : Ref sig .tc := ⟨.hbm, 550, rfl⟩
abbrev main_while0b_v390 : Ref sig .tc := ⟨.hbm, 551, rfl⟩
abbrev main_while0b_v391 : Ref sig .tc := ⟨.hbm, 552, rfl⟩
abbrev main_while0b_v392 : Ref sig .tc := ⟨.hbm, 553, rfl⟩
abbrev main_while0b_v393 : Ref sig .tc := ⟨.hbm, 554, rfl⟩
abbrev main_while0b_v394 : Ref sig .tc := ⟨.hbm, 555, rfl⟩
abbrev main_while0b_cst_106 : Ref sig .tc := ⟨.hbm, 556, rfl⟩
abbrev main_while0b_v395 : Ref sig .tc := ⟨.hbm, 557, rfl⟩
abbrev main_while0b_v396 : Ref sig .tc := ⟨.hbm, 558, rfl⟩
abbrev main_while0b_v397 : Ref sig .tc := ⟨.hbm, 559, rfl⟩
abbrev main_while0b_cst_107 : Ref sig .tc := ⟨.hbm, 560, rfl⟩
abbrev main_while0b_call23_v0 : Ref sig .tc := ⟨.hbm, 561, rfl⟩
abbrev main_while0b_call23_v1 : Ref sig .tc := ⟨.hbm, 562, rfl⟩
abbrev main_while0b_v398 : Ref sig .tc := ⟨.hbm, 563, rfl⟩
abbrev main_while0b_cst_108 : Ref sig .tc := ⟨.hbm, 564, rfl⟩
abbrev main_while0b_v399 : Ref sig .tc := ⟨.hbm, 565, rfl⟩
abbrev main_while0b_v400 : Ref sig .tc := ⟨.hbm, 566, rfl⟩
abbrev main_while0b_v401 : Ref sig .tc := ⟨.hbm, 567, rfl⟩
abbrev main_while0b_cst_109 : Ref sig .tc := ⟨.hbm, 568, rfl⟩
abbrev main_while0b_v402 : Ref sig .tc := ⟨.hbm, 569, rfl⟩
abbrev main_while0b_v403 : Ref sig .tc := ⟨.hbm, 570, rfl⟩
abbrev main_while0b_cst_110 : Ref sig .tc := ⟨.hbm, 571, rfl⟩
abbrev main_while0b_cst_111 : Ref sig .tc := ⟨.hbm, 572, rfl⟩
abbrev main_while0b_call24_v0 : Ref sig .tc := ⟨.hbm, 573, rfl⟩
abbrev main_while0b_call24_v1 : Ref sig .tc := ⟨.hbm, 574, rfl⟩
abbrev main_while0b_v404 : Ref sig .tc := ⟨.hbm, 575, rfl⟩
abbrev main_while0b_v405 : Ref sig .tc := ⟨.hbm, 576, rfl⟩
abbrev main_while0b_v406 : Ref sig .tc := ⟨.hbm, 577, rfl⟩
abbrev main_while0b_cst_112 : Ref sig .tc := ⟨.hbm, 578, rfl⟩
abbrev main_while0b_v407 : Ref sig .tc := ⟨.hbm, 579, rfl⟩
abbrev main_while0b_v408 : Ref sig .tc := ⟨.hbm, 580, rfl⟩
abbrev main_while0b_v409 : Ref sig .tc := ⟨.hbm, 581, rfl⟩
abbrev main_while0b_v410 : Ref sig .tc := ⟨.hbm, 582, rfl⟩
abbrev main_while0b_v411 : Ref sig .tc := ⟨.hbm, 583, rfl⟩
abbrev main_while0b_v412 : Ref sig .tc := ⟨.hbm, 584, rfl⟩
abbrev main_while0b_cst_113 : Ref sig .tc := ⟨.hbm, 585, rfl⟩
abbrev main_while0b_call25_v0 : Ref sig .tc := ⟨.hbm, 586, rfl⟩
abbrev main_while0b_call25_v1 : Ref sig .tc := ⟨.hbm, 587, rfl⟩
abbrev main_while0b_v413 : Ref sig .tc := ⟨.hbm, 588, rfl⟩
abbrev main_while0b_v414 : Ref sig .tc := ⟨.hbm, 589, rfl⟩
abbrev main_while0b_cst_114 : Ref sig .tc := ⟨.hbm, 590, rfl⟩
abbrev main_while0b_v415 : Ref sig .tc := ⟨.hbm, 591, rfl⟩
abbrev main_while0b_v416 : Ref sig .tc := ⟨.hbm, 592, rfl⟩
abbrev main_while0b_v417 : Ref sig .tc := ⟨.hbm, 593, rfl⟩
abbrev main_while0b_cst_115 : Ref sig .tc := ⟨.hbm, 594, rfl⟩
abbrev main_while0b_v418 : Ref sig .tc := ⟨.hbm, 595, rfl⟩
abbrev main_while0b_v419 : Ref sig .tc := ⟨.hbm, 596, rfl⟩
abbrev main_while0b_v420 : Ref sig .tc := ⟨.hbm, 597, rfl⟩
abbrev main_while0b_cst_116 : Ref sig .tc := ⟨.hbm, 598, rfl⟩
abbrev main_while0b_v421 : Ref sig .tc := ⟨.hbm, 599, rfl⟩
abbrev main_while0b_cst_117 : Ref sig .tc := ⟨.hbm, 600, rfl⟩
abbrev main_while0b_v422 : Ref sig .tc := ⟨.hbm, 601, rfl⟩
abbrev main_while0b_v423 : Ref sig .tc := ⟨.hbm, 602, rfl⟩
abbrev main_while0b_v424 : Ref sig .tc := ⟨.hbm, 603, rfl⟩
abbrev main_while0b_v425 : Ref sig .tc := ⟨.hbm, 604, rfl⟩
abbrev main_while0b_v426 : Ref sig .tc := ⟨.hbm, 605, rfl⟩
abbrev main_while0b_v427 : Ref sig .tc := ⟨.hbm, 606, rfl⟩
abbrev main_while0b_v428 : Ref sig .tc := ⟨.hbm, 607, rfl⟩
abbrev main_while0b_v429 : Ref sig .tc := ⟨.hbm, 608, rfl⟩
abbrev main_while0b_v430 : Ref sig .tc := ⟨.hbm, 609, rfl⟩
abbrev main_while0b_v431 : Ref sig .tc := ⟨.hbm, 610, rfl⟩
abbrev main_while0b_v432 : Ref sig .tc := ⟨.hbm, 611, rfl⟩
abbrev main_while0b_v433 : Ref sig .tc := ⟨.hbm, 612, rfl⟩
abbrev main_while0b_v434 : Ref sig .tc := ⟨.hbm, 613, rfl⟩
abbrev main_while0b_v435 : Ref sig .tc := ⟨.hbm, 614, rfl⟩
abbrev main_while0b_v436 : Ref sig .tc := ⟨.hbm, 615, rfl⟩
abbrev main_while0b_v437 : Ref sig .tc := ⟨.hbm, 616, rfl⟩
abbrev main_while0b_v438 : Ref sig .tc := ⟨.hbm, 617, rfl⟩
abbrev main_while0b_v439 : Ref sig .tc := ⟨.hbm, 618, rfl⟩
abbrev main_while0b_cst_118 : Ref sig .tc := ⟨.hbm, 619, rfl⟩
abbrev main_while0b_v440 : Ref sig .tc := ⟨.hbm, 620, rfl⟩
abbrev main_while0b_v441 : Ref sig .tc := ⟨.hbm, 621, rfl⟩
abbrev main_while0b_v442 : Ref sig .tc := ⟨.hbm, 622, rfl⟩
abbrev main_while0b_cst_119 : Ref sig .tc := ⟨.hbm, 623, rfl⟩
abbrev main_while0b_call26_v0 : Ref sig .tc := ⟨.hbm, 624, rfl⟩
abbrev main_while0b_call26_v1 : Ref sig .tc := ⟨.hbm, 625, rfl⟩
abbrev main_while0b_v443 : Ref sig .tc := ⟨.hbm, 626, rfl⟩
abbrev main_while0b_cst_120 : Ref sig .tc := ⟨.hbm, 627, rfl⟩
abbrev main_while0b_v444 : Ref sig .tc := ⟨.hbm, 628, rfl⟩
abbrev main_while0b_v445 : Ref sig .tc := ⟨.hbm, 629, rfl⟩
abbrev main_while0b_v446 : Ref sig .tc := ⟨.hbm, 630, rfl⟩
abbrev main_while0b_cst_121 : Ref sig .tc := ⟨.hbm, 631, rfl⟩
abbrev main_while0b_v447 : Ref sig .tc := ⟨.hbm, 632, rfl⟩
abbrev main_while0b_v448 : Ref sig .tc := ⟨.hbm, 633, rfl⟩
abbrev main_while0b_cst_122 : Ref sig .tc := ⟨.hbm, 634, rfl⟩
abbrev main_while0b_cst_123 : Ref sig .tc := ⟨.hbm, 635, rfl⟩
abbrev main_while0b_call27_v0 : Ref sig .tc := ⟨.hbm, 636, rfl⟩
abbrev main_while0b_call27_v1 : Ref sig .tc := ⟨.hbm, 637, rfl⟩
abbrev main_while0b_v449 : Ref sig .tc := ⟨.hbm, 638, rfl⟩
abbrev main_while0b_v450 : Ref sig .tc := ⟨.hbm, 639, rfl⟩
abbrev main_while0b_v451 : Ref sig .tc := ⟨.hbm, 640, rfl⟩
abbrev main_while0b_cst_124 : Ref sig .tc := ⟨.hbm, 641, rfl⟩
abbrev main_while0b_v452 : Ref sig .tc := ⟨.hbm, 642, rfl⟩
abbrev main_while0b_v453 : Ref sig .tc := ⟨.hbm, 643, rfl⟩
abbrev main_while0b_v454 : Ref sig .tc := ⟨.hbm, 644, rfl⟩
abbrev main_while0b_v455 : Ref sig .tc := ⟨.hbm, 645, rfl⟩
abbrev main_while0b_v456 : Ref sig .tc := ⟨.hbm, 646, rfl⟩
abbrev main_while0b_v457 : Ref sig .tc := ⟨.hbm, 647, rfl⟩
abbrev main_while0b_cst_125 : Ref sig .tc := ⟨.hbm, 648, rfl⟩
abbrev main_while0b_call28_v0 : Ref sig .tc := ⟨.hbm, 649, rfl⟩
abbrev main_while0b_call28_v1 : Ref sig .tc := ⟨.hbm, 650, rfl⟩
abbrev main_while0b_v458 : Ref sig .tc := ⟨.hbm, 651, rfl⟩
abbrev main_while0b_v459 : Ref sig .tc := ⟨.hbm, 652, rfl⟩
abbrev main_while0b_cst_126 : Ref sig .tc := ⟨.hbm, 653, rfl⟩
abbrev main_while0b_v460 : Ref sig .tc := ⟨.hbm, 654, rfl⟩
abbrev main_while0b_v461 : Ref sig .tc := ⟨.hbm, 655, rfl⟩
abbrev main_while0b_v462 : Ref sig .tc := ⟨.hbm, 656, rfl⟩
abbrev main_while0b_cst_127 : Ref sig .tc := ⟨.hbm, 657, rfl⟩
abbrev main_while0b_v463 : Ref sig .tc := ⟨.hbm, 658, rfl⟩
abbrev main_while0b_v464 : Ref sig .tc := ⟨.hbm, 659, rfl⟩
abbrev main_while0b_v465 : Ref sig .tc := ⟨.hbm, 660, rfl⟩
abbrev main_while0b_cst_128 : Ref sig .tc := ⟨.hbm, 661, rfl⟩
abbrev main_while0b_v466 : Ref sig .tc := ⟨.hbm, 662, rfl⟩
abbrev main_while0b_cst_129 : Ref sig .tc := ⟨.hbm, 663, rfl⟩
abbrev main_while0b_v467 : Ref sig .tc := ⟨.hbm, 664, rfl⟩
abbrev main_while0b_v468 : Ref sig .tc := ⟨.hbm, 665, rfl⟩
abbrev main_while0b_v469 : Ref sig .tc := ⟨.hbm, 666, rfl⟩
abbrev main_while0b_v470 : Ref sig .tc := ⟨.hbm, 667, rfl⟩
abbrev main_while0b_v471 : Ref sig .tc := ⟨.hbm, 668, rfl⟩
abbrev main_while0b_v472 : Ref sig .tc := ⟨.hbm, 669, rfl⟩
abbrev main_while0b_v473 : Ref sig .tc := ⟨.hbm, 670, rfl⟩
abbrev main_while0b_v474 : Ref sig .tc := ⟨.hbm, 671, rfl⟩
abbrev main_while0b_v475 : Ref sig .tc := ⟨.hbm, 672, rfl⟩
abbrev main_while0b_v476 : Ref sig .tc := ⟨.hbm, 673, rfl⟩
abbrev main_while0b_v477 : Ref sig .tc := ⟨.hbm, 674, rfl⟩
abbrev main_while0b_v478 : Ref sig .tc := ⟨.hbm, 675, rfl⟩
abbrev main_while0b_v479 : Ref sig .tc := ⟨.hbm, 676, rfl⟩
abbrev main_while0b_v480 : Ref sig .tc := ⟨.hbm, 677, rfl⟩
abbrev main_while0b_v481 : Ref sig .tc := ⟨.hbm, 678, rfl⟩
abbrev main_while0b_v482 : Ref sig .tc := ⟨.hbm, 679, rfl⟩
abbrev main_while0b_v483 : Ref sig .tc := ⟨.hbm, 680, rfl⟩
abbrev main_while0b_v484 : Ref sig .tc := ⟨.hbm, 681, rfl⟩
abbrev main_while0b_cst_130 : Ref sig .tc := ⟨.hbm, 682, rfl⟩
abbrev main_while0b_v485 : Ref sig .tc := ⟨.hbm, 683, rfl⟩
abbrev main_while0b_v486 : Ref sig .tc := ⟨.hbm, 684, rfl⟩
abbrev main_while0b_v487 : Ref sig .tc := ⟨.hbm, 685, rfl⟩
abbrev main_while0b_cst_131 : Ref sig .tc := ⟨.hbm, 686, rfl⟩
abbrev main_while0b_call29_v0 : Ref sig .tc := ⟨.hbm, 687, rfl⟩
abbrev main_while0b_call29_v1 : Ref sig .tc := ⟨.hbm, 688, rfl⟩
abbrev main_while0b_v488 : Ref sig .tc := ⟨.hbm, 689, rfl⟩
abbrev main_while0b_cst_132 : Ref sig .tc := ⟨.hbm, 690, rfl⟩
abbrev main_while0b_v489 : Ref sig .tc := ⟨.hbm, 691, rfl⟩
abbrev main_while0b_v490 : Ref sig .tc := ⟨.hbm, 692, rfl⟩
abbrev main_while0b_v491 : Ref sig .tc := ⟨.hbm, 693, rfl⟩
abbrev main_while0b_cst_133 : Ref sig .tc := ⟨.hbm, 694, rfl⟩
abbrev main_while0b_v492 : Ref sig .tc := ⟨.hbm, 695, rfl⟩
abbrev main_while0b_v493 : Ref sig .tc := ⟨.hbm, 696, rfl⟩
abbrev main_while0b_cst_134 : Ref sig .tc := ⟨.hbm, 697, rfl⟩
abbrev main_while0b_cst_135 : Ref sig .tc := ⟨.hbm, 698, rfl⟩
abbrev main_while0b_call30_v0 : Ref sig .tc := ⟨.hbm, 699, rfl⟩
abbrev main_while0b_call30_v1 : Ref sig .tc := ⟨.hbm, 700, rfl⟩
abbrev main_while0b_v494 : Ref sig .tc := ⟨.hbm, 701, rfl⟩
abbrev main_while0b_v495 : Ref sig .tc := ⟨.hbm, 702, rfl⟩
abbrev main_while0b_v496 : Ref sig .tc := ⟨.hbm, 703, rfl⟩
abbrev main_while0b_cst_136 : Ref sig .tc := ⟨.hbm, 704, rfl⟩
abbrev main_while0b_v497 : Ref sig .tc := ⟨.hbm, 705, rfl⟩
abbrev main_while0b_v498 : Ref sig .tc := ⟨.hbm, 706, rfl⟩
abbrev main_while0b_v499 : Ref sig .tc := ⟨.hbm, 707, rfl⟩
abbrev main_while0b_v500 : Ref sig .tc := ⟨.hbm, 708, rfl⟩
abbrev main_while0b_v501 : Ref sig .tc := ⟨.hbm, 709, rfl⟩
abbrev main_while0b_v502 : Ref sig .tc := ⟨.hbm, 710, rfl⟩
abbrev main_while0b_cst_137 : Ref sig .tc := ⟨.hbm, 711, rfl⟩
abbrev main_while0b_call31_v0 : Ref sig .tc := ⟨.hbm, 712, rfl⟩
abbrev main_while0b_call31_v1 : Ref sig .tc := ⟨.hbm, 713, rfl⟩
abbrev main_while0b_v503 : Ref sig .tc := ⟨.hbm, 714, rfl⟩
abbrev main_while0b_v504 : Ref sig .tc := ⟨.hbm, 715, rfl⟩
abbrev main_while0b_cst_138 : Ref sig .tc := ⟨.hbm, 716, rfl⟩
abbrev main_while0b_v505 : Ref sig .tc := ⟨.hbm, 717, rfl⟩
abbrev main_while0b_v506 : Ref sig .tc := ⟨.hbm, 718, rfl⟩
abbrev main_while0b_v507 : Ref sig .tc := ⟨.hbm, 719, rfl⟩
abbrev main_while0b_cst_139 : Ref sig .tc := ⟨.hbm, 720, rfl⟩
abbrev main_while0b_v508 : Ref sig .tc := ⟨.hbm, 721, rfl⟩
abbrev main_while0b_v509 : Ref sig .tc := ⟨.hbm, 722, rfl⟩
abbrev main_while0b_v510 : Ref sig .tc := ⟨.hbm, 723, rfl⟩
abbrev main_while0b_cst_140 : Ref sig .tc := ⟨.hbm, 724, rfl⟩
abbrev main_while0b_v511 : Ref sig .tc := ⟨.hbm, 725, rfl⟩
abbrev main_while0b_cst_141 : Ref sig .tc := ⟨.hbm, 726, rfl⟩
abbrev main_while0b_v512 : Ref sig .tc := ⟨.hbm, 727, rfl⟩
abbrev main_while0b_v513 : Ref sig .tc := ⟨.hbm, 728, rfl⟩
abbrev main_while0b_v514 : Ref sig .tc := ⟨.hbm, 729, rfl⟩
abbrev main_while0b_v515 : Ref sig .tc := ⟨.hbm, 730, rfl⟩
abbrev main_while0b_v516 : Ref sig .tc := ⟨.hbm, 731, rfl⟩
abbrev main_while0b_v517 : Ref sig .tc := ⟨.hbm, 732, rfl⟩
abbrev main_while0b_v518 : Ref sig .tc := ⟨.hbm, 733, rfl⟩
abbrev main_while0b_v519 : Ref sig .tc := ⟨.hbm, 734, rfl⟩
abbrev main_while0b_v520 : Ref sig .tc := ⟨.hbm, 735, rfl⟩
abbrev main_while0b_v521 : Ref sig .tc := ⟨.hbm, 736, rfl⟩
abbrev main_while0b_v522 : Ref sig .tc := ⟨.hbm, 737, rfl⟩
abbrev main_while0b_v523 : Ref sig .tc := ⟨.hbm, 738, rfl⟩
abbrev main_while0b_v524 : Ref sig .tc := ⟨.hbm, 739, rfl⟩
abbrev main_while0b_v525 : Ref sig .tc := ⟨.hbm, 740, rfl⟩
abbrev main_while0b_v526 : Ref sig .tc := ⟨.hbm, 741, rfl⟩
abbrev main_while0b_v527 : Ref sig .tc := ⟨.hbm, 742, rfl⟩
abbrev main_while0b_v528 : Ref sig .tc := ⟨.hbm, 743, rfl⟩
abbrev main_while0b_v529 : Ref sig .tc := ⟨.hbm, 744, rfl⟩
abbrev main_while0b_cst_142 : Ref sig .tc := ⟨.hbm, 745, rfl⟩
abbrev main_while0b_v530 : Ref sig .tc := ⟨.hbm, 746, rfl⟩
abbrev main_while0b_v531 : Ref sig .tc := ⟨.hbm, 747, rfl⟩
abbrev main_while0b_v532 : Ref sig .tc := ⟨.hbm, 748, rfl⟩
abbrev main_while0b_cst_143 : Ref sig .tc := ⟨.hbm, 749, rfl⟩
abbrev main_while0b_call32_v0 : Ref sig .tc := ⟨.hbm, 750, rfl⟩
abbrev main_while0b_call32_v1 : Ref sig .tc := ⟨.hbm, 751, rfl⟩
abbrev main_while0b_v533 : Ref sig .tc := ⟨.hbm, 752, rfl⟩
abbrev main_while0b_cst_144 : Ref sig .tc := ⟨.hbm, 753, rfl⟩
abbrev main_while0b_v534 : Ref sig .tc := ⟨.hbm, 754, rfl⟩
abbrev main_while0b_v535 : Ref sig .tc := ⟨.hbm, 755, rfl⟩
abbrev main_while0b_v536 : Ref sig .tc := ⟨.hbm, 756, rfl⟩
abbrev main_while0b_cst_145 : Ref sig .tc := ⟨.hbm, 757, rfl⟩
abbrev main_while0b_v537 : Ref sig .tc := ⟨.hbm, 758, rfl⟩
abbrev main_while0b_v538 : Ref sig .tc := ⟨.hbm, 759, rfl⟩
abbrev main_while0b_cst_146 : Ref sig .tc := ⟨.hbm, 760, rfl⟩
abbrev main_while0b_cst_147 : Ref sig .tc := ⟨.hbm, 761, rfl⟩
abbrev main_while0b_call33_v0 : Ref sig .tc := ⟨.hbm, 762, rfl⟩
abbrev main_while0b_call33_v1 : Ref sig .tc := ⟨.hbm, 763, rfl⟩
abbrev main_while0b_v539 : Ref sig .tc := ⟨.hbm, 764, rfl⟩
abbrev main_while0b_v540 : Ref sig .tc := ⟨.hbm, 765, rfl⟩
abbrev main_while0b_v541 : Ref sig .tc := ⟨.hbm, 766, rfl⟩
abbrev main_while0b_cst_148 : Ref sig .tc := ⟨.hbm, 767, rfl⟩
abbrev main_while0b_v542 : Ref sig .tc := ⟨.hbm, 768, rfl⟩
abbrev main_while0b_v543 : Ref sig .tc := ⟨.hbm, 769, rfl⟩
abbrev main_while0b_v544 : Ref sig .tc := ⟨.hbm, 770, rfl⟩
abbrev main_while0b_v545 : Ref sig .tc := ⟨.hbm, 771, rfl⟩
abbrev main_while0b_v546 : Ref sig .tc := ⟨.hbm, 772, rfl⟩
abbrev main_while0b_v547 : Ref sig .tc := ⟨.hbm, 773, rfl⟩
abbrev main_while0b_cst_149 : Ref sig .tc := ⟨.hbm, 774, rfl⟩
abbrev main_while0b_call34_v0 : Ref sig .tc := ⟨.hbm, 775, rfl⟩
abbrev main_while0b_call34_v1 : Ref sig .tc := ⟨.hbm, 776, rfl⟩
abbrev main_while0b_v548 : Ref sig .tc := ⟨.hbm, 777, rfl⟩
abbrev main_while0b_v549 : Ref sig .tc := ⟨.hbm, 778, rfl⟩
abbrev main_while0b_cst_150 : Ref sig .tc := ⟨.hbm, 779, rfl⟩
abbrev main_while0b_v550 : Ref sig .tc := ⟨.hbm, 780, rfl⟩
abbrev main_while0b_v551 : Ref sig .tc := ⟨.hbm, 781, rfl⟩
abbrev main_while0b_v552 : Ref sig .tc := ⟨.hbm, 782, rfl⟩
abbrev main_while0b_cst_151 : Ref sig .tc := ⟨.hbm, 783, rfl⟩
abbrev main_while0b_v553 : Ref sig .tc := ⟨.hbm, 784, rfl⟩
abbrev main_while0b_v554 : Ref sig .tc := ⟨.hbm, 785, rfl⟩
abbrev main_while0b_v555 : Ref sig .tc := ⟨.hbm, 786, rfl⟩
abbrev main_while0b_cst_152 : Ref sig .tc := ⟨.hbm, 787, rfl⟩
abbrev main_while0b_v556 : Ref sig .tc := ⟨.hbm, 788, rfl⟩
abbrev main_while0b_cst_153 : Ref sig .tc := ⟨.hbm, 789, rfl⟩
abbrev main_while0b_v557 : Ref sig .tc := ⟨.hbm, 790, rfl⟩
abbrev main_while0b_v558 : Ref sig .tc := ⟨.hbm, 791, rfl⟩
abbrev main_while0b_v559 : Ref sig .tc := ⟨.hbm, 792, rfl⟩
abbrev main_while0b_v560 : Ref sig .tc := ⟨.hbm, 793, rfl⟩
abbrev main_while0b_v561 : Ref sig .tc := ⟨.hbm, 794, rfl⟩
abbrev main_while0b_v562 : Ref sig .tc := ⟨.hbm, 795, rfl⟩
abbrev main_while0b_v563 : Ref sig .tc := ⟨.hbm, 796, rfl⟩
abbrev main_while0b_v564 : Ref sig .tc := ⟨.hbm, 797, rfl⟩
abbrev main_while0b_v565 : Ref sig .tc := ⟨.hbm, 798, rfl⟩
abbrev main_while0b_v566 : Ref sig .tc := ⟨.hbm, 799, rfl⟩
abbrev main_while0b_v567 : Ref sig .tc := ⟨.hbm, 800, rfl⟩
abbrev main_while0b_v568 : Ref sig .tc := ⟨.hbm, 801, rfl⟩
abbrev main_while0b_v569 : Ref sig .tc := ⟨.hbm, 802, rfl⟩
abbrev main_while0b_v570 : Ref sig .tc := ⟨.hbm, 803, rfl⟩
abbrev main_while0b_v571 : Ref sig .tc := ⟨.hbm, 804, rfl⟩
abbrev main_while0b_v572 : Ref sig .tc := ⟨.hbm, 805, rfl⟩
abbrev main_while0b_v573 : Ref sig .tc := ⟨.hbm, 806, rfl⟩
abbrev main_while0b_v574 : Ref sig .tc := ⟨.hbm, 807, rfl⟩
abbrev main_while0b_cst_154 : Ref sig .tc := ⟨.hbm, 808, rfl⟩
abbrev main_while0b_v575 : Ref sig .tc := ⟨.hbm, 809, rfl⟩
abbrev main_while0b_v576 : Ref sig .tc := ⟨.hbm, 810, rfl⟩
abbrev main_while0b_v577 : Ref sig .tc := ⟨.hbm, 811, rfl⟩
abbrev main_while0b_cst_155 : Ref sig .tc := ⟨.hbm, 812, rfl⟩
abbrev main_while0b_call35_v0 : Ref sig .tc := ⟨.hbm, 813, rfl⟩
abbrev main_while0b_call35_v1 : Ref sig .tc := ⟨.hbm, 814, rfl⟩
abbrev main_while0b_v578 : Ref sig .tc := ⟨.hbm, 815, rfl⟩
abbrev main_while0b_cst_156 : Ref sig .tc := ⟨.hbm, 816, rfl⟩
abbrev main_while0b_v579 : Ref sig .tc := ⟨.hbm, 817, rfl⟩
abbrev main_while0b_v580 : Ref sig .tc := ⟨.hbm, 818, rfl⟩
abbrev main_while0b_v581 : Ref sig .tc := ⟨.hbm, 819, rfl⟩
abbrev main_while0b_cst_157 : Ref sig .tc := ⟨.hbm, 820, rfl⟩
abbrev main_while0b_v582 : Ref sig .tc := ⟨.hbm, 821, rfl⟩
abbrev main_while0b_v583 : Ref sig .tc := ⟨.hbm, 822, rfl⟩
abbrev main_while0b_cst_158 : Ref sig .tc := ⟨.hbm, 823, rfl⟩
abbrev main_while0b_cst_159 : Ref sig .tc := ⟨.hbm, 824, rfl⟩
abbrev main_while0b_call36_v0 : Ref sig .tc := ⟨.hbm, 825, rfl⟩
abbrev main_while0b_call36_v1 : Ref sig .tc := ⟨.hbm, 826, rfl⟩
abbrev main_while0b_v584 : Ref sig .tc := ⟨.hbm, 827, rfl⟩
abbrev main_while0b_v585 : Ref sig .tc := ⟨.hbm, 828, rfl⟩
abbrev main_while0b_v586 : Ref sig .tc := ⟨.hbm, 829, rfl⟩
abbrev main_while0b_cst_160 : Ref sig .tc := ⟨.hbm, 830, rfl⟩
abbrev main_while0b_v587 : Ref sig .tc := ⟨.hbm, 831, rfl⟩
abbrev main_while0b_v588 : Ref sig .tc := ⟨.hbm, 832, rfl⟩
abbrev main_while0b_v589 : Ref sig .tc := ⟨.hbm, 833, rfl⟩
abbrev main_while0b_v590 : Ref sig .tc := ⟨.hbm, 834, rfl⟩
abbrev main_while0b_v591 : Ref sig .tc := ⟨.hbm, 835, rfl⟩
abbrev main_while0b_v592 : Ref sig .tc := ⟨.hbm, 836, rfl⟩
abbrev main_while0b_cst_161 : Ref sig .tc := ⟨.hbm, 837, rfl⟩
abbrev main_while0b_call37_v0 : Ref sig .tc := ⟨.hbm, 838, rfl⟩
abbrev main_while0b_call37_v1 : Ref sig .tc := ⟨.hbm, 839, rfl⟩
abbrev main_while0b_v593 : Ref sig .tc := ⟨.hbm, 840, rfl⟩
abbrev main_while0b_v594 : Ref sig .tc := ⟨.hbm, 841, rfl⟩
abbrev main_while0b_cst_162 : Ref sig .tc := ⟨.hbm, 842, rfl⟩
abbrev main_while0b_v595 : Ref sig .tc := ⟨.hbm, 843, rfl⟩
abbrev main_while0b_v596 : Ref sig .tc := ⟨.hbm, 844, rfl⟩
abbrev main_while0b_v597 : Ref sig .tc := ⟨.hbm, 845, rfl⟩
abbrev main_while0b_cst_163 : Ref sig .tc := ⟨.hbm, 846, rfl⟩
abbrev main_while0b_v598 : Ref sig .tc := ⟨.hbm, 847, rfl⟩
abbrev main_while0b_v599 : Ref sig .tc := ⟨.hbm, 848, rfl⟩
abbrev main_while0b_v600 : Ref sig .tc := ⟨.hbm, 849, rfl⟩
abbrev main_while0b_cst_164 : Ref sig .tc := ⟨.hbm, 850, rfl⟩
abbrev main_while0b_v601 : Ref sig .tc := ⟨.hbm, 851, rfl⟩
abbrev main_while0b_cst_165 : Ref sig .tc := ⟨.hbm, 852, rfl⟩
abbrev main_while0b_v602 : Ref sig .tc := ⟨.hbm, 853, rfl⟩
abbrev main_while0b_v603 : Ref sig .tc := ⟨.hbm, 854, rfl⟩
abbrev main_while0b_v604 : Ref sig .tc := ⟨.hbm, 855, rfl⟩
abbrev main_while0b_v605 : Ref sig .tc := ⟨.hbm, 856, rfl⟩
abbrev main_while0b_v606 : Ref sig .tc := ⟨.hbm, 857, rfl⟩
abbrev main_while0b_v607 : Ref sig .tc := ⟨.hbm, 858, rfl⟩
abbrev main_while0b_v608 : Ref sig .tc := ⟨.hbm, 859, rfl⟩
abbrev main_while0b_v609 : Ref sig .tc := ⟨.hbm, 860, rfl⟩
abbrev main_while0b_v610 : Ref sig .tc := ⟨.hbm, 861, rfl⟩
abbrev main_while0b_v611 : Ref sig .tc := ⟨.hbm, 862, rfl⟩
abbrev main_while0b_v612 : Ref sig .tc := ⟨.hbm, 863, rfl⟩
abbrev main_while0b_v613 : Ref sig .tc := ⟨.hbm, 864, rfl⟩
abbrev main_while0b_v614 : Ref sig .tc := ⟨.hbm, 865, rfl⟩
abbrev main_while0b_v615 : Ref sig .tc := ⟨.hbm, 866, rfl⟩
abbrev main_while0b_v616 : Ref sig .tc := ⟨.hbm, 867, rfl⟩
abbrev main_while0b_v617 : Ref sig .tc := ⟨.hbm, 868, rfl⟩
abbrev main_while0b_v618 : Ref sig .tc := ⟨.hbm, 869, rfl⟩
abbrev main_while0b_v619 : Ref sig .tc := ⟨.hbm, 870, rfl⟩
abbrev main_while0b_cst_166 : Ref sig .tc := ⟨.hbm, 871, rfl⟩
abbrev main_while0b_v620 : Ref sig .tc := ⟨.hbm, 872, rfl⟩
abbrev main_while0b_v621 : Ref sig .tc := ⟨.hbm, 873, rfl⟩
abbrev main_while0b_v622 : Ref sig .tc := ⟨.hbm, 874, rfl⟩
abbrev main_while0b_cst_167 : Ref sig .tc := ⟨.hbm, 875, rfl⟩
abbrev main_while0b_call38_v0 : Ref sig .tc := ⟨.hbm, 876, rfl⟩
abbrev main_while0b_call38_v1 : Ref sig .tc := ⟨.hbm, 877, rfl⟩
abbrev main_while0b_v623 : Ref sig .tc := ⟨.hbm, 878, rfl⟩
abbrev main_while0b_cst_168 : Ref sig .tc := ⟨.hbm, 879, rfl⟩
abbrev main_while0b_v624 : Ref sig .tc := ⟨.hbm, 880, rfl⟩
abbrev main_while0b_v625 : Ref sig .tc := ⟨.hbm, 881, rfl⟩
abbrev main_while0b_v626 : Ref sig .tc := ⟨.hbm, 882, rfl⟩
abbrev main_while0b_cst_169 : Ref sig .tc := ⟨.hbm, 883, rfl⟩
abbrev main_while0b_v627 : Ref sig .tc := ⟨.hbm, 884, rfl⟩
abbrev main_while0b_v628 : Ref sig .tc := ⟨.hbm, 885, rfl⟩
abbrev main_while0b_cst_170 : Ref sig .tc := ⟨.hbm, 886, rfl⟩
abbrev main_while0b_cst_171 : Ref sig .tc := ⟨.hbm, 887, rfl⟩
abbrev main_while0b_call39_v0 : Ref sig .tc := ⟨.hbm, 888, rfl⟩
abbrev main_while0b_call39_v1 : Ref sig .tc := ⟨.hbm, 889, rfl⟩
abbrev main_while0b_v629 : Ref sig .tc := ⟨.hbm, 890, rfl⟩
abbrev main_while0b_v630 : Ref sig .tc := ⟨.hbm, 891, rfl⟩
abbrev main_while0b_v631 : Ref sig .tc := ⟨.hbm, 892, rfl⟩
abbrev main_while0b_cst_172 : Ref sig .tc := ⟨.hbm, 893, rfl⟩
abbrev main_while0b_v632 : Ref sig .tc := ⟨.hbm, 894, rfl⟩
abbrev main_while0b_v633 : Ref sig .tc := ⟨.hbm, 895, rfl⟩
abbrev main_while0b_v634 : Ref sig .tc := ⟨.hbm, 896, rfl⟩
abbrev main_while0b_v635 : Ref sig .tc := ⟨.hbm, 897, rfl⟩
abbrev main_while0b_v636 : Ref sig .tc := ⟨.hbm, 898, rfl⟩
abbrev main_while0b_v637 : Ref sig .tc := ⟨.hbm, 899, rfl⟩
abbrev main_while0b_cst_173 : Ref sig .tc := ⟨.hbm, 900, rfl⟩
abbrev main_while0b_call40_v0 : Ref sig .tc := ⟨.hbm, 901, rfl⟩
abbrev main_while0b_call40_v1 : Ref sig .tc := ⟨.hbm, 902, rfl⟩
abbrev main_while0b_v638 : Ref sig .tc := ⟨.hbm, 903, rfl⟩
abbrev main_while0b_v639 : Ref sig .tc := ⟨.hbm, 904, rfl⟩
abbrev main_while0b_cst_174 : Ref sig .tc := ⟨.hbm, 905, rfl⟩
abbrev main_while0b_v640 : Ref sig .tc := ⟨.hbm, 906, rfl⟩
abbrev main_while0b_v641 : Ref sig .tc := ⟨.hbm, 907, rfl⟩
abbrev main_while0b_v642 : Ref sig .tc := ⟨.hbm, 908, rfl⟩
abbrev main_while0b_cst_175 : Ref sig .tc := ⟨.hbm, 909, rfl⟩
abbrev main_while0b_v643 : Ref sig .tc := ⟨.hbm, 910, rfl⟩
abbrev main_while0b_v644 : Ref sig .tc := ⟨.hbm, 911, rfl⟩
abbrev main_while0b_v645 : Ref sig .tc := ⟨.hbm, 912, rfl⟩
abbrev main_while0b_cst_176 : Ref sig .tc := ⟨.hbm, 913, rfl⟩
abbrev main_while0b_v646 : Ref sig .tc := ⟨.hbm, 914, rfl⟩
abbrev main_while0b_cst_177 : Ref sig .tc := ⟨.hbm, 915, rfl⟩
abbrev main_while0b_v647 : Ref sig .tc := ⟨.hbm, 916, rfl⟩
abbrev main_while0b_v648 : Ref sig .tc := ⟨.hbm, 917, rfl⟩
abbrev main_while0b_v649 : Ref sig .tc := ⟨.hbm, 918, rfl⟩
abbrev main_while0b_v650 : Ref sig .tc := ⟨.hbm, 919, rfl⟩
abbrev main_while0b_v651 : Ref sig .tc := ⟨.hbm, 920, rfl⟩
abbrev main_while0b_v652 : Ref sig .tc := ⟨.hbm, 921, rfl⟩
abbrev main_while0b_v653 : Ref sig .tc := ⟨.hbm, 922, rfl⟩
abbrev main_while0b_v654 : Ref sig .tc := ⟨.hbm, 923, rfl⟩
abbrev main_while0b_v655 : Ref sig .tc := ⟨.hbm, 924, rfl⟩
abbrev main_while0b_v656 : Ref sig .tc := ⟨.hbm, 925, rfl⟩
abbrev main_while0b_v657 : Ref sig .tc := ⟨.hbm, 926, rfl⟩
abbrev main_while0b_v658 : Ref sig .tc := ⟨.hbm, 927, rfl⟩
abbrev main_while0b_v659 : Ref sig .tc := ⟨.hbm, 928, rfl⟩
abbrev main_while0b_v660 : Ref sig .tc := ⟨.hbm, 929, rfl⟩
abbrev main_while0b_v661 : Ref sig .tc := ⟨.hbm, 930, rfl⟩
abbrev main_while0b_v662 : Ref sig .tc := ⟨.hbm, 931, rfl⟩
abbrev main_while0b_v663 : Ref sig .tc := ⟨.hbm, 932, rfl⟩
abbrev main_while0b_v664 : Ref sig .tc := ⟨.hbm, 933, rfl⟩
abbrev main_while0b_cst_178 : Ref sig .tc := ⟨.hbm, 934, rfl⟩
abbrev main_while0b_v665 : Ref sig .tc := ⟨.hbm, 935, rfl⟩
abbrev main_while0b_v666 : Ref sig .tc := ⟨.hbm, 936, rfl⟩
abbrev main_while0b_v667 : Ref sig .tc := ⟨.hbm, 937, rfl⟩
abbrev main_while0b_cst_179 : Ref sig .tc := ⟨.hbm, 938, rfl⟩
abbrev main_while0b_call41_v0 : Ref sig .tc := ⟨.hbm, 939, rfl⟩
abbrev main_while0b_call41_v1 : Ref sig .tc := ⟨.hbm, 940, rfl⟩
abbrev main_while0b_v668 : Ref sig .tc := ⟨.hbm, 941, rfl⟩
abbrev main_while0b_cst_180 : Ref sig .tc := ⟨.hbm, 942, rfl⟩
abbrev main_while0b_v669 : Ref sig .tc := ⟨.hbm, 943, rfl⟩
abbrev main_while0b_v670 : Ref sig .tc := ⟨.hbm, 944, rfl⟩
abbrev main_while0b_v671 : Ref sig .tc := ⟨.hbm, 945, rfl⟩
abbrev main_while0b_cst_181 : Ref sig .tc := ⟨.hbm, 946, rfl⟩
abbrev main_while0b_v672 : Ref sig .tc := ⟨.hbm, 947, rfl⟩
abbrev main_while0b_v673 : Ref sig .tc := ⟨.hbm, 948, rfl⟩
abbrev main_while0b_cst_182 : Ref sig .tc := ⟨.hbm, 949, rfl⟩
abbrev main_while0b_cst_183 : Ref sig .tc := ⟨.hbm, 950, rfl⟩
abbrev main_while0b_call42_v0 : Ref sig .tc := ⟨.hbm, 951, rfl⟩
abbrev main_while0b_call42_v1 : Ref sig .tc := ⟨.hbm, 952, rfl⟩
abbrev main_while0b_v674 : Ref sig .tc := ⟨.hbm, 953, rfl⟩
abbrev main_while0b_v675 : Ref sig .tc := ⟨.hbm, 954, rfl⟩
abbrev main_while0b_v676 : Ref sig .tc := ⟨.hbm, 955, rfl⟩
abbrev main_while0b_cst_184 : Ref sig .tc := ⟨.hbm, 956, rfl⟩
abbrev main_while0b_v677 : Ref sig .tc := ⟨.hbm, 957, rfl⟩
abbrev main_while0b_v678 : Ref sig .tc := ⟨.hbm, 958, rfl⟩
abbrev main_while0b_v679 : Ref sig .tc := ⟨.hbm, 959, rfl⟩
abbrev main_while0b_v680 : Ref sig .tc := ⟨.hbm, 960, rfl⟩
abbrev main_while0b_v681 : Ref sig .tc := ⟨.hbm, 961, rfl⟩
abbrev main_while0b_v682 : Ref sig .tc := ⟨.hbm, 962, rfl⟩
abbrev main_while0b_cst_185 : Ref sig .tc := ⟨.hbm, 963, rfl⟩
abbrev main_while0b_call43_v0 : Ref sig .tc := ⟨.hbm, 964, rfl⟩
abbrev main_while0b_call43_v1 : Ref sig .tc := ⟨.hbm, 965, rfl⟩
abbrev main_while0b_v683 : Ref sig .tc := ⟨.hbm, 966, rfl⟩
abbrev main_while0b_v684 : Ref sig .tc := ⟨.hbm, 967, rfl⟩
abbrev main_while0b_cst_186 : Ref sig .tc := ⟨.hbm, 968, rfl⟩
abbrev main_while0b_v685 : Ref sig .tc := ⟨.hbm, 969, rfl⟩
abbrev main_while0b_v686 : Ref sig .tc := ⟨.hbm, 970, rfl⟩
abbrev main_while0b_v687 : Ref sig .tc := ⟨.hbm, 971, rfl⟩
abbrev main_while0b_cst_187 : Ref sig .tc := ⟨.hbm, 972, rfl⟩
abbrev main_while0b_v688 : Ref sig .tc := ⟨.hbm, 973, rfl⟩
abbrev main_while0b_v689 : Ref sig .tc := ⟨.hbm, 974, rfl⟩
abbrev main_while0b_v690 : Ref sig .tc := ⟨.hbm, 975, rfl⟩
abbrev main_while0b_cst_188 : Ref sig .tc := ⟨.hbm, 976, rfl⟩
abbrev main_while0b_v691 : Ref sig .tc := ⟨.hbm, 977, rfl⟩
abbrev main_while0b_cst_189 : Ref sig .tc := ⟨.hbm, 978, rfl⟩
abbrev main_while0b_v692 : Ref sig .tc := ⟨.hbm, 979, rfl⟩
abbrev main_while0b_v693 : Ref sig .tc := ⟨.hbm, 980, rfl⟩
abbrev main_while0b_v694 : Ref sig .tc := ⟨.hbm, 981, rfl⟩
abbrev main_while0b_v695 : Ref sig .tc := ⟨.hbm, 982, rfl⟩
abbrev main_while0b_v696 : Ref sig .tc := ⟨.hbm, 983, rfl⟩
abbrev main_while0b_v697 : Ref sig .tc := ⟨.hbm, 984, rfl⟩
abbrev main_while0b_v698 : Ref sig .tc := ⟨.hbm, 985, rfl⟩
abbrev main_while0b_v699 : Ref sig .tc := ⟨.hbm, 986, rfl⟩
abbrev main_while0b_v700 : Ref sig .tc := ⟨.hbm, 987, rfl⟩
abbrev main_while0b_v701 : Ref sig .tc := ⟨.hbm, 988, rfl⟩
abbrev main_while0b_v702 : Ref sig .tc := ⟨.hbm, 989, rfl⟩
abbrev main_while0b_v703 : Ref sig .tc := ⟨.hbm, 990, rfl⟩
abbrev main_while0b_v704 : Ref sig .tc := ⟨.hbm, 991, rfl⟩
abbrev main_while0b_v705 : Ref sig .tc := ⟨.hbm, 992, rfl⟩
abbrev main_while0b_v706 : Ref sig .tc := ⟨.hbm, 993, rfl⟩
abbrev main_while0b_v707 : Ref sig .tc := ⟨.hbm, 994, rfl⟩
abbrev main_while0b_v708 : Ref sig .tc := ⟨.hbm, 995, rfl⟩
abbrev main_while0b_v709 : Ref sig .tc := ⟨.hbm, 996, rfl⟩
abbrev main_while0b_cst_190 : Ref sig .tc := ⟨.hbm, 997, rfl⟩
abbrev main_while0b_v710 : Ref sig .tc := ⟨.hbm, 998, rfl⟩
abbrev main_while0b_v711 : Ref sig .tc := ⟨.hbm, 999, rfl⟩
abbrev main_while0b_v712 : Ref sig .tc := ⟨.hbm, 1000, rfl⟩
abbrev main_while0b_cst_191 : Ref sig .tc := ⟨.hbm, 1001, rfl⟩
abbrev main_while0b_call44_v0 : Ref sig .tc := ⟨.hbm, 1002, rfl⟩
abbrev main_while0b_call44_v1 : Ref sig .tc := ⟨.hbm, 1003, rfl⟩
abbrev main_while0b_v713 : Ref sig .tc := ⟨.hbm, 1004, rfl⟩
abbrev main_while0b_cst_192 : Ref sig .tc := ⟨.hbm, 1005, rfl⟩
abbrev main_while0b_v714 : Ref sig .tc := ⟨.hbm, 1006, rfl⟩
abbrev main_while0b_v715 : Ref sig .tc := ⟨.hbm, 1007, rfl⟩
abbrev main_while0b_v716 : Ref sig .tc := ⟨.hbm, 1008, rfl⟩
abbrev main_while0b_cst_193 : Ref sig .tc := ⟨.hbm, 1009, rfl⟩
abbrev main_while0b_v717 : Ref sig .tc := ⟨.hbm, 1010, rfl⟩
abbrev main_while0b_v718 : Ref sig .tc := ⟨.hbm, 1011, rfl⟩
abbrev main_while0b_cst_194 : Ref sig .tc := ⟨.hbm, 1012, rfl⟩
abbrev main_while0b_cst_195 : Ref sig .tc := ⟨.hbm, 1013, rfl⟩
abbrev main_while0b_call45_v0 : Ref sig .tc := ⟨.hbm, 1014, rfl⟩
abbrev main_while0b_call45_v1 : Ref sig .tc := ⟨.hbm, 1015, rfl⟩
abbrev main_while0b_v719 : Ref sig .tc := ⟨.hbm, 1016, rfl⟩
abbrev main_while0b_v720 : Ref sig .tc := ⟨.hbm, 1017, rfl⟩
abbrev main_while0b_v721 : Ref sig .tc := ⟨.hbm, 1018, rfl⟩
abbrev main_while0b_cst_196 : Ref sig .tc := ⟨.hbm, 1019, rfl⟩
abbrev main_while0b_v722 : Ref sig .tc := ⟨.hbm, 1020, rfl⟩
abbrev main_while0b_v723 : Ref sig .tc := ⟨.hbm, 1021, rfl⟩
abbrev main_while0b_v724 : Ref sig .tc := ⟨.hbm, 1022, rfl⟩
abbrev main_while0b_v725 : Ref sig .tc := ⟨.hbm, 1023, rfl⟩
abbrev main_while0b_v726 : Ref sig .tc := ⟨.hbm, 1024, rfl⟩
abbrev main_while0b_v727 : Ref sig .tc := ⟨.hbm, 1025, rfl⟩
abbrev main_while0b_cst_197 : Ref sig .tc := ⟨.hbm, 1026, rfl⟩
abbrev main_while0b_call46_v0 : Ref sig .tc := ⟨.hbm, 1027, rfl⟩
abbrev main_while0b_call46_v1 : Ref sig .tc := ⟨.hbm, 1028, rfl⟩
abbrev main_while0b_v728 : Ref sig .tc := ⟨.hbm, 1029, rfl⟩
abbrev main_while0b_v729 : Ref sig .tc := ⟨.hbm, 1030, rfl⟩
abbrev main_while0b_cst_198 : Ref sig .tc := ⟨.hbm, 1031, rfl⟩
abbrev main_while0b_v730 : Ref sig .tc := ⟨.hbm, 1032, rfl⟩
abbrev main_while0b_v731 : Ref sig .tc := ⟨.hbm, 1033, rfl⟩
abbrev main_while0b_v732 : Ref sig .tc := ⟨.hbm, 1034, rfl⟩
abbrev main_while0b_cst_199 : Ref sig .tc := ⟨.hbm, 1035, rfl⟩
abbrev main_while0b_v733 : Ref sig .tc := ⟨.hbm, 1036, rfl⟩
abbrev main_while0b_v734 : Ref sig .tc := ⟨.hbm, 1037, rfl⟩
abbrev main_while0b_v735 : Ref sig .tc := ⟨.hbm, 1038, rfl⟩
abbrev main_while0b_cst_200 : Ref sig .tc := ⟨.hbm, 1039, rfl⟩
abbrev main_while0b_v736 : Ref sig .tc := ⟨.hbm, 1040, rfl⟩
abbrev main_while0b_cst_201 : Ref sig .tc := ⟨.hbm, 1041, rfl⟩
abbrev main_while0b_v737 : Ref sig .tc := ⟨.hbm, 1042, rfl⟩
abbrev main_while0b_v738 : Ref sig .tc := ⟨.hbm, 1043, rfl⟩
abbrev main_while0b_v739 : Ref sig .tc := ⟨.hbm, 1044, rfl⟩
abbrev main_while0b_v740 : Ref sig .tc := ⟨.hbm, 1045, rfl⟩
abbrev main_while0b_v741 : Ref sig .tc := ⟨.hbm, 1046, rfl⟩
abbrev main_while0b_v742 : Ref sig .tc := ⟨.hbm, 1047, rfl⟩
abbrev main_while0b_v743 : Ref sig .tc := ⟨.hbm, 1048, rfl⟩
abbrev main_while0b_v744 : Ref sig .tc := ⟨.hbm, 1049, rfl⟩
abbrev main_while0b_v745 : Ref sig .tc := ⟨.hbm, 1050, rfl⟩
abbrev main_while0b_v746 : Ref sig .tc := ⟨.hbm, 1051, rfl⟩
abbrev main_while0b_v747 : Ref sig .tc := ⟨.hbm, 1052, rfl⟩
abbrev main_while0b_v748 : Ref sig .tc := ⟨.hbm, 1053, rfl⟩
abbrev main_while0b_v749 : Ref sig .tc := ⟨.hbm, 1054, rfl⟩
abbrev main_while0b_v750 : Ref sig .tc := ⟨.hbm, 1055, rfl⟩
abbrev main_while0b_call47_v0 : Ref sig .tc := ⟨.hbm, 1056, rfl⟩
abbrev main_while0b_call47_v1 : Ref sig .tc := ⟨.hbm, 1057, rfl⟩
abbrev main_while0b_call47_c : Ref sig .tc := ⟨.hbm, 1058, rfl⟩
abbrev main_while0b_call47_v2 : Ref sig .tc := ⟨.hbm, 1059, rfl⟩
abbrev main_while0b_call47_v3 : Ref sig .tc := ⟨.hbm, 1060, rfl⟩
abbrev main_while0b_call47_c_0 : Ref sig .tc := ⟨.hbm, 1061, rfl⟩
abbrev main_while0b_call47_v4 : Ref sig .tc := ⟨.hbm, 1062, rfl⟩
abbrev main_while0b_call47_v5 : Ref sig .tc := ⟨.hbm, 1063, rfl⟩
abbrev main_while0b_call47_v6 : Ref sig .tc := ⟨.hbm, 1064, rfl⟩
abbrev main_while0b_call47_c_1 : Ref sig .tc := ⟨.hbm, 1065, rfl⟩
abbrev main_while0b_call47_v7 : Ref sig .tc := ⟨.hbm, 1066, rfl⟩
abbrev main_while0b_call47_v8 : Ref sig .tc := ⟨.hbm, 1067, rfl⟩
abbrev main_while0b_call47_c_2 : Ref sig .tc := ⟨.hbm, 1068, rfl⟩
abbrev main_while0b_call47_v9 : Ref sig .tc := ⟨.hbm, 1069, rfl⟩
abbrev main_while0b_call47_v10 : Ref sig .tc := ⟨.hbm, 1070, rfl⟩
abbrev main_while0b_call47_v11 : Ref sig .tc := ⟨.hbm, 1071, rfl⟩
abbrev main_while0b_call47_v12 : Ref sig .tc := ⟨.hbm, 1072, rfl⟩
abbrev main_while0b_call47_v13 : Ref sig .tc := ⟨.hbm, 1073, rfl⟩
abbrev main_while0b_call47_v14 : Ref sig .tc := ⟨.hbm, 1074, rfl⟩
abbrev main_while0b_v751 : Ref sig .tc := ⟨.hbm, 1075, rfl⟩
abbrev main_while0b_cst_202 : Ref sig .tc := ⟨.hbm, 1076, rfl⟩
abbrev main_while0b_v752 : Ref sig .tc := ⟨.hbm, 1077, rfl⟩
abbrev main_while0b_v753 : Ref sig .tc := ⟨.hbm, 1078, rfl⟩
abbrev main_while0b_v754 : Ref sig .tc := ⟨.hbm, 1079, rfl⟩
abbrev main_while0b_v755 : Ref sig .tc := ⟨.hbm, 1080, rfl⟩
abbrev main_while0b_v756 : Ref sig .tc := ⟨.hbm, 1081, rfl⟩
abbrev main_while0b_v757 : Ref sig .tc := ⟨.hbm, 1082, rfl⟩
abbrev main_while0b_v758 : Ref sig .tc := ⟨.hbm, 1083, rfl⟩
abbrev main_while0b_v759 : Ref sig .tc := ⟨.hbm, 1084, rfl⟩
abbrev main_while0b_v760 : Ref sig .tc := ⟨.hbm, 1085, rfl⟩
abbrev main_while0b_v761 : Ref sig .tc := ⟨.hbm, 1086, rfl⟩
abbrev main_while0b_v762 : Ref sig .tc := ⟨.hbm, 1087, rfl⟩
abbrev main_while0b_v763 : Ref sig .tc := ⟨.hbm, 1088, rfl⟩
abbrev main_while0b_v764 : Ref sig .tc := ⟨.hbm, 1089, rfl⟩
abbrev main_while0b_v765 : Ref sig .tc := ⟨.hbm, 1090, rfl⟩
abbrev main_while0b_v766 : Ref sig .tc := ⟨.hbm, 1091, rfl⟩
abbrev main_while0b_v767 : Ref sig .tc := ⟨.hbm, 1092, rfl⟩
abbrev main_while0b_v768 : Ref sig .tc := ⟨.hbm, 1093, rfl⟩
abbrev main_while0b_v769 : Ref sig .tc := ⟨.hbm, 1094, rfl⟩
abbrev main_while0b_v770 : Ref sig .tc := ⟨.hbm, 1095, rfl⟩
abbrev main_while0b_v771 : Ref sig .tc := ⟨.hbm, 1096, rfl⟩
abbrev main_while0b_v772 : Ref sig .tc := ⟨.hbm, 1097, rfl⟩
abbrev main_while0b_v773 : Ref sig .tc := ⟨.hbm, 1098, rfl⟩
abbrev main_while0b_v774 : Ref sig .tc := ⟨.hbm, 1099, rfl⟩
abbrev main_while0b_v775 : Ref sig .tc := ⟨.hbm, 1100, rfl⟩
abbrev main_while0b_v776 : Ref sig .tc := ⟨.hbm, 1101, rfl⟩
abbrev main_while0b_v777 : Ref sig .tc := ⟨.hbm, 1102, rfl⟩
abbrev main_while0b_v778 : Ref sig .tc := ⟨.hbm, 1103, rfl⟩
abbrev main_while0b_v779 : Ref sig .tc := ⟨.hbm, 1104, rfl⟩
abbrev main_while0b_v780 : Ref sig .tc := ⟨.hbm, 1105, rfl⟩
abbrev main_while0b_v781 : Ref sig .tc := ⟨.hbm, 1106, rfl⟩
abbrev main_while0b_v782 : Ref sig .tc := ⟨.hbm, 1107, rfl⟩
abbrev main_while0b_v783 : Ref sig .tc := ⟨.hbm, 1108, rfl⟩
abbrev main_while0b_v784 : Ref sig .tc := ⟨.hbm, 1109, rfl⟩
abbrev main_while0b_v785 : Ref sig .tc := ⟨.hbm, 1110, rfl⟩
abbrev main_while0b_v786 : Ref sig .tc := ⟨.hbm, 1111, rfl⟩
abbrev main_while0b_v787 : Ref sig .tc := ⟨.hbm, 1112, rfl⟩
abbrev main_while0b_v788 : Ref sig .tc := ⟨.hbm, 1113, rfl⟩
abbrev main_while0b_v789 : Ref sig .tc := ⟨.hbm, 1114, rfl⟩
abbrev main_while0b_v790 : Ref sig .tc := ⟨.hbm, 1115, rfl⟩
abbrev main_while0b_v791 : Ref sig .tc := ⟨.hbm, 1116, rfl⟩
abbrev main_while0b_v792 : Ref sig .tc := ⟨.hbm, 1117, rfl⟩
abbrev main_while0b_v793 : Ref sig .tc := ⟨.hbm, 1118, rfl⟩
abbrev main_while0b_v794 : Ref sig .tc := ⟨.hbm, 1119, rfl⟩
abbrev main_while0b_v795 : Ref sig .tc := ⟨.hbm, 1120, rfl⟩
abbrev main_while0b_v796 : Ref sig .tc := ⟨.hbm, 1121, rfl⟩
abbrev main_while0b_v797 : Ref sig .tc := ⟨.hbm, 1122, rfl⟩
abbrev main_while0b_v798 : Ref sig .tc := ⟨.hbm, 1123, rfl⟩
abbrev main_while0b_v799 : Ref sig .tc := ⟨.hbm, 1124, rfl⟩
abbrev main_while0b_v800 : Ref sig .tc := ⟨.hbm, 1125, rfl⟩
abbrev main_while0b_v801 : Ref sig .tc := ⟨.hbm, 1126, rfl⟩
abbrev main_while0b_v802 : Ref sig .tc := ⟨.hbm, 1127, rfl⟩
abbrev main_while0b_v803 : Ref sig .tc := ⟨.hbm, 1128, rfl⟩
abbrev main_while0b_v804 : Ref sig .tc := ⟨.hbm, 1129, rfl⟩
abbrev main_while0b_v805 : Ref sig .tc := ⟨.hbm, 1130, rfl⟩
abbrev main_while0b_values_203 : Ref sig .tc := ⟨.hbm, 1131, rfl⟩
abbrev main_while0b_indices_204 : Ref sig .tc := ⟨.hbm, 1132, rfl⟩
abbrev main_while0b_v806 : Ref sig .tc := ⟨.hbm, 1133, rfl⟩
abbrev main_while0b_v807 : Ref sig .tc := ⟨.hbm, 1134, rfl⟩
abbrev main_while0b_v808 : Ref sig .tc := ⟨.hbm, 1135, rfl⟩
abbrev main_while0b_v809 : Ref sig .tc := ⟨.hbm, 1136, rfl⟩
abbrev main_while0b_v810 : Ref sig .tc := ⟨.hbm, 1137, rfl⟩
abbrev main_while0b_v811 : Ref sig .tc := ⟨.hbm, 1138, rfl⟩
abbrev main_while0b_cst_205 : Ref sig .tc := ⟨.hbm, 1139, rfl⟩
abbrev main_while0b_call48_v0 : Ref sig .tc := ⟨.hbm, 1140, rfl⟩
abbrev main_while0b_call48_v1 : Ref sig .tc := ⟨.hbm, 1141, rfl⟩
abbrev main_while0b_call48_v2 : Ref sig .tc := ⟨.hbm, 1142, rfl⟩
abbrev main_while0b_v812 : Ref sig .tc := ⟨.hbm, 1143, rfl⟩
abbrev main_while0b_v813 : Ref sig .tc := ⟨.hbm, 1144, rfl⟩
abbrev main_while0b_v814 : Ref sig .tc := ⟨.hbm, 1145, rfl⟩
abbrev main_while0b_v815 : Ref sig .tc := ⟨.hbm, 1146, rfl⟩
abbrev main_while0b_v816 : Ref sig .tc := ⟨.hbm, 1147, rfl⟩
abbrev main_while0b_v817 : Ref sig .tc := ⟨.hbm, 1148, rfl⟩
abbrev main_while0b_v818 : Ref sig .tc := ⟨.hbm, 1149, rfl⟩
abbrev main_while0b_v819 : Ref sig .tc := ⟨.hbm, 1150, rfl⟩
abbrev main_while0b_v820 : Ref sig .tc := ⟨.hbm, 1151, rfl⟩
abbrev main_while0b_c_206 : Ref sig .tc := ⟨.hbm, 1152, rfl⟩
abbrev main_while0b_v821 : Ref sig .tc := ⟨.hbm, 1153, rfl⟩
abbrev main_while0b_v822 : Ref sig .tc := ⟨.hbm, 1154, rfl⟩
abbrev main_while0b_v823 : Ref sig .tc := ⟨.hbm, 1155, rfl⟩
abbrev main_while0b_v824 : Ref sig .tc := ⟨.hbm, 1156, rfl⟩
abbrev main_while0b_v825 : Ref sig .tc := ⟨.hbm, 1157, rfl⟩
abbrev main_while0b_v826 : Ref sig .tc := ⟨.hbm, 1158, rfl⟩
abbrev main_while0b_v827 : Ref sig .tc := ⟨.hbm, 1159, rfl⟩
abbrev main_while0b_v828 : Ref sig .tc := ⟨.hbm, 1160, rfl⟩
abbrev main_while0b_v829 : Ref sig .tc := ⟨.hbm, 1161, rfl⟩
abbrev main_while0b_v830 : Ref sig .tc := ⟨.hbm, 1162, rfl⟩
abbrev main_while0b_c_207 : Ref sig .tc := ⟨.hbm, 1163, rfl⟩
abbrev main_while0b_v831 : Ref sig .tc := ⟨.hbm, 1164, rfl⟩

abbrev nD : Nat := 1
abbrev τ : Topo := Topo.v7x

variable {F : FTy → Type} [FloatOps F]

abbrev main_while0_count : Scf.Loop 32 := ⟨0#32, 8#32, 1#32⟩
-- ==== Proof.Icp.lean ====
/-
  The registration step written once, over an arbitrary carrier: a number type with its operations (`Ops`). The carrier
  is instantiated three times: at vectors (what the kernel computes), at extended reals (one lane of it) and at reals.
-/
module

public import Idealize.ShloMosaic.Lib.Pointwise

@[expose] public section

noncomputable section

namespace Icp

/-- The operations of a carrier: the arithmetic, a constant from its word, the conditional on a comparison of two
    values, the indicator of `x < y`, and the rounding to the narrow format and back. -/
structure Ops (α : Type) where
  add : α → α → α
  sub : α → α → α
  mul : α → α → α
  div : α → α → α
  max : α → α → α
  sqrt : α → α
  abs : α → α
  nar : α → α
  lit : BitVec 32 → α
  iflt : α → α → α → α → α
  ifle : α → α → α → α → α
  ifge : α → α → α → α → α
  ifgt : α → α → α → α → α
  ifeq : α → α → α → α → α
  lt01 : α → α → α

/-- A triple. -/
structure V3 (α : Type) where
  x : α
  y : α
  z : α

/-- A 3×3 matrix, by rows. -/
abbrev M3 (α : Type) := V3 (V3 α)

namespace V3
variable {α β γ : Type}
/-- Entry by entry. -/
def map (f : α → β) (v : V3 α) : V3 β := ⟨f v.x, f v.y, f v.z⟩
/-- Two triples entry by entry. -/
def zip (f : α → β → γ) (u : V3 α) (v : V3 β) : V3 γ := ⟨f u.x v.x, f u.y v.y, f u.z v.z⟩
/-- The entry at an index. -/
def get (v : V3 α) : Fin 3 → α := ![v.x, v.y, v.z]
/-- The matrix of rows turned over. -/
def tr (m : M3 α) : M3 α := ⟨⟨m.x.x, m.y.x, m.z.x⟩, ⟨m.x.y, m.y.y, m.z.y⟩, ⟨m.x.z, m.y.z, m.z.z⟩⟩
end V3

variable {α β : Type}

/-- The scalar product, summed from the left. -/
def dot (o : Ops α) (u v : V3 α) : α := o.add (o.add (o.mul u.x v.x) (o.mul u.y v.y)) (o.mul u.z v.z)

/-- Cosine and sine of the Jacobi rotation for the entries `app`, `aqq`, `apq`. -/
def cosSin (o : Ops α) (app aqq apq : α) : α × α :=
  let one := o.lit 0x3F800000#32
  let zero := o.lit 0x00000000#32
  let tiny := o.lit 0x02081CEA#32
  let mag := o.abs apq
  let tau := o.div (o.mul (o.sub aqq app) (o.lit 0x3F000000#32)) (o.iflt mag tiny one apq)
  let t := o.div (o.ifge tau zero one (o.lit 0xBF800000#32)) (o.add (o.abs tau) (o.sqrt (o.add one (o.mul tau tau))))
  let c := o.div one (o.sqrt (o.add one (o.mul t t)))
  (o.iflt mag tiny one c, o.iflt mag tiny zero (o.mul t c))

/-- The rotated diagonal entry `(p, p)`. -/
def newPP (o : Ops α) (c s app aqq apq : α) : α :=
  o.add (o.sub (o.mul (o.mul c c) app) (o.mul (o.mul (o.mul (o.lit 0x40000000#32) s) c) apq)) (o.mul (o.mul s s) aqq)
/-- The rotated diagonal entry `(q, q)`. -/
def newQQ (o : Ops α) (c s app aqq apq : α) : α :=
  o.add (o.add (o.mul (o.mul s s) app) (o.mul (o.mul (o.mul (o.lit 0x40000000#32) s) c) apq)) (o.mul (o.mul c c) aqq)
/-- First coordinate of a rotated pair. -/
def turnP (o : Ops α) (c s x y : α) : α := o.sub (o.mul c x) (o.mul s y)
/-- Second coordinate of a rotated pair. -/
def turnQ (o : Ops α) (c s x y : α) : α := o.add (o.mul s x) (o.mul c y)

/-- A symmetric matrix in the course of its diagonalisation, with the eigenvectors so far (rows of `V`). -/
structure Eig (α : Type) where
  a00 : α
  a01 : α
  a02 : α
  a11 : α
  a12 : α
  a22 : α
  V : M3 α

/-- The rotation of axes 0 and 1. -/
def rot01 (o : Ops α) (e : Eig α) : Eig α :=
  let r := cosSin o e.a00 e.a11 e.a01
  { a00 := newPP o r.1 r.2 e.a00 e.a11 e.a01
    a11 := newQQ o r.1 r.2 e.a00 e.a11 e.a01
    a01 := o.lit 0x00000000#32
    a02 := turnP o r.1 r.2 e.a02 e.a12
    a12 := turnQ o r.1 r.2 e.a02 e.a12
    a22 := e.a22
    V := e.V.map fun v => ⟨turnP o r.1 r.2 v.x v.y, turnQ o r.1 r.2 v.x v.y, v.z⟩ }

/-- The rotation of axes 0 and 2. -/
def rot02 (o : Ops α) (e : Eig α) : Eig α :=
  let r := cosSin o e.a00 e.a22 e.a02
  { a00 := newPP o r.1 r.2 e.a00 e.a22 e.a02
    a22 := newQQ o r.1 r.2 e.a00 e.a22 e.a02
    a02 := o.lit 0x00000000#32
    a01 := turnP o r.1 r.2 e.a01 e.a12
    a12 := turnQ o r.1 r.2 e.a01 e.a12
    a11 := e.a11
    V := e.V.map fun v => ⟨turnP o r.1 r.2 v.x v.z, v.y, turnQ o r.1 r.2 v.x v.z⟩ }

/-- The rotation of axes 1 and 2. -/
def rot12 (o : Ops α) (e : Eig α) : Eig α :=
  let r := cosSin o e.a11 e.a22 e.a12
  { a11 := newPP o r.1 r.2 e.a11 e.a22 e.a12
    a22 := newQQ o r.1 r.2 e.a11 e.a22 e.a12
    a12 := o.lit 0x00000000#32
    a01 := turnP o r.1 r.2 e.a01 e.a02
    a02 := turnQ o r.1 r.2 e.a01 e.a02
    a00 := e.a00
    V := e.V.map fun v => ⟨v.x, turnP o r.1 r.2 v.y v.z, turnQ o r.1 r.2 v.y v.z⟩ }

/-- One sweep over the three pairs of axes. -/
def sweep (o : Ops α) (e : Eig α) : Eig α := rot12 o (rot02 o (rot01 o e))

/-- `Hᵀ H` and no rotation yet. -/
def eig0 (o : Ops α) (H : M3 α) : Eig α :=
  let one := o.lit 0x3F800000#32
  let zero := o.lit 0x00000000#32
  let h := V3.tr H
  { a00 := dot o h.x h.x, a01 := dot o h.x h.y, a02 := dot o h.x h.z
    a11 := dot o h.y h.y, a12 := dot o h.y h.z, a22 := dot o h.z h.z
    V := ⟨⟨one, zero, zero⟩, ⟨zero, one, zero⟩, ⟨zero, zero, one⟩⟩ }

/-- Five sweeps. -/
def diagonalise (o : Ops α) (H : M3 α) : Eig α := sweep o (sweep o (sweep o (sweep o (sweep o (eig0 o H)))))

/-- The determinant along the first row. -/
def det3 (o : Ops α) (H : M3 α) : α :=
  o.add (o.sub (o.mul H.x.x (o.sub (o.mul H.y.y H.z.z) (o.mul H.y.z H.z.y)))
               (o.mul H.x.y (o.sub (o.mul H.y.x H.z.z) (o.mul H.y.z H.z.x))))
        (o.mul H.x.z (o.sub (o.mul H.y.x H.z.y) (o.mul H.y.y H.z.x)))

/-- The index of the least of three values, the first of equals, as a number of the carrier. -/
def least (o : Ops α) (e : V3 α) : α :=
  let zero := o.lit 0x00000000#32
  let one := o.lit 0x3F800000#32
  let two := o.lit 0x40000000#32
  o.ifle e.x e.y (o.ifle e.x e.z zero two) (o.ifle e.y e.z one two)

/-- The signs: `d` at the least eigenvalue, one elsewhere. -/
def signs (o : Ops α) (e : V3 α) (d : α) : V3 α :=
  let m := least o e
  let one := o.lit 0x3F800000#32
  ⟨o.ifeq m (o.lit 0x00000000#32) d one, o.ifeq m (o.lit 0x3F800000#32) d one, o.ifeq m (o.lit 0x40000000#32) d one⟩

/-- The inverse singular values, kept away from zero. -/
def invSigma (o : Ops α) (e : V3 α) : V3 α :=
  e.map fun l => o.div (o.lit 0x3F800000#32) (o.sqrt (o.max l (o.lit 0x0DA24260#32)))

/-- The best rotation for the covariance `H`, given the eigenvalues `e` of `Hᵀ H` and its eigenvectors, the columns of
    `V`; `sgn` is the sign function. -/
def rotationFrom (o : Ops α) (sgn : α → α) (H : M3 α) (e : V3 α) (V : M3 α) : M3 α :=
  let d := signs o e (sgn (det3 o H))
  let si := invSigma o e
  let vt := V3.tr V
  let U : M3 α := H.map fun h => ⟨o.mul (dot o h vt.x) si.x, o.mul (dot o h vt.y) si.y, o.mul (dot o h vt.z) si.z⟩
  let Vb := V.map (V3.map o.nar)
  let Ub := U.map (V3.map o.nar)
  Vb.map fun v => Ub.map fun u =>
    o.add (o.add (o.mul (o.mul v.x d.x) u.x) (o.mul (o.mul v.y d.y) u.y)) (o.mul (o.mul v.z d.z) u.z)

/-- The best rotation for the covariance `H`. -/
def bestRotation (o : Ops α) (sgn : α → α) (H : M3 α) : M3 α :=
  let g := diagonalise o H
  rotationFrom o sgn H ⟨g.a00, g.a11, g.a22⟩ g.V

/-- What a point pair counts: nothing beyond the trimming distance, less than one beyond the Huber distance. -/
def weight (o : Ops α) (P N : V3 α) : α :=
  let one := o.lit 0x3F800000#32
  let r := V3.zip o.sub P N
  let dist := o.sqrt (o.add (dot o r r) (o.lit 0x2B8CBCCC#32))
  o.mul (o.lt01 dist (o.lit 0x40A00000#32)) (o.ifgt dist one (o.div one dist) one)

/-- The weighted means of the two clouds and the weighted covariance. `β` is the carrier of one value per point, `rsum`
    the sum over the points and `bc` the same value at every point. -/
def moments (ob : Ops β) (o : Ops α) (rsum : β → α) (bc : α → β) (P N : V3 β) : V3 α × V3 α × M3 α :=
  let w := weight ob P N
  let sw := o.add (rsum w) (o.lit 0x3089705F#32)
  let muP : V3 α := P.map fun p => o.div (rsum (ob.mul w p)) sw
  let muQ : V3 α := N.map fun p => o.div (rsum (ob.mul w p)) sw
  let wp := V3.zip (fun p u => ob.nar (ob.mul w (ob.sub p (bc u)))) P muP
  let qc := V3.zip (fun p u => ob.nar (ob.sub p (bc u))) N muQ
  (muP, muQ, wp.map fun p => qc.map fun q => rsum (ob.mul p q))

/-- A rigid motion: the rotation and the translation. -/
structure Pose (α : Type) where
  R : M3 α
  t : V3 α

/-- The pose `T` followed by the motion of rotation `R` that takes the mean `muP` to the mean `muQ`. -/
def composeWith (o : Ops α) (R : M3 α) (muP muQ : V3 α) (T : Pose α) : Pose α :=
  let Rn := R.map (V3.map o.nar)
  let mup := muP.map o.nar
  let tn := V3.zip (fun q r => o.sub q (dot o r mup)) muQ Rn
  let rt := V3.tr (T.R.map (V3.map o.nar))
  let tb := T.t.map o.nar
  { R := Rn.map fun r => ⟨dot o r rt.x, dot o r rt.y, dot o r rt.z⟩
    t := V3.zip (fun r n => o.add (dot o r tb) (o.nar n)) Rn tn }

/-- The pose after the motion that the moments call for. -/
def compose (o : Ops α) (sgn : α → α) (m : V3 α × V3 α × M3 α) (T : Pose α) : Pose α :=
  composeWith o (bestRotation o sgn m.2.2) m.1 m.2.1 T

/-- The scan points moved by a pose. -/
def moved (ob : Ops β) (nar : α → α) (bc : α → β) (S : V3 β) (T : Pose α) : V3 β :=
  V3.zip (fun r t => ob.add (ob.add (ob.add (ob.mul S.x (bc (nar r.x))) (ob.mul S.y (bc (nar r.y))))
    (ob.mul S.z (bc (nar r.z)))) (bc t)) T.R T.t

end Icp

end
-- ==== Proof.Math.Real.lean ====
/-
  The registration step over the reals, and what it is to read a carrier's values as reals: `Like o ev` says that the
  operations `o`, looked at through `ev`, are those of the extended reals, and each theorem `is_…` below says that a
  part of the step, at arguments that are real numbers, is the real number that the same part is over the reals.
-/
module

public import proofs.«01_k».proof.Proof.Icp
public import Idealize.ShloMosaic.PureOps.Ideal.Laws

@[expose] public section

noncomputable section

namespace Icp

open Idealize.ShloMosaic

/-- The real number a word denotes. -/
def lit (b : BitVec 32) : ℝ := (Ideal.ofBits .f32 b).toReal

/-- A word whose exponent is not all ones denotes a real number. -/
theorem lit_coe (b : BitVec 32) (h : (b.extractLsb' 23 8).toNat ≠ 255 := by decide) :
    Ideal.ofBits .f32 b = (lit b : EReal) := by
  unfold lit
  simp only [Ideal.ofBits, Ideal.ieee]
  rw [if_neg (by simpa using h)]
  split_ifs <;> simp only [EReal.toReal_coe]

theorem lit_zero : lit 0x00000000#32 = 0 := by simp [lit, Ideal.ofBits, Ideal.ieee]
theorem lit_one : lit 0x3F800000#32 = 1 := by simp [lit, Ideal.ofBits, Ideal.ieee, -EReal.coe_mul]; norm_num
theorem lit_neg_one : lit 0xBF800000#32 = -1 := by simp [lit, Ideal.ofBits, Ideal.ieee, -EReal.coe_mul]; norm_num
theorem lit_two : lit 0x40000000#32 = 2 := by simp [lit, Ideal.ofBits, Ideal.ieee, -EReal.coe_mul]; norm_num
theorem lit_neg_two : lit 0xC0000000#32 = -2 := by simp [lit, Ideal.ofBits, Ideal.ieee, -EReal.coe_mul]; norm_num
theorem lit_half : lit 0x3F000000#32 = 1 / 2 := by simp [lit, Ideal.ofBits, Ideal.ieee, -EReal.coe_mul]; norm_num
theorem lit_2048 : lit 0x45000000#32 = 2048 := by simp [lit, Ideal.ofBits, Ideal.ieee, -EReal.coe_mul]; norm_num

/-- A word of sign zero and exponent neither zero nor all ones denotes a positive number. -/
theorem lit_pos (b : BitVec 32) (h : (b.extractLsb' 23 8).toNat ≠ 255 := by decide)
    (h0 : (b.extractLsb' 23 8).toNat ≠ 0 := by decide) (hs : b.extractLsb' 31 1 = 0#1 := by decide) : 0 < lit b := by
  unfold lit
  simp only [Ideal.ofBits, Ideal.ieee]
  rw [if_neg (by simpa using h), if_neg (by simpa using h0), EReal.toReal_coe]
  rw [if_neg (by show ¬ ((b.extractLsb' 31 1 == 1#1) = true); rw [hs]; decide)]
  positivity

/-- The operations of the reals. -/
def real : Ops ℝ where
  add := (· + ·)
  sub := (· - ·)
  mul := (· * ·)
  div := (· / ·)
  max := max
  sqrt := Real.sqrt
  abs := fun x => |x|
  nar := id
  lit := lit
  iflt x y a b := if x < y then a else b
  ifle x y a b := if x ≤ y then a else b
  ifge x y a b := if x ≥ y then a else b
  ifgt x y a b := if x > y then a else b
  ifeq x y a b := if x = y then a else b
  lt01 x y := if x < y then 1 else 0

/-- The operations, looked at through `ev`, are those of the extended reals. -/
structure Like {α : Type} (o : Ops α) (ev : α → EReal) : Prop where
  add' : ∀ x y, ev (o.add x y) = ev x + ev y
  sub' : ∀ x y, ev (o.sub x y) = ev x - ev y
  mul' : ∀ x y, ev (o.mul x y) = ev x * ev y
  div' : ∀ x y, ev (o.div x y) = Ideal.div (ev x) (ev y)
  max' : ∀ x y, ev (o.max x y) = max (ev x) (ev y)
  sqrt' : ∀ x, ev (o.sqrt x) = Ideal.sqrt (ev x)
  abs' : ∀ x, ev (o.abs x) = max (ev x) (-ev x)
  nar' : ∀ x, ev (o.nar x) = ev x
  lit' : ∀ b, ev (o.lit b) = Ideal.ofBits .f32 b
  iflt' : ∀ x y a b, ev (o.iflt x y a b) = if ev x < ev y then ev a else ev b
  ifle' : ∀ x y a b, ev (o.ifle x y a b) = if ev x ≤ ev y then ev a else ev b
  ifge' : ∀ x y a b, ev (o.ifge x y a b) = if ev x ≥ ev y then ev a else ev b
  ifgt' : ∀ x y a b, ev (o.ifgt x y a b) = if ev x > ev y then ev a else ev b
  ifeq' : ∀ x y a b, ev (o.ifeq x y a b) = if ev x = ev y then ev a else ev b
  lt01' : ∀ x y, ev (o.lt01 x y) = if ev x < ev y then 1 else 0

/-- The value `x` is the real number `r`. -/
def Is {α : Type} (ev : α → EReal) (x : α) (r : ℝ) : Prop := ev x = (r : EReal)

theorem coe_max (r s : ℝ) : ((max r s : ℝ) : EReal) = max (r : EReal) s := EReal.coe_strictMono.monotone.map_max
theorem coe_abs (r : ℝ) : ((|r| : ℝ) : EReal) = max (r : EReal) (-(r : EReal)) := by
  rw [abs_eq_max_neg, coe_max, EReal.coe_neg]
theorem div_coe (r s : ℝ) (h : s ≠ 0) : Ideal.div (r : EReal) s = ((r / s : ℝ) : EReal) := by
  unfold Ideal.div
  rw [if_neg (by exact_mod_cast h), div_eq_mul_inv, EReal.coe_mul, EReal.coe_inv]
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

namespace Like
variable {α : Type} {o : Ops α} {ev : α → EReal} (h : Like o ev) {x y a b : α} {r s t u : ℝ}
include h

theorem add (hx : Is ev x r) (hy : Is ev y s) : Is ev (o.add x y) (real.add r s) := by
  unfold Is at *; rw [h.add', hx, hy]; exact (EReal.coe_add r s).symm
theorem sub (hx : Is ev x r) (hy : Is ev y s) : Is ev (o.sub x y) (real.sub r s) := by
  unfold Is at *; rw [h.sub', hx, hy]; exact (EReal.coe_sub r s).symm
theorem mul (hx : Is ev x r) (hy : Is ev y s) : Is ev (o.mul x y) (real.mul r s) := by
  unfold Is at *; rw [h.mul', hx, hy]; exact (EReal.coe_mul r s).symm
theorem div (hx : Is ev x r) (hy : Is ev y s) (hs : s ≠ 0) : Is ev (o.div x y) (real.div r s) := by
  unfold Is at *; rw [h.div', hx, hy]; exact div_coe r s hs
theorem max (hx : Is ev x r) (hy : Is ev y s) : Is ev (o.max x y) (real.max r s) := by
  unfold Is at *; rw [h.max', hx, hy]; exact (coe_max r s).symm
theorem sqrt (hx : Is ev x r) (hr : 0 ≤ r) : Is ev (o.sqrt x) (real.sqrt r) := by
  unfold Is at *; rw [h.sqrt', hx]; exact sqrt_coe r hr
theorem abs (hx : Is ev x r) : Is ev (o.abs x) (real.abs r) := by
  unfold Is at *; rw [h.abs', hx]; exact (coe_abs r).symm
theorem nar (hx : Is ev x r) : Is ev (o.nar x) (real.nar r) := by
  unfold Is at *; rw [h.nar', hx]; rfl
theorem lit (w : BitVec 32) (hw : (w.extractLsb' 23 8).toNat ≠ 255 := by decide) : Is ev (o.lit w) (real.lit w) := by
  unfold Is; rw [h.lit']; exact lit_coe w hw
theorem iflt (hx : Is ev x r) (hy : Is ev y s) (ha : Is ev a t) (hb : Is ev b u) :
    Is ev (o.iflt x y a b) (real.iflt r s t u) := by
  unfold Is at *; rw [h.iflt', hx, hy, ha, hb]; simp only [EReal.coe_lt_coe_iff, real]; split_ifs <;> rfl
theorem ifle (hx : Is ev x r) (hy : Is ev y s) (ha : Is ev a t) (hb : Is ev b u) :
    Is ev (o.ifle x y a b) (real.ifle r s t u) := by
  unfold Is at *; rw [h.ifle', hx, hy, ha, hb]; simp only [EReal.coe_le_coe_iff, real]; split_ifs <;> rfl
theorem ifge (hx : Is ev x r) (hy : Is ev y s) (ha : Is ev a t) (hb : Is ev b u) :
    Is ev (o.ifge x y a b) (real.ifge r s t u) := by
  unfold Is at *; rw [h.ifge', hx, hy, ha, hb]; simp only [ge_iff_le, EReal.coe_le_coe_iff, real]; split_ifs <;> rfl
theorem ifgt (hx : Is ev x r) (hy : Is ev y s) (ha : Is ev a t) (hb : Is ev b u) :
    Is ev (o.ifgt x y a b) (real.ifgt r s t u) := by
  unfold Is at *; rw [h.ifgt', hx, hy, ha, hb]; simp only [gt_iff_lt, EReal.coe_lt_coe_iff, real]; split_ifs <;> rfl
theorem ifeq (hx : Is ev x r) (hy : Is ev y s) (ha : Is ev a t) (hb : Is ev b u) :
    Is ev (o.ifeq x y a b) (real.ifeq r s t u) := by
  unfold Is at *; rw [h.ifeq', hx, hy, ha, hb]; simp only [EReal.coe_eq_coe_iff, real]; split_ifs <;> rfl
theorem lt01 (hx : Is ev x r) (hy : Is ev y s) : Is ev (o.lt01 x y) (real.lt01 r s) := by
  unfold Is at *; rw [h.lt01', hx, hy]; simp only [EReal.coe_lt_coe_iff, real]; split_ifs <;> rfl
end Like

/-- A triple of real numbers. -/
structure Is3 {α : Type} (ev : α → EReal) (v : V3 α) (w : V3 ℝ) : Prop where
  x : Is ev v.x w.x
  y : Is ev v.y w.y
  z : Is ev v.z w.z

/-- A matrix of real numbers. -/
structure IsM {α : Type} (ev : α → EReal) (m : M3 α) (n : M3 ℝ) : Prop where
  x : Is3 ev m.x n.x
  y : Is3 ev m.y n.y
  z : Is3 ev m.z n.z

/-- The matrix turned over. -/
theorem IsM.tr {α : Type} {ev : α → EReal} {m : M3 α} {n : M3 ℝ} (h : IsM ev m n) : IsM ev (V3.tr m) (V3.tr n) :=
  ⟨⟨h.x.x, h.y.x, h.z.x⟩, ⟨h.x.y, h.y.y, h.z.y⟩, ⟨h.x.z, h.y.z, h.z.z⟩⟩

/-- A matrix being diagonalised, all its entries real numbers. -/
structure IsEig {α : Type} (ev : α → EReal) (e : Eig α) (f : Eig ℝ) : Prop where
  a00 : Is ev e.a00 f.a00
  a01 : Is ev e.a01 f.a01
  a02 : Is ev e.a02 f.a02
  a11 : Is ev e.a11 f.a11
  a12 : Is ev e.a12 f.a12
  a22 : Is ev e.a22 f.a22
  V : IsM ev e.V f.V

/-- A pose of real numbers. -/
structure IsPose {α : Type} (ev : α → EReal) (T : Pose α) (U : Pose ℝ) : Prop where
  R : IsM ev T.R U.R
  t : Is3 ev T.t U.t

/-- A scalar product of a vector with itself is not negative. -/
theorem dot_self_nonneg (v : V3 ℝ) : 0 ≤ dot real v v := by
  show 0 ≤ v.x * v.x + v.y * v.y + v.z * v.z
  nlinarith [mul_self_nonneg v.x, mul_self_nonneg v.y, mul_self_nonneg v.z]

variable {α : Type} {o : Ops α} {ev : α → EReal} (h : Like o ev)
include h

theorem is_dot {u v : V3 α} {u' v' : V3 ℝ} (hu : Is3 ev u u') (hv : Is3 ev v v') :
    Is ev (dot o u v) (dot real u' v') :=
  h.add (h.add (h.mul hu.x hv.x) (h.mul hu.y hv.y)) (h.mul hu.z hv.z)

theorem is_cosSin {p q w : α} {p' q' w' : ℝ} (hp : Is ev p p') (hq : Is ev q q') (hw : Is ev w w') :
    Is ev (cosSin o p q w).1 (cosSin real p' q' w').1 ∧ Is ev (cosSin o p q w).2 (cosSin real p' q' w').2 := by
  have hsafe : real.iflt (real.abs w') (real.lit 0x02081CEA#32) (real.lit 0x3F800000#32) w' ≠ 0 := by
    show (if |w'| < lit 0x02081CEA#32 then lit 0x3F800000#32 else w') ≠ 0
    split_ifs with hlt
    · rw [lit_one]; exact one_ne_zero
    · intro h0
      rw [h0, abs_zero] at hlt
      exact hlt (lit_pos 0x02081CEA#32)
  have hsq : ∀ x : ℝ, 0 < real.add (real.lit 0x3F800000#32) (real.mul x x) := by
    intro x
    show 0 < lit 0x3F800000#32 + x * x
    rw [lit_one]; nlinarith [mul_self_nonneg x]
  have hone := h.lit 0x3F800000#32
  have hmag := h.iflt (h.abs hw) (h.lit 0x02081CEA#32) hone hw
  have htau := h.div (h.mul (h.sub hq hp) (h.lit 0x3F000000#32)) hmag hsafe
  have hroot := h.sqrt (h.add hone (h.mul htau htau)) (hsq _).le
  have ht := h.div (h.ifge htau (h.lit 0x00000000#32) hone (h.lit 0xBF800000#32)) (h.add (h.abs htau) hroot)
    (ne_of_gt (add_pos_of_nonneg_of_pos (abs_nonneg _) (Real.sqrt_pos.mpr (hsq _))))
  have hc := h.div hone (h.sqrt (h.add hone (h.mul ht ht)) (hsq _).le) (ne_of_gt (Real.sqrt_pos.mpr (hsq _)))
  exact ⟨h.iflt (h.abs hw) (h.lit 0x02081CEA#32) hone hc,
    h.iflt (h.abs hw) (h.lit 0x02081CEA#32) (h.lit 0x00000000#32) (h.mul ht hc)⟩

theorem is_newPP {c s p q w : α} {c' s' p' q' w' : ℝ} (hc : Is ev c c') (hs : Is ev s s') (hp : Is ev p p')
    (hq : Is ev q q') (hw : Is ev w w') : Is ev (newPP o c s p q w) (newPP real c' s' p' q' w') :=
  h.add (h.sub (h.mul (h.mul hc hc) hp) (h.mul (h.mul (h.mul (h.lit 0x40000000#32) hs) hc) hw))
    (h.mul (h.mul hs hs) hq)

theorem is_newQQ {c s p q w : α} {c' s' p' q' w' : ℝ} (hc : Is ev c c') (hs : Is ev s s') (hp : Is ev p p')
    (hq : Is ev q q') (hw : Is ev w w') : Is ev (newQQ o c s p q w) (newQQ real c' s' p' q' w') :=
  h.add (h.add (h.mul (h.mul hs hs) hp) (h.mul (h.mul (h.mul (h.lit 0x40000000#32) hs) hc) hw))
    (h.mul (h.mul hc hc) hq)

theorem is_turnP {c s p q : α} {c' s' p' q' : ℝ} (hc : Is ev c c') (hs : Is ev s s') (hp : Is ev p p')
    (hq : Is ev q q') : Is ev (turnP o c s p q) (turnP real c' s' p' q') := h.sub (h.mul hc hp) (h.mul hs hq)

theorem is_turnQ {c s p q : α} {c' s' p' q' : ℝ} (hc : Is ev c c') (hs : Is ev s s') (hp : Is ev p p')
    (hq : Is ev q q') : Is ev (turnQ o c s p q) (turnQ real c' s' p' q') := h.add (h.mul hs hp) (h.mul hc hq)

theorem is_rot01 {e : Eig α} {f : Eig ℝ} (he : IsEig ev e f) : IsEig ev (rot01 o e) (rot01 real f) := by
  obtain ⟨hc, hs⟩ := is_cosSin h he.a00 he.a11 he.a01
  exact ⟨is_newPP h hc hs he.a00 he.a11 he.a01, h.lit _, is_turnP h hc hs he.a02 he.a12,
    is_newQQ h hc hs he.a00 he.a11 he.a01, is_turnQ h hc hs he.a02 he.a12, he.a22,
    ⟨⟨is_turnP h hc hs he.V.x.x he.V.x.y, is_turnQ h hc hs he.V.x.x he.V.x.y, he.V.x.z⟩,
     ⟨is_turnP h hc hs he.V.y.x he.V.y.y, is_turnQ h hc hs he.V.y.x he.V.y.y, he.V.y.z⟩,
     ⟨is_turnP h hc hs he.V.z.x he.V.z.y, is_turnQ h hc hs he.V.z.x he.V.z.y, he.V.z.z⟩⟩⟩

theorem is_rot02 {e : Eig α} {f : Eig ℝ} (he : IsEig ev e f) : IsEig ev (rot02 o e) (rot02 real f) := by
  obtain ⟨hc, hs⟩ := is_cosSin h he.a00 he.a22 he.a02
  exact ⟨is_newPP h hc hs he.a00 he.a22 he.a02, is_turnP h hc hs he.a01 he.a12, h.lit _, he.a11,
    is_turnQ h hc hs he.a01 he.a12, is_newQQ h hc hs he.a00 he.a22 he.a02,
    ⟨⟨is_turnP h hc hs he.V.x.x he.V.x.z, he.V.x.y, is_turnQ h hc hs he.V.x.x he.V.x.z⟩,
     ⟨is_turnP h hc hs he.V.y.x he.V.y.z, he.V.y.y, is_turnQ h hc hs he.V.y.x he.V.y.z⟩,
     ⟨is_turnP h hc hs he.V.z.x he.V.z.z, he.V.z.y, is_turnQ h hc hs he.V.z.x he.V.z.z⟩⟩⟩

theorem is_rot12 {e : Eig α} {f : Eig ℝ} (he : IsEig ev e f) : IsEig ev (rot12 o e) (rot12 real f) := by
  obtain ⟨hc, hs⟩ := is_cosSin h he.a11 he.a22 he.a12
  exact ⟨he.a00, is_turnP h hc hs he.a01 he.a02, is_turnQ h hc hs he.a01 he.a02,
    is_newPP h hc hs he.a11 he.a22 he.a12, h.lit _, is_newQQ h hc hs he.a11 he.a22 he.a12,
    ⟨⟨he.V.x.x, is_turnP h hc hs he.V.x.y he.V.x.z, is_turnQ h hc hs he.V.x.y he.V.x.z⟩,
     ⟨he.V.y.x, is_turnP h hc hs he.V.y.y he.V.y.z, is_turnQ h hc hs he.V.y.y he.V.y.z⟩,
     ⟨he.V.z.x, is_turnP h hc hs he.V.z.y he.V.z.z, is_turnQ h hc hs he.V.z.y he.V.z.z⟩⟩⟩

theorem is_sweep {e : Eig α} {f : Eig ℝ} (he : IsEig ev e f) : IsEig ev (sweep o e) (sweep real f) :=
  is_rot12 h (is_rot02 h (is_rot01 h he))

theorem is_eig0 {H : M3 α} {K : M3 ℝ} (hH : IsM ev H K) : IsEig ev (eig0 o H) (eig0 real K) := by
  have ht := hH.tr
  have h1 := h.lit 0x3F800000#32
  have h0 := h.lit 0x00000000#32
  exact ⟨is_dot h ht.x ht.x, is_dot h ht.x ht.y, is_dot h ht.x ht.z, is_dot h ht.y ht.y, is_dot h ht.y ht.z,
    is_dot h ht.z ht.z, ⟨⟨h1, h0, h0⟩, ⟨h0, h1, h0⟩, ⟨h0, h0, h1⟩⟩⟩

theorem is_diagonalise {H : M3 α} {K : M3 ℝ} (hH : IsM ev H K) : IsEig ev (diagonalise o H) (diagonalise real K) :=
  is_sweep h (is_sweep h (is_sweep h (is_sweep h (is_sweep h (is_eig0 h hH)))))

theorem is_det3 {H : M3 α} {K : M3 ℝ} (k : IsM ev H K) : Is ev (det3 o H) (det3 real K) :=
  h.add (h.sub (h.mul k.x.x (h.sub (h.mul k.y.y k.z.z) (h.mul k.y.z k.z.y)))
      (h.mul k.x.y (h.sub (h.mul k.y.x k.z.z) (h.mul k.y.z k.z.x))))
    (h.mul k.x.z (h.sub (h.mul k.y.x k.z.y) (h.mul k.y.y k.z.x)))

theorem is_least {e : V3 α} {f : V3 ℝ} (he : Is3 ev e f) : Is ev (least o e) (least real f) :=
  h.ifle he.x he.y (h.ifle he.x he.z (h.lit _) (h.lit _)) (h.ifle he.y he.z (h.lit _) (h.lit _))

theorem is_signs {e : V3 α} {f : V3 ℝ} {d : α} {d' : ℝ} (he : Is3 ev e f) (hd : Is ev d d') :
    Is3 ev (signs o e d) (signs real f d') :=
  ⟨h.ifeq (is_least h he) (h.lit _) hd (h.lit _), h.ifeq (is_least h he) (h.lit _) hd (h.lit _),
    h.ifeq (is_least h he) (h.lit _) hd (h.lit _)⟩

omit h in
/-- A singular value kept away from zero is positive. -/
theorem sigma_pos (l : ℝ) : 0 < real.sqrt (real.max l (real.lit 0x0DA24260#32)) :=
  Real.sqrt_pos.mpr (lt_max_of_lt_right (lit_pos 0x0DA24260#32))

theorem is_invSigma {e : V3 α} {f : V3 ℝ} (he : Is3 ev e f) : Is3 ev (invSigma o e) (invSigma real f) := by
  have key : ∀ {x : α} {r : ℝ}, Is ev x r →
      Is ev (o.div (o.lit 0x3F800000#32) (o.sqrt (o.max x (o.lit 0x0DA24260#32))))
        (real.div (real.lit 0x3F800000#32) (real.sqrt (real.max r (real.lit 0x0DA24260#32)))) := fun hx =>
    h.div (h.lit _) (h.sqrt (h.max hx (h.lit _)) (le_max_of_le_right (lit_pos 0x0DA24260#32).le)) (sigma_pos _).ne'
  exact ⟨key he.x, key he.y, key he.z⟩

theorem is_rotationFrom {sgn : α → α} {sgn' : ℝ → ℝ} (hsgn : ∀ {x r}, Is ev x r → Is ev (sgn x) (sgn' r))
    {H : M3 α} {K : M3 ℝ} (hH : IsM ev H K) {e : V3 α} {f : V3 ℝ} (he : Is3 ev e f) {V : M3 α} {W : M3 ℝ}
    (hV : IsM ev V W) : IsM ev (rotationFrom o sgn H e V) (rotationFrom real sgn' K f W) := by
  have hd := is_signs h he (hsgn (is_det3 h hH))
  have hi := is_invSigma h he
  have ht := hV.tr
  have row : ∀ {u : V3 α} {u' : V3 ℝ}, Is3 ev u u' → Is3 ev
      ⟨o.nar (o.mul (dot o u (V3.tr V).x) (invSigma o e).x), o.nar (o.mul (dot o u (V3.tr V).y) (invSigma o e).y),
        o.nar (o.mul (dot o u (V3.tr V).z) (invSigma o e).z)⟩
      ⟨real.nar (real.mul (dot real u' (V3.tr W).x) (invSigma real f).x),
        real.nar (real.mul (dot real u' (V3.tr W).y) (invSigma real f).y),
        real.nar (real.mul (dot real u' (V3.tr W).z) (invSigma real f).z)⟩ := fun hu =>
    ⟨h.nar (h.mul (is_dot h hu ht.x) hi.x), h.nar (h.mul (is_dot h hu ht.y) hi.y),
      h.nar (h.mul (is_dot h hu ht.z) hi.z)⟩
  have entry : ∀ {v u : V3 α} {v' u' : V3 ℝ}, Is3 ev v v' → Is3 ev u u' → Is ev
      (o.add (o.add (o.mul (o.mul (o.nar v.x) (signs o e (sgn (det3 o H))).x) u.x)
        (o.mul (o.mul (o.nar v.y) (signs o e (sgn (det3 o H))).y) u.y))
        (o.mul (o.mul (o.nar v.z) (signs o e (sgn (det3 o H))).z) u.z))
      (real.add (real.add (real.mul (real.mul (real.nar v'.x) (signs real f (sgn' (det3 real K))).x) u'.x)
        (real.mul (real.mul (real.nar v'.y) (signs real f (sgn' (det3 real K))).y) u'.y))
        (real.mul (real.mul (real.nar v'.z) (signs real f (sgn' (det3 real K))).z) u'.z)) := fun hv hu =>
    h.add (h.add (h.mul (h.mul (h.nar hv.x) hd.x) hu.x) (h.mul (h.mul (h.nar hv.y) hd.y) hu.y))
      (h.mul (h.mul (h.nar hv.z) hd.z) hu.z)
  exact ⟨⟨entry hV.x (row hH.x), entry hV.x (row hH.y), entry hV.x (row hH.z)⟩,
    ⟨entry hV.y (row hH.x), entry hV.y (row hH.y), entry hV.y (row hH.z)⟩,
    ⟨entry hV.z (row hH.x), entry hV.z (row hH.y), entry hV.z (row hH.z)⟩⟩

theorem is_bestRotation {sgn : α → α} {sgn' : ℝ → ℝ} (hsgn : ∀ {x r}, Is ev x r → Is ev (sgn x) (sgn' r))
    {H : M3 α} {K : M3 ℝ} (hH : IsM ev H K) : IsM ev (bestRotation o sgn H) (bestRotation real sgn' K) :=
  have g := is_diagonalise h hH
  is_rotationFrom h hsgn hH (e := ⟨_, _, _⟩) (f := ⟨_, _, _⟩) ⟨g.a00, g.a11, g.a22⟩ g.V

omit h in
/-- A distance, kept away from zero, is positive. -/
theorem dist_pos (P N : V3 ℝ) : 0 < real.add (dot real (V3.zip real.sub P N) (V3.zip real.sub P N)) (real.lit 0x2B8CBCCC#32) :=
  add_pos_of_nonneg_of_pos (dot_self_nonneg _) (lit_pos 0x2B8CBCCC#32)

theorem is_weight {P N : V3 α} {P' N' : V3 ℝ} (hP : Is3 ev P P') (hN : Is3 ev N N') :
    Is ev (weight o P N) (weight real P' N') := by
  have hr : Is3 ev (V3.zip o.sub P N) (V3.zip real.sub P' N') :=
    ⟨h.sub hP.x hN.x, h.sub hP.y hN.y, h.sub hP.z hN.z⟩
  have hd := h.sqrt (h.add (is_dot h hr hr) (h.lit 0x2B8CBCCC#32)) (dist_pos P' N').le
  exact h.mul (h.lt01 hd (h.lit _)) (h.ifgt hd (h.lit _)
    (h.div (h.lit _) hd (Real.sqrt_pos.mpr (dist_pos P' N')).ne') (h.lit _))

theorem is_composeWith {R : M3 α} {R' : M3 ℝ} (hR : IsM ev R R') {p q : V3 α} {p' q' : V3 ℝ} (hp : Is3 ev p p')
    (hq : Is3 ev q q') {T : Pose α} {T' : Pose ℝ} (hT : IsPose ev T T') :
    IsPose ev (composeWith o R p q T) (composeWith real R' p' q' T') := by
  have nar3 : ∀ {v : V3 α} {v' : V3 ℝ}, Is3 ev v v' → Is3 ev (v.map o.nar) (v'.map real.nar) := fun hv =>
    ⟨h.nar hv.x, h.nar hv.y, h.nar hv.z⟩
  have narM : ∀ {v : M3 α} {v' : M3 ℝ}, IsM ev v v' → IsM ev (v.map (V3.map o.nar)) (v'.map (V3.map real.nar)) :=
    fun hv => ⟨nar3 hv.x, nar3 hv.y, nar3 hv.z⟩
  have hRn := narM hR
  have hmp := nar3 hp
  have hrt := (narM hT.R).tr
  have htb := nar3 hT.t
  exact ⟨⟨⟨is_dot h hRn.x hrt.x, is_dot h hRn.x hrt.y, is_dot h hRn.x hrt.z⟩,
      ⟨is_dot h hRn.y hrt.x, is_dot h hRn.y hrt.y, is_dot h hRn.y hrt.z⟩,
      ⟨is_dot h hRn.z hrt.x, is_dot h hRn.z hrt.y, is_dot h hRn.z hrt.z⟩⟩,
    ⟨h.add (is_dot h hRn.x htb) (h.nar (h.sub hq.x (is_dot h hRn.x hmp))),
      h.add (is_dot h hRn.y htb) (h.nar (h.sub hq.y (is_dot h hRn.y hmp))),
      h.add (is_dot h hRn.z htb) (h.nar (h.sub hq.z (is_dot h hRn.z hmp)))⟩⟩

end Icp

end
-- ==== Proof.Math.Moments.lean ====
/-
  The weighted moments and the whole step over the reals, the points numbered by a finite type, and the reading of a
  carrier's moments as these.
-/
module

public import proofs.«01_k».proof.Proof.Math.Real

@[expose] public section

noncomputable section

namespace Icp

open Idealize.ShloMosaic

variable {ι : Type}

/-- The operations of the reals, point by point. -/
def pts (ι : Type) : Ops (ι → ℝ) where
  add f g n := f n + g n
  sub f g n := f n - g n
  mul f g n := f n * g n
  div f g n := f n / g n
  max f g n := max (f n) (g n)
  sqrt f n := Real.sqrt (f n)
  abs f n := |f n|
  nar f := f
  lit b _ := lit b
  iflt f g a b n := real.iflt (f n) (g n) (a n) (b n)
  ifle f g a b n := real.ifle (f n) (g n) (a n) (b n)
  ifge f g a b n := real.ifge (f n) (g n) (a n) (b n)
  ifgt f g a b n := real.ifgt (f n) (g n) (a n) (b n)
  ifeq f g a b n := real.ifeq (f n) (g n) (a n) (b n)
  lt01 f g n := real.lt01 (f n) (g n)

/-- The triple of one point. -/
def at' (n : ι) (v : V3 (ι → ℝ)) : V3 ℝ := v.map fun f => f n

/-- The sign of a real number. -/
def sign (x : ℝ) : ℝ := if 0 < |x| then (if x < 0 then -1 else 1) else x

/-- A weight is not negative. -/
theorem weight_nonneg (P N : V3 ℝ) : 0 ≤ weight real P N := by
  have hd := (Real.sqrt_pos.mpr (dist_pos P N)).le
  refine mul_nonneg ?_ ?_
  · show (0 : ℝ) ≤ if _ then 1 else 0
    split_ifs <;> norm_num
  · show (0 : ℝ) ≤ if _ then _ else lit 0x3F800000#32
    split_ifs
    · exact div_nonneg (lit_pos 0x3F800000#32).le hd
    · exact (lit_pos 0x3F800000#32).le

variable [Fintype ι]

/-- The moments of two clouds of points. -/
abbrev momentsR (P N : V3 (ι → ℝ)) : V3 ℝ × V3 ℝ × M3 ℝ :=
  moments (pts ι) real (fun f => ∑ n, f n) (fun r _ => r) P N

/-- The total weight, kept away from zero. -/
def total (P N : V3 (ι → ℝ)) : ℝ := (∑ n, weight real (at' n P) (at' n N)) + lit 0x3089705F#32

theorem total_pos (P N : V3 (ι → ℝ)) : 0 < total P N :=
  add_pos_of_nonneg_of_pos (Finset.sum_nonneg fun _ _ => weight_nonneg _ _) (lit_pos 0x3089705F#32)

/-- The points moved by a pose. -/
abbrev movedR (S : V3 (ι → ℝ)) (T : Pose ℝ) : V3 (ι → ℝ) := moved (pts ι) real.nar (fun r _ => r) S T

/-- One step: the pose after the motion that takes the moved points `P` to the points `N`. -/
abbrev stepR (P N : V3 (ι → ℝ)) (T : Pose ℝ) : Pose ℝ := compose real sign (momentsR P N) T

variable {α β : Type} {o : Ops α} {ev : α → EReal} (h : Like o ev) {ob : Ops β} {evb : ι → β → EReal}
  (hb : ∀ n, Like ob (evb n))

/-- The value at every point. -/
abbrev IsB (evb : ι → β → EReal) (x : β) (f : ι → ℝ) : Prop := ∀ n, Is (evb n) x (f n)
/-- A triple at every point. -/
abbrev IsB3 (evb : ι → β → EReal) (x : V3 β) (f : V3 (ι → ℝ)) : Prop := ∀ n, Is3 (evb n) x (at' n f)

include h hb

theorem is_moments {rsum : β → α} {bc : α → β} (hrsum : ∀ {x f}, IsB evb x f → Is ev (rsum x) (∑ n, f n))
    (hbc : ∀ {x r}, Is ev x r → IsB evb (bc x) fun _ => r) {P N : V3 β} {P' N' : V3 (ι → ℝ)}
    (hP : IsB3 evb P P') (hN : IsB3 evb N N') :
    Is3 ev (moments ob o rsum bc P N).1 (momentsR P' N').1 ∧ Is3 ev (moments ob o rsum bc P N).2.1 (momentsR P' N').2.1 ∧
      IsM ev (moments ob o rsum bc P N).2.2 (momentsR P' N').2.2 := by
  have hw : IsB evb (weight ob P N) fun n => weight real (at' n P') (at' n N') := fun n =>
    is_weight (hb n) (hP n) (hN n)
  have hsw := h.add (hrsum hw) (h.lit 0x3089705F#32)
  have mean : ∀ {x : β} {f : ι → ℝ}, IsB evb x f → Is ev (o.div (rsum (ob.mul (weight ob P N) x))
      (o.add (rsum (weight ob P N)) (o.lit 0x3089705F#32)))
      (real.div (∑ n, weight real (at' n P') (at' n N') * f n) (total P' N')) := fun hx =>
    h.div (hrsum fun n => (hb n).mul (hw n) (hx n)) hsw (total_pos P' N').ne'
  have hpx : IsB evb P.x P'.x := fun n => (hP n).x
  have hpy : IsB evb P.y P'.y := fun n => (hP n).y
  have hpz : IsB evb P.z P'.z := fun n => (hP n).z
  have hnx : IsB evb N.x N'.x := fun n => (hN n).x
  have hny : IsB evb N.y N'.y := fun n => (hN n).y
  have hnz : IsB evb N.z N'.z := fun n => (hN n).z
  have wp : ∀ {x : β} {f : ι → ℝ} {u : α} {r : ℝ}, IsB evb x f → Is ev u r →
      IsB evb (ob.nar (ob.mul (weight ob P N) (ob.sub x (bc u))))
        fun n => weight real (at' n P') (at' n N') * (f n - r) := fun hx hu n =>
    (hb n).nar ((hb n).mul (hw n) ((hb n).sub (hx n) (hbc hu n)))
  have qc : ∀ {x : β} {f : ι → ℝ} {u : α} {r : ℝ}, IsB evb x f → Is ev u r →
      IsB evb (ob.nar (ob.sub x (bc u))) fun n => f n - r := fun hx hu n =>
    (hb n).nar ((hb n).sub (hx n) (hbc hu n))
  have pr : ∀ {x y : β} {f g : ι → ℝ}, IsB evb x f → IsB evb y g →
      Is ev (rsum (ob.mul x y)) (∑ n, f n * g n) := fun hx hy => hrsum fun n => (hb n).mul (hx n) (hy n)
  have p0 := wp hpx (mean hpx)
  have p1 := wp hpy (mean hpy)
  have p2 := wp hpz (mean hpz)
  have q0 := qc hnx (mean hnx)
  have q1 := qc hny (mean hny)
  have q2 := qc hnz (mean hnz)
  exact ⟨⟨mean hpx, mean hpy, mean hpz⟩, ⟨mean hnx, mean hny, mean hnz⟩,
    ⟨⟨pr p0 q0, pr p0 q1, pr p0 q2⟩, ⟨pr p1 q0, pr p1 q1, pr p1 q2⟩, ⟨pr p2 q0, pr p2 q1, pr p2 q2⟩⟩⟩

theorem is_moved {bc : α → β} (hbc : ∀ {x r}, Is ev x r → IsB evb (bc x) fun _ => r) {S : V3 β} {S' : V3 (ι → ℝ)}
    (hS : IsB3 evb S S') {T : Pose α} {T' : Pose ℝ} (hT : IsPose ev T T') :
    IsB3 evb (moved ob o.nar bc S T) (movedR S' T') := by
  intro n
  have row : ∀ {v : V3 α} {v' : V3 ℝ} {t : α} {t' : ℝ}, Is3 ev v v' → Is ev t t' → Is (evb n)
      (ob.add (ob.add (ob.add (ob.mul S.x (bc (o.nar v.x))) (ob.mul S.y (bc (o.nar v.y))))
        (ob.mul S.z (bc (o.nar v.z)))) (bc t)) (S'.x n * v'.x + S'.y n * v'.y + S'.z n * v'.z + t') := fun hv ht =>
    (hb n).add ((hb n).add ((hb n).add ((hb n).mul (hS n).x (hbc (h.nar hv.x) n))
      ((hb n).mul (hS n).y (hbc (h.nar hv.y) n))) ((hb n).mul (hS n).z (hbc (h.nar hv.z) n))) (hbc ht n)
  exact ⟨row hT.R.x hT.t.x, row hT.R.y hT.t.y, row hT.R.z hT.t.z⟩

end Icp

end
-- ==== Proof.Math.First.lean ====
/-
  The first place of the least of finitely many real numbers, the squared distance of two points, and the nearest point
  of a cloud: the first of the points at the least squared distance.
-/
module

public import proofs.«01_k».proof.Proof.Math.Moments

@[expose] public section

noncomputable section

namespace Icp

open Idealize.ShloMosaic

/-- A sum of real numbers among the extended reals. -/
theorem coe_sum {ι : Type} (s : Finset ι) (f : ι → ℝ) : ((∑ n ∈ s, f n : ℝ) : EReal) = ∑ n ∈ s, (f n : EReal) := by
  classical
  induction s using Finset.induction_on with
  | empty => simp
  | insert a s h ih => rw [Finset.sum_insert h, Finset.sum_insert h, EReal.coe_add, ih]

/-- `k` is the first place where `d` is least. -/
structure IsFirst {n : ℕ} (d : Fin n → ℝ) (k : Fin n) : Prop where
  le : ∀ j, d k ≤ d j
  lt : ∀ j, j < k → d k < d j

theorem exists_first {n : ℕ} (d : Fin (n + 1) → ℝ) : ∃ k, IsFirst d k := by
  obtain ⟨m, hm⟩ := Finite.exists_min d
  have hex : ∃ k, ∀ j, d k ≤ d j := ⟨m, hm⟩
  classical
  let s : Finset (Fin (n + 1)) := Finset.univ.filter fun k => ∀ j, d k ≤ d j
  have hs : s.Nonempty := ⟨m, by simpa [s] using hm⟩
  refine ⟨s.min' hs, ?_, ?_⟩
  · have := s.min'_mem hs
    simpa [s] using this
  · intro j hj
    have hmin : ∀ i, d (s.min' hs) ≤ d i := by
      have := s.min'_mem hs
      simpa [s] using this
    refine lt_of_le_of_ne (hmin j) fun he => ?_
    have : j ∈ s := by simpa [s, ← he] using hmin
    exact absurd (s.min'_le j this) (not_le.mpr hj)

theorem IsFirst.unique {n : ℕ} {d : Fin n → ℝ} {k l : Fin n} (hk : IsFirst d k) (hl : IsFirst d l) : k = l := by
  rcases lt_trichotomy k l with h | h | h
  · exact absurd (hk.le l) (not_le.mpr (hl.lt k h))
  · exact h
  · exact absurd (hl.le k) (not_le.mpr (hk.lt l h))

/-- The least of finitely many extended reals that are real numbers, taken from plus infinity. -/
theorem fold_min {n : ℕ} (f : Fin n → EReal) (g : Fin n → ℝ) (h : ∀ x, f x = g x) (k : Fin n) (hk : ∀ x, g k ≤ g x) :
    Finset.fold min (Ideal.ofBits .f32 0x7F800000#32) f Finset.univ = g k := by
  have htop : Ideal.ofBits .f32 0x7F800000#32 = ⊤ := by simp [Ideal.ofBits, Ideal.ieee]
  apply le_antisymm
  · rw [Finset.fold_min_le]
    exact Or.inr ⟨k, Finset.mem_univ k, (h k).le⟩
  · rw [Finset.le_fold_min, htop]
    exact ⟨le_top, fun x _ => by rw [h x]; exact_mod_cast hk x⟩

/-- The squared distance of two points. -/
def apart (p m : V3 ℝ) : ℝ := dot real p p + dot real m m - 2 * dot real p m

/-- The place of the nearest point of a cloud. -/
def near {n : ℕ} (M : Fin (n + 1) → V3 ℝ) (p : V3 ℝ) : Fin (n + 1) := (exists_first fun j => apart p (M j)).choose

theorem near_first {n : ℕ} (M : Fin (n + 1) → V3 ℝ) (p : V3 ℝ) : IsFirst (fun j => apart p (M j)) (near M p) :=
  (exists_first fun j => apart p (M j)).choose_spec

/-- The nearest points of a cloud to the points `P`. -/
def nearR {ι : Type} {n : ℕ} (M : Fin (n + 1) → V3 ℝ) (P : V3 (ι → ℝ)) : V3 (ι → ℝ) :=
  ⟨fun i => (M (near M (at' i P))).x, fun i => (M (near M (at' i P))).y, fun i => (M (near M (at' i P))).z⟩

/-- One registration step over the reals: the scan points `S`, the map points `M`, the pose `T`. -/
def nextR {ι : Type} [Fintype ι] {n : ℕ} (M : Fin (n + 1) → V3 ℝ) (S : V3 (ι → ℝ)) (T : Pose ℝ) : Pose ℝ :=
  stepR (movedR S T) (nearR M (movedR S T)) T

end Icp

end
-- ==== Proof.Math.Jacobi.lean ====
/-
  The same step over the reals with matrices: a Jacobi rotation as the product `Jᵀ A J`, the best rotation as the product
  of the eigenvectors, the signs and the left singular vectors, the composed pose as a product of 4×4 matrices.
-/
module

public import proofs.«01_k».proof.Proof.Math.First

@[expose] public section

noncomputable section

namespace Icp

open Idealize.ShloMosaic

/-- A matrix of `n` rows and `m` columns. -/
abbrev Mat (n m : ℕ) := Fin n → Fin m → ℝ

/-- The product. -/
def mul {n k m : ℕ} (A : Mat n k) (B : Mat k m) : Mat n m := fun i j => ∑ x, A i x * B x j
/-- The product with the first factor turned over. -/
def mulT {n k m : ℕ} (A : Mat k n) (B : Mat k m) : Mat n m := fun i j => ∑ x, A x i * B x j
/-- The product with the second factor turned over. -/
def mulTr {n k m : ℕ} (A : Mat n k) (B : Mat m k) : Mat n m := fun i j => ∑ x, A i x * B j x

/-- The entries of a matrix kept by rows. -/
def ent (m : M3 ℝ) : Mat 3 3 := ![![m.x.x, m.x.y, m.x.z], ![m.y.x, m.y.y, m.y.z], ![m.z.x, m.z.y, m.z.z]]

/-- The symmetric matrix being diagonalised. -/
def Eig.mat (e : Eig ℝ) : Mat 3 3 := ![![e.a00, e.a01, e.a02], ![e.a01, e.a11, e.a12], ![e.a02, e.a12, e.a22]]

/-- Cosine and sine of the Jacobi rotation, the tangent made zero where the entry is tiny. -/
def cosSin' {α : Type} (o : Ops α) (app aqq apq : α) : α × α :=
  let one := o.lit 0x3F800000#32
  let zero := o.lit 0x00000000#32
  let tiny := o.lit 0x02081CEA#32
  let mag := o.abs apq
  let tau := o.div (o.sub aqq app) (o.mul (o.lit 0x40000000#32) (o.iflt mag tiny one apq))
  let t := o.iflt mag tiny zero
    (o.div (o.ifge tau zero one (o.lit 0xBF800000#32)) (o.add (o.abs tau) (o.sqrt (o.add one (o.mul tau tau)))))
  let c := o.div one (o.sqrt (o.add one (o.mul t t)))
  (c, o.mul t c)

theorem cosSin'_real (p q w : ℝ) : cosSin' real p q w = cosSin real p q w := by
  unfold cosSin' cosSin
  simp only [real, lit_one, lit_zero, lit_two, lit_half, lit_neg_one]
  by_cases h : |w| < lit 0x02081CEA#32
  · simp [h]
  · have : (q - p) / (2 * w) = (q - p) * (1 / 2) / w := by ring
    simp only [if_neg h, this]

theorem is_cosSin' {α : Type} {o : Ops α} {ev : α → EReal} (h : Like o ev) {p q w : α} {p' q' w' : ℝ}
    (hp : Is ev p p') (hq : Is ev q q') (hw : Is ev w w') :
    Is ev (cosSin' o p q w).1 (cosSin real p' q' w').1 ∧ Is ev (cosSin' o p q w).2 (cosSin real p' q' w').2 := by
  rw [← cosSin'_real]
  have hsafe : real.iflt (real.abs w') (real.lit 0x02081CEA#32) (real.lit 0x3F800000#32) w' ≠ 0 := by
    show (if |w'| < lit 0x02081CEA#32 then lit 0x3F800000#32 else w') ≠ 0
    split_ifs with hlt
    · rw [lit_one]; exact one_ne_zero
    · intro h0
      rw [h0, abs_zero] at hlt
      exact hlt (lit_pos 0x02081CEA#32)
  have hdiv : real.mul (real.lit 0x40000000#32) (real.iflt (real.abs w') (real.lit 0x02081CEA#32)
      (real.lit 0x3F800000#32) w') ≠ 0 := mul_ne_zero (lit_pos 0x40000000#32).ne' hsafe
  have hsq : ∀ x : ℝ, 0 < real.add (real.lit 0x3F800000#32) (real.mul x x) := by
    intro x
    show 0 < lit 0x3F800000#32 + x * x
    rw [lit_one]; nlinarith [mul_self_nonneg x]
  have hone := h.lit 0x3F800000#32
  have hmag := h.iflt (h.abs hw) (h.lit 0x02081CEA#32) hone hw
  have htau := h.div (h.sub hq hp) (h.mul (h.lit 0x40000000#32) hmag) hdiv
  have hroot := h.sqrt (h.add hone (h.mul htau htau)) (hsq _).le
  have ht := h.iflt (h.abs hw) (h.lit 0x02081CEA#32) (h.lit 0x00000000#32)
    (h.div (h.ifge htau (h.lit 0x00000000#32) hone (h.lit 0xBF800000#32)) (h.add (h.abs htau) hroot)
      (ne_of_gt (add_pos_of_nonneg_of_pos (abs_nonneg _) (Real.sqrt_pos.mpr (hsq _)))))
  have hc := h.div hone (h.sqrt (h.add hone (h.mul ht ht)) (hsq _).le) (ne_of_gt (Real.sqrt_pos.mpr (hsq _)))
  exact ⟨hc, h.mul ht hc⟩

/-- Cosine and sine are on the unit circle. -/
theorem cosSin_unit (p q w : ℝ) :
    (cosSin real p q w).1 * (cosSin real p q w).1 + (cosSin real p q w).2 * (cosSin real p q w).2 = 1 := by
  rw [← cosSin'_real]
  unfold cosSin'
  simp only [real, lit_one]
  generalize (if |w| < lit 0x02081CEA#32 then lit 0x00000000#32 else _) = t
  have hpos : 0 < 1 + t * t := by nlinarith [mul_self_nonneg t]
  have hs := Real.sqrt_pos.mpr hpos
  have h2 : Real.sqrt (1 + t * t) * Real.sqrt (1 + t * t) = 1 + t * t := Real.mul_self_sqrt hpos.le
  generalize Real.sqrt (1 + t * t) = r at hs h2
  field_simp
  nlinarith

/-- The rotations of the three pairs of axes, and the masks that clear the rotated entry. -/
def J01 (c s : ℝ) : Mat 3 3 := ![![c, s, 0], ![-s, c, 0], ![0, 0, 1]]
def J02 (c s : ℝ) : Mat 3 3 := ![![c, 0, s], ![0, 1, 0], ![-s, 0, c]]
def J12 (c s : ℝ) : Mat 3 3 := ![![1, 0, 0], ![0, c, s], ![0, -s, c]]
def K01 : Mat 3 3 := ![![1, 0, 1], ![0, 1, 1], ![1, 1, 1]]
def K02 : Mat 3 3 := ![![1, 1, 0], ![1, 1, 1], ![0, 1, 1]]
def K12 : Mat 3 3 := ![![1, 1, 1], ![1, 1, 0], ![1, 0, 1]]

/-- The matrix after a rotation. -/
def turnA (J K A : Mat 3 3) : Mat 3 3 := fun i j => mulT J (mul A J) i j * K i j

theorem rot01_A (e : Eig ℝ) : (rot01 real e).mat
    = turnA (J01 (cosSin real e.a00 e.a11 e.a01).1 (cosSin real e.a00 e.a11 e.a01).2) K01 e.mat := by
  funext i j
  fin_cases i <;> fin_cases j <;>
    simp [rot01, Eig.mat, turnA, mulT, mul, J01, K01, Fin.sum_univ_three, newPP, newQQ, turnP, turnQ, real, lit_zero,
      lit_two] <;> ring
theorem rot02_A (e : Eig ℝ) : (rot02 real e).mat
    = turnA (J02 (cosSin real e.a00 e.a22 e.a02).1 (cosSin real e.a00 e.a22 e.a02).2) K02 e.mat := by
  funext i j
  fin_cases i <;> fin_cases j <;>
    simp [rot02, Eig.mat, turnA, mulT, mul, J02, K02, Fin.sum_univ_three, newPP, newQQ, turnP, turnQ, real, lit_zero,
      lit_two] <;> ring
theorem rot12_A (e : Eig ℝ) : (rot12 real e).mat
    = turnA (J12 (cosSin real e.a11 e.a22 e.a12).1 (cosSin real e.a11 e.a22 e.a12).2) K12 e.mat := by
  funext i j
  fin_cases i <;> fin_cases j <;>
    simp [rot12, Eig.mat, turnA, mulT, mul, J12, K12, Fin.sum_univ_three, newPP, newQQ, turnP, turnQ, real, lit_zero,
      lit_two] <;> ring

theorem rot01_V (e : Eig ℝ) : ent (rot01 real e).V
    = mul (ent e.V) (J01 (cosSin real e.a00 e.a11 e.a01).1 (cosSin real e.a00 e.a11 e.a01).2) := by
  funext i j
  fin_cases i <;> fin_cases j <;>
    simp [rot01, ent, mul, J01, Fin.sum_univ_three, turnP, turnQ, real, V3.map] <;> ring
theorem rot02_V (e : Eig ℝ) : ent (rot02 real e).V
    = mul (ent e.V) (J02 (cosSin real e.a00 e.a22 e.a02).1 (cosSin real e.a00 e.a22 e.a02).2) := by
  funext i j
  fin_cases i <;> fin_cases j <;>
    simp [rot02, ent, mul, J02, Fin.sum_univ_three, turnP, turnQ, real, V3.map] <;> ring
theorem rot12_V (e : Eig ℝ) : ent (rot12 real e).V
    = mul (ent e.V) (J12 (cosSin real e.a11 e.a22 e.a12).1 (cosSin real e.a11 e.a22 e.a12).2) := by
  funext i j
  fin_cases i <;> fin_cases j <;>
    simp [rot12, ent, mul, J12, Fin.sum_univ_three, turnP, turnQ, real, V3.map] <;> ring

/-- The diagonalisation starts from `Hᵀ H` and the unit matrix. -/
theorem eig0_A (H : M3 ℝ) : (eig0 real H).mat = mulT (ent H) (ent H) := by
  funext i j
  fin_cases i <;> fin_cases j <;>
    simp [eig0, Eig.mat, mulT, ent, Fin.sum_univ_three, dot, V3.tr, real] <;> ring
theorem eig0_V (H : M3 ℝ) : ent (eig0 real H).V = fun i j => if i = j then 1 else 0 := by
  funext i j
  fin_cases i <;> fin_cases j <;> simp [eig0, ent, real, lit_zero, lit_one]

/-- The determinant, by the entries. -/
def det (A : Mat 3 3) : ℝ :=
  A 0 0 * (A 1 1 * A 2 2 - A 1 2 * A 2 1) - A 0 1 * (A 1 0 * A 2 2 - A 1 2 * A 2 0)
    + A 0 2 * (A 1 0 * A 2 1 - A 1 1 * A 2 0)

theorem det_ent (H : M3 ℝ) : det3 real H = det (ent H) := rfl

theorem det_mul (A B : Mat 3 3) : det (mul A B) = det A * det B := by
  simp only [det, mul, Fin.sum_univ_three]
  ring
theorem det_mulTr (A B : Mat 3 3) : det (mulTr A B) = det A * det B := by
  simp only [det, mulTr, Fin.sum_univ_three]
  ring

theorem det_J01 {c s : ℝ} (h : c * c + s * s = 1) : det (J01 c s) = 1 := by simp [det, J01]; linarith
theorem det_J02 {c s : ℝ} (h : c * c + s * s = 1) : det (J02 c s) = 1 := by simp [det, J02]; linarith
theorem det_J12 {c s : ℝ} (h : c * c + s * s = 1) : det (J12 c s) = 1 := by simp [det, J12]; linarith

theorem det_sweep (e : Eig ℝ) : det (ent (sweep real e).V) = det (ent e.V) := by
  unfold sweep
  rw [rot12_V, det_mul, det_J12 (cosSin_unit _ _ _), rot02_V, det_mul, det_J02 (cosSin_unit _ _ _), rot01_V, det_mul,
    det_J01 (cosSin_unit _ _ _), mul_one, mul_one, mul_one]

/-- The eigenvectors have determinant one. -/
theorem det_diagonalise (H : M3 ℝ) : det (ent (diagonalise real H).V) = 1 := by
  unfold diagonalise
  rw [det_sweep, det_sweep, det_sweep, det_sweep, det_sweep, eig0_V]
  simp [det]

/-- A singular value, kept away from zero. -/
def sigma (l : ℝ) : ℝ := Real.sqrt (max l (lit 0x0DA24260#32))

theorem sigma_pos' (l : ℝ) : 0 < sigma l := sigma_pos l

/-- The left singular vectors. -/
def leftVecs (H V : Mat 3 3) (l : Fin 3 → ℝ) : Mat 3 3 := fun i k => mul H V i k / sigma (l k)

theorem sign_mul_pos {x y : ℝ} (hy : 0 < y) : sign (x / y) = if 0 < x then 1 else if x < 0 then -1 else 0 := by
  unfold sign
  rcases lt_trichotomy x 0 with h | h | h
  · have : x / y < 0 := div_neg_of_neg_of_pos h hy
    rw [if_pos (abs_pos.mpr this.ne), if_pos this, if_neg (not_lt.mpr h.le), if_pos h]
  · simp [h]
  · have : 0 < x / y := div_pos h hy
    rw [if_pos (abs_pos.mpr this.ne'), if_neg (not_lt.mpr this.le), if_pos h]

theorem sign_eq (x : ℝ) : sign x = if 0 < x then 1 else if x < 0 then -1 else 0 := by
  have := sign_mul_pos (x := x) one_pos
  rwa [div_one] at this

/-- The determinant of `V Uᵀ` has the sign of the determinant of `H`. -/
theorem sign_det (H V : Mat 3 3) (l : Fin 3 → ℝ) (hV : det V = 1) :
    sign (det (mulTr V (leftVecs H V l))) = sign (det H) := by
  have hU : det (leftVecs H V l) = det (mul H V) / (sigma (l 0) * sigma (l 1) * sigma (l 2)) := by
    have h0 := (sigma_pos' (l 0)).ne'
    have h1 := (sigma_pos' (l 1)).ne'
    have h2 := (sigma_pos' (l 2)).ne'
    simp only [det, leftVecs]
    field_simp
  rw [det_mulTr, hV, one_mul, hU, det_mul, hV, mul_one,
    sign_mul_pos (mul_pos (mul_pos (sigma_pos' _) (sigma_pos' _)) (sigma_pos' _)), sign_eq]

/-- The index of the least eigenvalue, as a number. -/
theorem least_eq (e : V3 ℝ) (k : Fin 3) (hk : IsFirst e.get k) : least real e = (k.val : ℝ) := by
  have h0 := hk.le 0
  have h1 := hk.le 1
  have h2 := hk.le 2
  have l0 := hk.lt 0
  have l1 := hk.lt 1
  unfold least
  simp only [real, lit_zero, lit_one, lit_two]
  fin_cases k
  · simp [V3.get] at h0 h1 h2 l0 l1
    rw [if_pos h1, if_pos h2]; simp
  · simp [V3.get] at h0 h1 h2 l0 l1
    rw [if_neg (not_le.mpr l0), if_pos h2]; simp
  · simp [V3.get] at h0 h1 h2 l0 l1
    rw [if_neg (not_le.mpr l0), if_neg (not_le.mpr l1)]
    simp

/-- The signs by the first place of the least eigenvalue. -/
theorem signs_eq (e : V3 ℝ) (d : ℝ) (k : Fin 3) (hk : IsFirst e.get k) (i : Fin 3) :
    (signs real e d).get i = if i = k then d else 1 := by
  unfold signs
  rw [least_eq e k hk]
  simp only [real, lit_zero, lit_one, lit_two]
  fin_cases k <;> fin_cases i <;> simp [V3.get]

/-- The rotation as a product of matrices. -/
theorem rotationFrom_eq (H V : M3 ℝ) (e : V3 ℝ) (hV : det (ent V) = 1) (k : Fin 3) (hk : IsFirst e.get k) :
    ent (rotationFrom real sign H e V) = mulTr
      (fun i x => ent V i x * if x = k then sign (det (mulTr (ent V) (leftVecs (ent H) (ent V) e.get))) else 1)
      (leftVecs (ent H) (ent V) e.get) := by
  have hs := signs_eq e (sign (det3 real H)) k hk
  funext i j
  unfold mulTr
  rw [Fin.sum_univ_three]
  simp only [← mulTr.eq_def]
  rw [sign_det _ _ _ hV, ← det_ent, ← hs 0, ← hs 1, ← hs 2]
  simp only [V3.get, Matrix.cons_val_zero, Matrix.cons_val_one, Matrix.cons_val_two, Matrix.head_cons,
    Matrix.tail_cons]
  fin_cases i <;> fin_cases j <;>
    simp [rotationFrom, ent, leftVecs, mul, Fin.sum_univ_three, V3.map, V3.tr, real, invSigma, dot, V3.get, sigma,
      lit_one] <;> ring

/-- A pose as a 4×4 matrix. -/
def Pose.mat (T : Pose ℝ) : Mat 4 4 :=
  ![![T.R.x.x, T.R.x.y, T.R.x.z, T.t.x], ![T.R.y.x, T.R.y.y, T.R.y.z, T.t.y], ![T.R.z.x, T.R.z.y, T.R.z.z, T.t.z],
    ![0, 0, 0, 1]]

/-- The motion of rotation `R` that takes the mean `p` to the mean `q`. -/
def motion (R : M3 ℝ) (p q : V3 ℝ) : Pose ℝ :=
  ⟨R, ⟨q.x - dot real R.x p, q.y - dot real R.y p, q.z - dot real R.z p⟩⟩

/-- The composed pose is the product of the matrices. -/
theorem composeWith_mat (R : M3 ℝ) (p q : V3 ℝ) (T : Pose ℝ) :
    (composeWith real R p q T).mat = mul (motion R p q).mat T.mat := by
  funext i j
  fin_cases i <;> fin_cases j <;>
    simp [composeWith, motion, Pose.mat, mul, Fin.sum_univ_four, V3.map, V3.zip, V3.tr, real, dot]

end Icp

end
-- ==== Proof.Math.Inputs.lean ====
/-
  The inputs as real numbers: the map points, the scan points over 1.2 and scaled, and the starting pose of each batch;
  and what the precondition gives of them.
-/
module

public import proofs.«01_k».proof.Proof.Math.Jacobi
public import Idealize.ShloMosaic.Lib.Pointwise

@[expose] public section

noncomputable section

namespace Icp

open Idealize.ShloMosaic

variable (a0 : FVec Ideal ⟨3, ![8, 512, 3]⟩ .f32) (a1 : FVec Ideal ⟨3, ![8, 2048, 3]⟩ .f32)
  (a2 : FVec Ideal ⟨3, ![8, 4, 4]⟩ .f32) (a3 : FVec Ideal ⟨0, ![]⟩ .f32) (b : Fin 8)

/-- A number of the extended reals that is a real number. -/
def IsReal (x : EReal) : Prop := x = ((x.toReal : ℝ) : EReal)

/-- The map points of batch `b`. -/
def realMap (j : Fin 2048) : V3 ℝ := ⟨(a1 (ix3 b j 0)).toReal, (a1 (ix3 b j 1)).toReal, (a1 (ix3 b j 2)).toReal⟩

/-- The scan points of batch `b`, over 1.2, times the scale kept from being negative. -/
def realScan : V3 (Fin 512 → ℝ) :=
  ⟨fun n => (a0 (ix3 b n 0)).toReal / lit 0x3F99999A#32 * max (a3 ix0).toReal 0,
    fun n => (a0 (ix3 b n 1)).toReal / lit 0x3F99999A#32 * max (a3 ix0).toReal 0,
    fun n => (a0 (ix3 b n 2)).toReal / lit 0x3F99999A#32 * max (a3 ix0).toReal 0⟩

/-- The starting pose of batch `b`. -/
def realPose : Pose ℝ :=
  ⟨⟨⟨(a2 (ix3 b 0 0)).toReal, (a2 (ix3 b 0 1)).toReal, (a2 (ix3 b 0 2)).toReal⟩,
      ⟨(a2 (ix3 b 1 0)).toReal, (a2 (ix3 b 1 1)).toReal, (a2 (ix3 b 1 2)).toReal⟩,
      ⟨(a2 (ix3 b 2 0)).toReal, (a2 (ix3 b 2 1)).toReal, (a2 (ix3 b 2 2)).toReal⟩⟩,
    ⟨(a2 (ix3 b 0 3)).toReal, (a2 (ix3 b 1 3)).toReal, (a2 (ix3 b 2 3)).toReal⟩⟩

/-- The inputs are real numbers and the last row of every starting pose is 0, 0, 0, 1. -/
structure Given : Prop where
  scan : ∀ b n k, IsReal (a0 (ix3 b n k))
  map : ∀ b n k, IsReal (a1 (ix3 b n k))
  pose : ∀ b i k, IsReal (a2 (ix3 b i k))
  scale : IsReal (a3 ix0)
  zero : ∀ (b : Fin 8) (k : Fin 3), a2 (ix3 b 3 k.castSucc) = 0
  one : ∀ b, a2 (ix3 b 3 3) = 1

variable {a0 a1 a2 a3} {b}

/-- An entry of a map point. -/
theorem Given.read_map (h : Given a0 a1 a2 a3) (n : Fin 2048) (k : Fin 3) :
    a1 (ix3 b n k) = (((realMap a1 b n).get k : ℝ) : EReal) := by
  refine (h.map b n k).trans ?_
  fin_cases k <;> rfl

/-- An entry of a scan point, scaled. -/
theorem Given.read_scan (h : Given a0 a1 a2 a3) (n : Fin 512) (k : Fin 3) :
    Ideal.div (a0 (ix3 b n k)) (Ideal.ofBits .f32 0x3F99999A#32) * max (a3 ix0) 0
      = (((at' n (realScan a0 a3 b)).get k : ℝ) : EReal) := by
  rw [h.scan b n k, h.scale, lit_coe 0x3F99999A#32, div_coe _ _ (lit_pos 0x3F99999A#32).ne', ← EReal.coe_zero,
    ← coe_max, ← EReal.coe_mul]
  fin_cases k <;> rfl

/-- An entry of a starting pose. -/
theorem Given.read_pose (h : Given a0 a1 a2 a3) (i k : Fin 4) :
    a2 (ix3 b i k) = (((realPose a2 b).mat i k : ℝ) : EReal) := by
  by_cases hi : i = 3
  · subst hi
    by_cases hk : k = 3
    · subst hk; exact h.one b
    · have := h.zero b (k.castPred hk)
      rw [Fin.castSucc_castPred] at this
      rw [this, ← EReal.coe_zero]
      fin_cases k <;> first | rfl | exact absurd rfl hk
  · refine (h.pose b i k).trans ?_
    fin_cases i <;> first | exact absurd rfl hi | (fin_cases k <;> rfl)

end Icp

end
-- ==== Proof.Given.lean ====
/-
  The precondition read back: when the predicate is true of the arguments, every input is a real number and the last row
  of every starting pose is 0, 0, 0, 1.
-/
module

public import proofs.«01_k».proof.Pre_finite_and_affine
public import proofs.«01_k».proof.Proof.Math.Inputs
public import Idealize.ShloMosaic.Lib.ReduceAll
public import Idealize.ShloMosaic.Lib.Decide

@[expose] public section

set_option maxRecDepth 65536

noncomputable section

namespace Cert.Pre_finite_and_affine

open Idealize.ShloMosaic Icp

/-- The shape relations the predicate states. -/
theorem facts : Facts := by constructor <;> decide +kernel

/-- A number whose absolute value is below infinity is a real number. -/
theorem isReal_of_lt {x : EReal}
    (h : FloatOps.cmpf (F := Ideal) (φ := .f32) .olt (max x (-x)) (Ideal.ofBits .f32 0x7F800000#32) = 1#1) : IsReal x := by
  have ht : Ideal.ofBits .f32 0x7F800000#32 = (⊤ : EReal) := by simp [Ideal.ofBits, Ideal.ieee]
  rw [ht] at h
  have hlt : max x (-x) < ⊤ := by
    by_contra hn
    have e : FloatOps.cmpf (F := Ideal) (φ := .f32) .olt (max x (-x)) (⊤ : EReal) = BitVec.ofBool (decide (max x (-x) < ⊤)) := rfl
    rw [e, decide_eq_false hn] at h
    exact absurd h (by decide)
  refine (EReal.coe_toReal (fun hx => ?_) (fun hx => ?_)).symm
  · rw [hx] at hlt; exact absurd hlt (by simp)
  · rw [hx] at hlt; exact absurd hlt (by simp)

/-- Numbers found equal are equal. -/
theorem eq_of_oeq {x y : EReal} (h : FloatOps.cmpf (F := Ideal) (φ := .f32) .oeq x y = 1#1) : x = y := by
  by_contra hn
  have e : FloatOps.cmpf (F := Ideal) (φ := .f32) .oeq x y = BitVec.ofBool (decide (x = y)) := rfl
  rw [e, decide_eq_false hn] at h
  exact absurd h (by decide)

/-- What the predicate says of the arguments. -/
theorem given [Facts] {a0 : FVec Ideal S8x512x3 .f32} {a1 : FVec Ideal S8x2048x3 .f32} {a2 : FVec Ideal S8x4x4 .f32}
    {a3 : FVec Ideal S_ .f32} (h : fn (F := Ideal) a0 a1 a2 a3 = fun _ => 1#1) : Given a0 a1 a2 a3 := by
  have : Subsingleton S_.Idx := ⟨fun i j => funext fun a => a.elim0⟩
  have h0 := congrFun h ix0
  unfold fn fn_part1 at h0
  obtain ⟨h0, hone⟩ := IntOp.andi_eq_one.1 h0
  obtain ⟨h0, hzero⟩ := IntOp.andi_eq_one.1 h0
  obtain ⟨h0, hscale⟩ := IntOp.andi_eq_one.1 h0
  obtain ⟨h0, hpose⟩ := IntOp.andi_eq_one.1 h0
  obtain ⟨hscan, hmap⟩ := IntOp.andi_eq_one.1 h0
  refine ⟨fun b n k => ?_, fun b n k => ?_, fun b i k => ?_, ?_, fun b k => ?_, fun b => ?_⟩
  · exact isReal_of_lt (Host.reduce_andi_all _ _ _ _ _ hscan (ix3 b n k))
  · exact isReal_of_lt (Host.reduce_andi_all _ _ _ _ _ hmap (ix3 b n k))
  · exact isReal_of_lt (Host.reduce_andi_all _ _ _ _ _ hpose (ix3 b i k))
  · exact isReal_of_lt hscale
  · have e := eq_of_oeq (Host.reduce_andi_all _ _ _ _ _ hzero (ix2 b k))
    revert e
    pointwise
    exact fun e => e
  · have e := eq_of_oeq (Host.reduce_andi_all _ _ _ _ _ hone (ix1 b))
    revert e
    pointwise
    exact fun e => e

end Cert.Pre_finite_and_affine

end
-- ==== Proof.Prog.lean ====
/-
  Programs that issue nothing, part by part.
-/
module

public import Idealize.ShloMosaic.Lib.Exec

@[expose] public section

namespace Icp

open Idealize.SL.Sem

/-- To show what a program returns whose first part returns `x`: show it for every `y` that equals `x`. -/
theorem ret_step {E : Type → Type} {A B C : Type} {p : Prog E A} {f : A → Prog E B} {g : B → Prog E C} {r : Prog E C}
    (x : A) (hp : p = .ret x) (h : ∀ y, y = x → f y >>= g = r) : (p >>= f) >>= g = r := by
  subst hp
  exact h x rfl

/-- The same where that part is the first of the program itself. -/
theorem first_step {E : Type → Type} {A B : Type} {p : Prog E A} {f : A → Prog E B} {r : Prog E B}
    (x : A) (hp : p = .ret x) (h : ∀ y, y = x → f y = r) : p >>= f = r := by
  subst hp
  exact h x rfl

/-- Folding a function that ignores the position is iterating it. -/
theorem foldl_const {α β : Type} (f : α → α) (l : List β) (a : α) :
    l.foldl (fun a _ => f a) a = f^[l.length] a := by
  induction l generalizing a with
  | nil => rfl
  | cons _ l ih => exact ih (f a)

/-- Iterating a function seen through a bijection. -/
theorem iterate_conj {α β : Type} (f : α → α) (p : β → α) (q : α → β) (h : ∀ x, p (q x) = x)
    (h' : ∀ y, q (p y) = y) (n : ℕ) (b : β) : (fun b => q (f (p b)))^[n] b = q (f^[n] (p b)) := by
  induction n generalizing b with
  | zero => exact (h' b).symm
  | succ n ih => rw [Function.iterate_succ_apply, ih, h, Function.iterate_succ_apply]

end Icp
-- ==== Proof.Kernel.Trip.lean ====
/-
  The kernel's loop, one trip as a function of the carried pose: the region of the loop issues nothing and returns
  `trip` of what it carries, so the loop returns the eighth iterate.
-/
module

public import proofs.«01_k».proof.Proof.Icp
public import proofs.«01_k».proof.Proof.Gen.Kernel.Skeleton
public import proofs.«01_k».proof.Proof.Prog

@[expose] public section

set_option maxRecDepth 65536

noncomputable section

namespace Cert.Kernel.Body

open Idealize.ShloMosaic Idealize.ShloMosaic.TcCoe Idealize.SL.Sem
open Cert.Kernel.Gen Icp

variable {F : FTy → Type} [BitOps F]

/-- The operations on vectors of a shape. -/
def vec (s : Shape) : Ops (FVec F s .f32) where
  add := addf
  sub := subf
  mul := mulf
  div := divf
  max := maximumf
  sqrt := sqrt
  abs := absf
  nar x := extf .f32 (truncf .bf16 x bitsLt_bf16_f32) bitsLt_bf16_f32
  lit b := broadcast s (Scalar.ofBits .f32 b)
  iflt x y := select (cmpf .olt x y)
  ifle x y := select (cmpf .ole x y)
  ifge x y := select (cmpf .oge x y)
  ifgt x y := select (cmpf .ogt x y)
  ifeq x y := select (cmpf .oeq x y)
  lt01 x y := sitofp .f32 (extui 32 (cmpf .olt x y) natLt_1_32)

/-- The sign of each entry. -/
def sgn (x : FVec F S1x8 .f32) : FVec F S1x8 .f32 :=
  select (cmpf .ogt (absf x) (broadcast S1x8 (Scalar.ofBits .f32 0x00000000#32)))
    (bitcastToFloat .f32 (ori (broadcast S1x8 1065353216#32)
      (andi (bitcastToInt x) (broadcast S1x8 2147483648#32)))) x

/-- The sum over the points, for each batch. -/
def rsum (x : FVec F S512x8 .f32) : FVec F S1x8 .f32 :=
  shapeCast S1x8 (multiReduction .add [0] S8 x 0x00000000#32 reduces_S512x8_S8 (.inl rfl) rfl) shapeCasts_S8_S1x8

/-- One value per batch, at every point. -/
def bc (x : FVec F S1x8 .f32) : FVec F S512x8 .f32 := broadcastTo S512x8 x broadcasts_S1x8_S512x8

theorem slices_col : ∀ b : Fin 8, S512x8.Slices ![0, b.val] S512x1 := by decide

/-- The column of one batch. -/
def col (b : Fin 8) (x : FVec F S512x8 .f32) : FVec F S512x1 .f32 :=
  extractStridedSlice S512x1 ![0, b.val] x (slices_col b)

/-- The least value of each row, at every place of the row. -/
def rowMin (x : FVec F S512x2048 .f32) : FVec F S512x2048 .f32 :=
  broadcastTo S512x2048 (shapeCast S512x1
    (multiReduction .minimumf [1] S512 x 0x7F800000#32 reduces_S512x2048_S512 (.inl rfl) rfl) shapeCasts_S512_S512x1)
    broadcasts_S512x1_S512x2048

/-- A map, as the kernel keeps it: its three coordinates, the coordinates times −2, and the squared norms. -/
structure Cloud (F : FTy → Type) where
  m : V3 (FVec F S1x2048 .f32)
  m2 : FVec F S3x2048 .bf16
  sq : FVec F S1x2048 .f32

/-- The squared distances of the scan points of batch `b` to the map points. -/
def dist2 (b : Fin 8) (M : Cloud F) (P : V3 (FVec F S512x8 .f32)) : FVec F S512x2048 .f32 :=
  let o := vec (F := F) S512x8
  let pb := P.map o.nar
  addf (addf (broadcastTo S512x2048 (col b (dot o P P)) broadcasts_S512x1_S512x2048)
      (broadcastTo S512x2048 M.sq broadcasts_S1x2048_S512x2048))
    (matmul dot_S512x3_S3x2048_S512x2048_1_0_0_1_n_n none
      (truncf .bf16 (concatenate S512x3 1 [⟨S512x1, col b pb.x⟩, ⟨S512x1, col b pb.y⟩, ⟨S512x1, col b pb.z⟩]
        concatenates_S512x1_S512x1_S512x1_S512x3_d1) bitsLt_bf16_f32)
      M.m2 (constant S512x2048 .f32 0x00000000#32))

/-- Where each scan point's nearest map point is: the first place of the row's least value. -/
def nearest (io d : FVec F S512x2048 .f32) : IVec S512x2048 1 :=
  cmpf .oeq io (rowMin (select (cmpf .oeq d (rowMin d)) io (broadcast S512x2048 (Scalar.ofBits .f32 0x45000000#32))))

/-- The value of a map coordinate where the mask says. -/
def pick (k : IVec S512x2048 1) (r : FVec F S1x2048 .f32) : FVec F S512x1 .f32 :=
  shapeCast S512x1 (multiReduction .add [1] S512
    (select k (broadcastTo S512x2048 (shapeCast S1x2048 r shapeCasts_S1x2048_S1x2048) broadcasts_S1x2048_S512x2048)
      (broadcast S512x2048 (Scalar.ofBits .f32 0x00000000#32))) 0x00000000#32 reduces_S512x2048_S512 (.inl rfl) rfl)
    shapeCasts_S512_S512x1

/-- The columns of the eight batches side by side. -/
def cols (f : Fin 8 → FVec F S512x1 .f32) : FVec F S512x8 .f32 :=
  concatenate S512x8 1 [⟨S512x1, f 0⟩, ⟨S512x1, f 1⟩, ⟨S512x1, f 2⟩, ⟨S512x1, f 3⟩, ⟨S512x1, f 4⟩, ⟨S512x1, f 5⟩,
    ⟨S512x1, f 6⟩, ⟨S512x1, f 7⟩] concatenates_S512x1_S512x1_S512x1_S512x1_S512x1_S512x1_S512x1_S512x1_S512x8_d1

/-- Each scan point's nearest map point. -/
def neighbours (io : FVec F S512x2048 .f32) (M : Fin 8 → Cloud F) (P : V3 (FVec F S512x8 .f32)) :
    V3 (FVec F S512x8 .f32) :=
  ⟨cols fun b => pick (nearest io (dist2 b (M b) P)) (M b).m.x,
   cols fun b => pick (nearest io (dist2 b (M b) P)) (M b).m.y,
   cols fun b => pick (nearest io (dist2 b (M b) P)) (M b).m.z⟩

/-- What the loop carries: the nine entries of the rotations and the three of the translations. -/
abbrev Carry (F : FTy → Type) := FVec F S1x8 .f32 × FVec F S1x8 .f32 × FVec F S1x8 .f32 × FVec F S1x8 .f32 ×
  FVec F S1x8 .f32 × FVec F S1x8 .f32 × FVec F S1x8 .f32 × FVec F S1x8 .f32 × FVec F S1x8 .f32 × FVec F S1x8 .f32 ×
  FVec F S1x8 .f32 × FVec F S1x8 .f32

/-- The pose carried. -/
def toPose (a : Carry F) : Pose (FVec F S1x8 .f32) :=
  ⟨⟨⟨a.1, a.2.1, a.2.2.1⟩, ⟨a.2.2.2.1, a.2.2.2.2.1, a.2.2.2.2.2.1⟩,
    ⟨a.2.2.2.2.2.2.1, a.2.2.2.2.2.2.2.1, a.2.2.2.2.2.2.2.2.1⟩⟩,
   ⟨a.2.2.2.2.2.2.2.2.2.1, a.2.2.2.2.2.2.2.2.2.2.1, a.2.2.2.2.2.2.2.2.2.2.2⟩⟩

/-- A pose as it is carried. -/
def ofPose (T : Pose (FVec F S1x8 .f32)) : Carry F :=
  (T.R.x.x, T.R.x.y, T.R.x.z, T.R.y.x, T.R.y.y, T.R.y.z, T.R.z.x, T.R.z.y, T.R.z.z, T.t.x, T.t.y, T.t.z)

/-- One registration step on the carried pose. -/
def step (io : FVec F S512x2048 .f32) (S : V3 (FVec F S512x8 .f32)) (M : Fin 8 → Cloud F)
    (T : Pose (FVec F S1x8 .f32)) : Pose (FVec F S1x8 .f32) :=
  let P := moved (vec S512x8) (vec S1x8).nar bc S T
  compose (vec S1x8) sgn (moments (vec S512x8) (vec S1x8) rsum bc P (neighbours io M P)) T

set_option maxHeartbeats 0 in
/-- The region of the loop issues nothing and returns the step of what it carries. The values the parts of the region
    hand on are named as they are printed; each stage of the step is recognised from the parts that hold it. -/
theorem region_eq (arg0 : Memref sig .tc .vmem S3x512x8 .f32) (harg0 : arg0.IsWhole)
    (arg1 : Memref sig .tc .vmem S8x3x2048 .f32) (harg1 : arg1.IsWhole)
    (arg2 : Memref sig .tc .vmem S8x4x4 .f32) (harg2 : arg2.IsWhole)
    (arg3 : Memref sig .tc .vmem S1x1 .f32) (harg3 : arg3.IsWhole)
    (arg4 : Memref sig .tc .vmem S8x4x4 .f32) (harg4 : arg4.IsWhole)
    (v23 v25 v27 : FVec F S512x8 .f32)
    (v29 v31 v33 : FVec F S1x2048 .f32) (v38 : FVec F S3x2048 .bf16) (v43 : FVec F S1x2048 .f32)
    (v45 v47 v49 : FVec F S1x2048 .f32) (v54 : FVec F S3x2048 .bf16) (v59 : FVec F S1x2048 .f32)
    (v61 v63 v65 : FVec F S1x2048 .f32) (v70 : FVec F S3x2048 .bf16) (v75 : FVec F S1x2048 .f32)
    (v77 v79 v81 : FVec F S1x2048 .f32) (v86 : FVec F S3x2048 .bf16) (v91 : FVec F S1x2048 .f32)
    (v93 v95 v97 : FVec F S1x2048 .f32) (v102 : FVec F S3x2048 .bf16) (v107 : FVec F S1x2048 .f32)
    (v109 v111 v113 : FVec F S1x2048 .f32) (v118 : FVec F S3x2048 .bf16) (v123 : FVec F S1x2048 .f32)
    (v125 v127 v129 : FVec F S1x2048 .f32) (v134 : FVec F S3x2048 .bf16) (v139 : FVec F S1x2048 .f32)
    (v141 v143 v145 : FVec F S1x2048 .f32) (v150 : FVec F S3x2048 .bf16) (v155 : FVec F S1x2048 .f32)
    (v157 : FVec F S512x2048 .f32)
    (v174 v191 v208 v225 v242 v259 v276 v293 v310 v327 : FVec F S1x8 .f32)
    (v329 v331 v333 v335 v337 v339 : FVec F S1x1 .f32)
    (k : Fin k0_t1_loop.trips) (a : Carry F) :
      (k0_t1_body arg0 harg0 arg1 harg1 arg2 harg2 arg3 harg3 arg4 harg4 v23 v25 v27 v29 v31 v33 v38 v43 v45 v47
      v49 v54 v59 v61 v63 v65 v70 v75 v77 v79 v81 v86 v91 v93 v95 v97 v102 v107 v109 v111 v113 v118 v123 v125 v127
      v129 v134 v139 v141 v143 v145 v150 v155 v157 v174 v191 v208 v225 v242 v259 v276 v293 v310 v327 v329 v331 v333
      v335 v337 v339 k a)
      = .ret (ofPose (step v157 ⟨v23, v25, v27⟩
        ![⟨⟨v29, v31, v33⟩, v38, v43⟩, ⟨⟨v45, v47, v49⟩, v54, v59⟩, ⟨⟨v61, v63, v65⟩, v70, v75⟩, ⟨⟨v77, v79, v81⟩,
        v86, v91⟩, ⟨⟨v93, v95, v97⟩, v102, v107⟩, ⟨⟨v109, v111, v113⟩, v118, v123⟩, ⟨⟨v125, v127, v129⟩, v134,
        v139⟩, ⟨⟨v141, v143, v145⟩, v150, v155⟩]
        (toPose a))) := by
  obtain ⟨arg6, arg7, arg8, arg9, arg10, arg11, arg12, arg13, arg14, arg15, arg16, arg17⟩ := a
  unfold k0_t1_body
  dsimp only
  refine first_step _ (by rw [k0_part1_eq_skeleton]; rfl) ?_
  rintro ⟨v520, v522, v524, v526, v528, v530, v532, v534, v536, v546, v556, v566, v571, v573, v575, v577⟩ h1
  dsimp only
  refine first_step _ (by rw [k0_part2_eq_skeleton]; rfl) ?_
  rintro ⟨v604, v610, v616, v622, v626⟩ h2
  dsimp only
  refine first_step _ (by rw [k0_part3_eq_skeleton]; rfl) ?_
  rintro ⟨v643, v649, v655, v673⟩ h3
  dsimp only
  refine first_step _ (by rw [k0_part4_eq_skeleton]; rfl) ?_
  rintro ⟨v682, v688, v694, v715, v721⟩ h4
  dsimp only
  refine first_step _ (by rw [k0_part5_eq_skeleton]; rfl) ?_
  rintro ⟨v727, v733, v754, v760, v766, cst_472, v768⟩ h5
  dsimp only
  refine first_step _ (by rw [k0_part6_eq_skeleton]; rfl) ?_
  rintro ⟨v772, v799, v805, v811, v816, cst_484⟩ h6
  dsimp only
  refine first_step _ (by rw [k0_part7_eq_skeleton]; rfl) ?_
  rintro ⟨v838, v844, v850, v865⟩ h7
  dsimp only
  refine first_step _ (by rw [k0_part8_eq_skeleton]; rfl) ?_
  rintro ⟨v890, v891, v892, v907, v909, v911, v912⟩ h8
  dsimp only
  refine first_step _ (by rw [k0_part9_eq_skeleton]; rfl) ?_
  rintro ⟨v922, v926, v930, v934, v938, v942, v952, v954, v957, v960, v963, v964⟩ h9
  dsimp only
  refine first_step _ (by rw [k0_part10_eq_skeleton]; rfl) ?_
  rintro ⟨v972, v975, v978, v981, v984, v987, v990, v993, v996, v1001, v1006, v1011, v1014, v1015⟩ h10
  dsimp only
  refine first_step _ (by rw [k0_part11_eq_skeleton]; rfl) ?_
  rintro ⟨v1016, v1021, v1026, v1027, v1028, v1029, v1030, v1031, v1032, v1033, v1034, v1035, v1038, v1056,
    v1057, v1058⟩ h11
  dsimp only
  refine first_step _ (by rw [k0_part12_eq_skeleton]; rfl) ?_
  rintro ⟨v1077, v1087, v1090, v1093, v1094, v1097, v1100, v1103, v1106, v1109, v1112⟩ h12
  dsimp only
  refine first_step _ (by rw [k0_part13_eq_skeleton]; rfl) ?_
  rintro ⟨v1142, v1144, v1154, v1156, v1159⟩ h13
  dsimp only
  refine first_step _ (by rw [k0_part14_eq_skeleton]; rfl) ?_
  rintro ⟨v1164, v1167, v1170, v1171, v1174, v1177, v1180, v1183, v1186, v1189, v1192, v1210, v1211⟩ h14
  dsimp only
  refine first_step _ (by rw [k0_part15_eq_skeleton]; rfl) ?_
  rintro ⟨v1219, v1231, v1241, v1244, v1247, v1248, v1251, v1254, v1257, v1260, v1263, v1264⟩ h15
  dsimp only
  refine first_step _ (by rw [k0_part16_eq_skeleton]; rfl) ?_
  rintro ⟨v1266, v1296, v1298, v1308, v1310, v1311⟩ h16
  dsimp only
  refine first_step _ (by rw [k0_part17_eq_skeleton]; rfl) ?_
  rintro ⟨v1318, v1321, v1324, v1325, v1328, v1331, v1334, v1337, v1340, v1343, v1346, v1357, v1363⟩ h17
  dsimp only
  refine first_step _ (by rw [k0_part18_eq_skeleton]; rfl) ?_
  rintro ⟨v1373, v1375, v1385, v1395, v1398, v1401, v1402, v1405, v1408, v1411, v1414, v1415, v1416⟩ h18
  dsimp only
  refine first_step _ (by rw [k0_part19_eq_skeleton]; rfl) ?_
  rintro ⟨v1417, v1420, v1450, v1452, v1462, v1464⟩ h19
  dsimp only
  refine first_step _ (by rw [k0_part20_eq_skeleton]; rfl) ?_
  rintro ⟨v1472, v1475, v1478, v1479, v1482, v1485, v1488, v1491, v1494, v1497, v1500, v1511, v1512, v1515⟩ h20
  dsimp only
  refine first_step _ (by rw [k0_part21_eq_skeleton]; rfl) ?_
  rintro ⟨v1527, v1529, v1539, v1549, v1552, v1555, v1556, v1559, v1562, v1565, v1568⟩ h21
  dsimp only
  refine first_step _ (by rw [k0_part22_eq_skeleton]; rfl) ?_
  rintro ⟨v1571, v1574, v1604, v1606, v1616⟩ h22
  dsimp only
  refine first_step _ (by rw [k0_part23_eq_skeleton]; rfl) ?_
  rintro ⟨v1626, v1629, v1632, v1633, v1636, v1639, v1642, v1645, v1648, v1651, v1654, v1665, v1666, v1667,
    cst_653⟩ h23
  dsimp only
  refine first_step _ (by rw [k0_part24_eq_skeleton]; rfl) ?_
  rintro ⟨v1681, v1683, v1693, v1703, v1706, v1709, v1710, v1713, v1716, v1719, v1720⟩ h24
  dsimp only
  refine first_step _ (by rw [k0_part25_eq_skeleton]; rfl) ?_
  rintro ⟨v1722, v1725, v1728, v1758, v1760, v1767, v1768⟩ h25
  dsimp only
  refine first_step _ (by rw [k0_part26_eq_skeleton]; rfl) ?_
  rintro ⟨v1770, v1780, v1783, v1786, v1787, v1790, v1793, v1796, v1799, v1802, v1805, v1808, v1814, v1819,
    v1820⟩ h26
  dsimp only
  refine first_step _ (by rw [k0_part27_eq_skeleton]; rfl) ?_
  rintro ⟨v1835, v1837, v1847, v1857, v1860, v1863, v1864, v1867, v1870, v1871, v1872⟩ h27
  dsimp only
  refine first_step _ (by rw [k0_part28_eq_skeleton]; rfl) ?_
  rintro ⟨v1873, v1876, v1879, v1882, v1912, v1914, v1916, v1920⟩ h28
  dsimp only
  refine first_step _ (by rw [k0_part29_eq_skeleton]; rfl) ?_
  rintro ⟨v1924, v1934, v1937, v1940, v1941, v1944, v1947, v1950, v1953, v1956, v1959, v1962, v1968, v1970,
    v1971, v1972⟩ h29
  dsimp only
  refine first_step _ (by rw [k0_part30_eq_skeleton]; rfl) ?_
  rintro ⟨v1989, v1991, v2001, v2011, v2014, v2017, v2018, v2021, v2024⟩ h30
  dsimp only
  refine first_step _ (by rw [k0_part31_eq_skeleton]; rfl) ?_
  rintro ⟨v2027, v2030, v2033, v2036, v2066, v2068, v2070, v2072⟩ h31
  dsimp only
  refine first_step _ (by rw [k0_part32_eq_skeleton]; rfl) ?_
  rintro ⟨v2078, v2088, v2091, v2094, v2097, v2100, v2103, v2106, v2109, v2112, v2123, v2124, v2125⟩ h32
  dsimp only
  refine first_step _ (by rw [k0_part33_eq_skeleton]; rfl) ?_
  rintro ⟨v2151, v2161, v2164, v2167, v2170, v2173, v2176, v2177, v2178⟩ h33
  dsimp only
  refine first_step _ (by rw [k0_part34_eq_skeleton]; rfl) ?_
  rintro ⟨v2179, v2203, v2213, v2220, v2222, v2225, cst_753⟩ h34
  dsimp only
  refine first_step _ (by rw [k0_part35_eq_skeleton]; rfl) ?_
  rintro ⟨v2229, v2231, v2238, v2240, v2246, v2252, v2258, v2264, v2270, v2276, v2279⟩ h35
  dsimp only
  refine first_step _ (by rw [k0_part36_eq_skeleton]; rfl) ?_
  rintro ⟨v2296, v2298, v2300, v2302, v2304, v2306, v2308, v2310, v2312, v2314, v2316, v2318, v2320, v2322,
    v2324, v2326, v2328, v2330, v2338, v2339⟩ h36
  dsimp only
  refine first_step _ (by rw [k0_part37_eq_skeleton]; rfl) ?_
  rintro ⟨v2346, v2354, v2362, v2370, v2378, v2386, v2394, v2399⟩ h37
  dsimp only
  refine first_step _ (by rw [k0_part38_eq_skeleton]; rfl) ?_
  rintro ⟨v2404, v2406, v2408, v2410, v2412, v2414, v2416, v2418, v2420, v2446, v2448, v2450, v2452, v2454,
    v2456, v2459⟩ h38
  dsimp only
  refine first_step _ (by rw [k0_part39_eq_skeleton]; rfl) ?_
  rintro ⟨v2461, v2466, v2471, v2476, v2481, v2486, v2491, v2496, v2501, v2507, v2513, v2519⟩ h39
  dsimp only
  have hP : moved (vec S512x8) (vec S1x8).nar bc ⟨v23, v25, v27⟩ (toPose (arg6, arg7, arg8, arg9, arg10, arg11, arg12,
      arg13, arg14, arg15, arg16, arg17)) = ⟨v546, v556, v566⟩ := by
    cases h1; rfl
  have hN : neighbours v157
        ![⟨⟨v29, v31, v33⟩, v38, v43⟩, ⟨⟨v45, v47, v49⟩, v54, v59⟩, ⟨⟨v61, v63, v65⟩, v70, v75⟩, ⟨⟨v77, v79, v81⟩,
        v86, v91⟩, ⟨⟨v93, v95, v97⟩, v102, v107⟩, ⟨⟨v109, v111, v113⟩, v118, v123⟩, ⟨⟨v125, v127, v129⟩, v134,
        v139⟩, ⟨⟨v141, v143, v145⟩, v150, v155⟩]
        ⟨v546, v556, v566⟩ = ⟨v890, v891, v892⟩ := by
    cases h8; cases h7; cases h6; cases h5; cases h4; cases h3; cases h2; cases h1; rfl
  have hM : moments (vec S512x8) (vec S1x8) rsum bc ⟨v546, v556, v566⟩ ⟨v890, v891, v892⟩
      = (⟨v922, v926, v930⟩, ⟨v934, v938, v942⟩, ⟨⟨v972, v975, v978⟩, ⟨v981, v984, v987⟩, ⟨v990, v993, v996⟩⟩) := by
    cases h10; cases h9; cases h8; rfl
  have hE1 : sweep (vec S1x8) (eig0 (vec S1x8) ⟨⟨v972, v975, v978⟩, ⟨v981, v984, v987⟩, ⟨v990, v993, v996⟩⟩) = ⟨v1154, v1244, v1247, v1231, v1248, v1241,
      ⟨⟨v1174, v1251, v1254⟩, ⟨v1180, v1257, v1260⟩, ⟨v1186, v1263, v1266⟩⟩⟩ := by
    cases h16; cases h15; cases h14; cases h13; cases h12; cases h11; cases h10; rfl
  have hE2 : sweep (vec S1x8) ⟨v1154, v1244, v1247, v1231, v1248, v1241,
      ⟨⟨v1174, v1251, v1254⟩, ⟨v1180, v1257, v1260⟩, ⟨v1186, v1263, v1266⟩⟩⟩ = ⟨v1385, v1475, v1478, v1462, v1479, v1472,
      ⟨⟨v1405, v1482, v1485⟩, ⟨v1411, v1488, v1491⟩, ⟨v1417, v1494, v1497⟩⟩⟩ := by
    cases h20; cases h19; cases h18; cases h17; cases h16; rfl
  have hE3 : sweep (vec S1x8) ⟨v1385, v1475, v1478, v1462, v1479, v1472,
      ⟨⟨v1405, v1482, v1485⟩, ⟨v1411, v1488, v1491⟩, ⟨v1417, v1494, v1497⟩⟩⟩ = ⟨v1616, v1706, v1709, v1693, v1710, v1703,
      ⟨⟨v1636, v1713, v1716⟩, ⟨v1642, v1719, v1722⟩, ⟨v1648, v1725, v1728⟩⟩⟩ := by
    cases h25; cases h24; cases h23; cases h22; cases h21; cases h20; rfl
  have hE4 : sweep (vec S1x8) ⟨v1616, v1706, v1709, v1693, v1710, v1703,
      ⟨⟨v1636, v1713, v1716⟩, ⟨v1642, v1719, v1722⟩, ⟨v1648, v1725, v1728⟩⟩⟩ = ⟨v1847, v1937, v1940, v1924, v1941, v1934,
      ⟨⟨v1867, v1944, v1947⟩, ⟨v1873, v1950, v1953⟩, ⟨v1879, v1956, v1959⟩⟩⟩ := by
    cases h31; cases h30; cases h29; cases h28; cases h27; cases h26; cases h25; rfl
  have hE5 : let e := sweep (vec S1x8) ⟨v1847, v1937, v1940, v1924, v1941, v1934,
      ⟨⟨v1867, v1944, v1947⟩, ⟨v1873, v1950, v1953⟩, ⟨v1879, v1956, v1959⟩⟩⟩
      e.a00 = v2078 ∧ e.a11 = v2151 ∧ e.a22 = v2161
        ∧ e.V = ⟨⟨v2094, v2164, v2167⟩, ⟨v2100, v2170, v2173⟩, ⟨v2106, v2176, v2179⟩⟩ := by
    cases h34; cases h33; cases h32; cases h31; cases h30; cases h29; exact ⟨rfl, rfl, rfl, rfl⟩
  have hR : rotationFrom (vec S1x8) sgn ⟨⟨v972, v975, v978⟩, ⟨v981, v984, v987⟩, ⟨v990, v993, v996⟩⟩
      ⟨v2078, v2151, v2161⟩ ⟨⟨v2094, v2164, v2167⟩, ⟨v2100, v2170, v2173⟩, ⟨v2106, v2176, v2179⟩⟩
      = ⟨⟨v2338, v2346, v2354⟩, ⟨v2362, v2370, v2378⟩, ⟨v2386, v2394, addf v2399 (mulf (mulf v2312 v2238) v2330)⟩⟩ := by
    cases h37; cases h36; cases h35; cases h34; rfl
  have hB : bestRotation (vec S1x8) sgn ⟨⟨v972, v975, v978⟩, ⟨v981, v984, v987⟩, ⟨v990, v993, v996⟩⟩
      = ⟨⟨v2338, v2346, v2354⟩, ⟨v2362, v2370, v2378⟩, ⟨v2386, v2394, addf v2399 (mulf (mulf v2312 v2238) v2330)⟩⟩ := by
    unfold bestRotation diagonalise
    rw [hE1, hE2, hE3, hE4]
    dsimp only
    rw [hE5.1, hE5.2.1, hE5.2.2.1, hE5.2.2.2]
    exact hR
  unfold step compose
  dsimp only
  rw [hP, hN, hM]
  dsimp only
  rw [hB]
  cases h39; cases h38; cases h37; cases h1; rfl

/-- So the loop returns the eighth iterate of the step. -/
theorem loop_eq (arg0 : Memref sig .tc .vmem S3x512x8 .f32) (harg0 : arg0.IsWhole)
    (arg1 : Memref sig .tc .vmem S8x3x2048 .f32) (harg1 : arg1.IsWhole)
    (arg2 : Memref sig .tc .vmem S8x4x4 .f32) (harg2 : arg2.IsWhole)
    (arg3 : Memref sig .tc .vmem S1x1 .f32) (harg3 : arg3.IsWhole)
    (arg4 : Memref sig .tc .vmem S8x4x4 .f32) (harg4 : arg4.IsWhole)
    (v23 v25 v27 : FVec F S512x8 .f32)
    (v29 v31 v33 : FVec F S1x2048 .f32) (v38 : FVec F S3x2048 .bf16) (v43 : FVec F S1x2048 .f32)
    (v45 v47 v49 : FVec F S1x2048 .f32) (v54 : FVec F S3x2048 .bf16) (v59 : FVec F S1x2048 .f32)
    (v61 v63 v65 : FVec F S1x2048 .f32) (v70 : FVec F S3x2048 .bf16) (v75 : FVec F S1x2048 .f32)
    (v77 v79 v81 : FVec F S1x2048 .f32) (v86 : FVec F S3x2048 .bf16) (v91 : FVec F S1x2048 .f32)
    (v93 v95 v97 : FVec F S1x2048 .f32) (v102 : FVec F S3x2048 .bf16) (v107 : FVec F S1x2048 .f32)
    (v109 v111 v113 : FVec F S1x2048 .f32) (v118 : FVec F S3x2048 .bf16) (v123 : FVec F S1x2048 .f32)
    (v125 v127 v129 : FVec F S1x2048 .f32) (v134 : FVec F S3x2048 .bf16) (v139 : FVec F S1x2048 .f32)
    (v141 v143 v145 : FVec F S1x2048 .f32) (v150 : FVec F S3x2048 .bf16) (v155 : FVec F S1x2048 .f32)
    (v157 : FVec F S512x2048 .f32)
    (v174 v191 v208 v225 v242 v259 v276 v293 v310 v327 : FVec F S1x8 .f32)
    (v329 v331 v333 v335 v337 v339 : FVec F S1x1 .f32)
    (init : Carry F) :
    Scf.Loop.for k0_t1_loop k0_t1_ok init
      (k0_t1_body arg0 harg0 arg1 harg1 arg2 harg2 arg3 harg3 arg4 harg4 v23 v25 v27 v29 v31 v33 v38 v43 v45 v47
      v49 v54 v59 v61 v63 v65 v70 v75 v77 v79 v81 v86 v91 v93 v95 v97 v102 v107 v109 v111 v113 v118 v123 v125 v127
      v129 v134 v139 v141 v143 v145 v150 v155 v157 v174 v191 v208 v225 v242 v259 v276 v293 v310 v327 v329 v331 v333
      v335 v337 v339)
      = .ret (ofPose ((step v157 ⟨v23, v25, v27⟩
        ![⟨⟨v29, v31, v33⟩, v38, v43⟩, ⟨⟨v45, v47, v49⟩, v54, v59⟩, ⟨⟨v61, v63, v65⟩, v70, v75⟩, ⟨⟨v77, v79, v81⟩,
        v86, v91⟩, ⟨⟨v93, v95, v97⟩, v102, v107⟩, ⟨⟨v109, v111, v113⟩, v118, v123⟩, ⟨⟨v125, v127, v129⟩, v134,
        v139⟩, ⟨⟨v141, v143, v145⟩, v150, v155⟩])^[8]
        (toPose init))) := by
  refine (Scf.for_pure _ _ _ k0_t1_ok init _ _ (region_eq arg0 harg0 arg1 harg1 arg2 harg2 arg3 harg3 arg4 harg4
    v23 v25 v27 v29 v31 v33 v38 v43 v45 v47 v49 v54 v59 v61 v63 v65 v70 v75 v77 v79 v81 v86 v91 v93 v95 v97 v102
    v107 v109 v111 v113 v118 v123 v125 v127 v129 v134 v139 v141 v143 v145 v150 v155 v157 v174 v191 v208 v225 v242
    v259 v276 v293 v310 v327 v329 v331 v333 v335 v337 v339)).trans ?_
  rw [Scf.fold_eq, foldl_const, iterate_conj _ toPose ofPose (fun _ => rfl) (fun _ => rfl), List.length_finRange]
  rfl

end Cert.Kernel.Body

end
-- ==== Proof.KernelIdeal.Trip.lean ====
/-
  The kernel's loop, one trip as a function of the carried pose: the region of the loop issues nothing and returns
  `trip` of what it carries, so the loop returns the eighth iterate.
-/
module

public import proofs.«01_k».proof.Proof.Icp
public import proofs.«01_k».proof.Proof.Gen.KernelIdeal.Skeleton
public import proofs.«01_k».proof.Proof.Prog

@[expose] public section

set_option maxRecDepth 65536

noncomputable section

namespace Cert.KernelIdeal.Body

open Idealize.ShloMosaic Idealize.ShloMosaic.TcCoe Idealize.SL.Sem
open Cert.KernelIdeal.Gen Icp

variable {F : FTy → Type} [FloatOps F]

/-- The operations on vectors of a shape. -/
def vec (s : Shape) : Ops (FVec F s .f32) where
  add := addf
  sub := subf
  mul := mulf
  div := divf
  max := maximumf
  sqrt := sqrt
  abs := absf
  nar x := extf .f32 (truncf .bf16 x bitsLt_bf16_f32) bitsLt_bf16_f32
  lit b := broadcast s (Scalar.ofBits .f32 b)
  iflt x y := select (cmpf .olt x y)
  ifle x y := select (cmpf .ole x y)
  ifge x y := select (cmpf .oge x y)
  ifgt x y := select (cmpf .ogt x y)
  ifeq x y := select (cmpf .oeq x y)
  lt01 x y := sitofp .f32 (extui 32 (cmpf .olt x y) natLt_1_32)

/-- The sign of each entry. -/
def sgn (x : FVec F S1x8 .f32) : FVec F S1x8 .f32 :=
  select (cmpf .ogt (absf x) (broadcast S1x8 (Scalar.ofBits .f32 0x00000000#32)))
    (select (cmpf .olt x (constant S1x8 .f32 0x00000000#32)) (constant S1x8 .f32 0xBF800000#32)
      (constant S1x8 .f32 0x3F800000#32)) x

/-- The sum over the points, for each batch. -/
def rsum (x : FVec F S512x8 .f32) : FVec F S1x8 .f32 :=
  shapeCast S1x8 (multiReduction .add [0] S8 x 0x00000000#32 reduces_S512x8_S8 (.inl rfl) rfl) shapeCasts_S8_S1x8

/-- One value per batch, at every point. -/
def bc (x : FVec F S1x8 .f32) : FVec F S512x8 .f32 := broadcastTo S512x8 x broadcasts_S1x8_S512x8

theorem slices_col : ∀ b : Fin 8, S512x8.Slices ![0, b.val] S512x1 := by decide

/-- The column of one batch. -/
def col (b : Fin 8) (x : FVec F S512x8 .f32) : FVec F S512x1 .f32 :=
  extractStridedSlice S512x1 ![0, b.val] x (slices_col b)

/-- The least value of each row, at every place of the row. -/
def rowMin (x : FVec F S512x2048 .f32) : FVec F S512x2048 .f32 :=
  broadcastTo S512x2048 (shapeCast S512x1
    (multiReduction .minimumf [1] S512 x 0x7F800000#32 reduces_S512x2048_S512 (.inl rfl) rfl) shapeCasts_S512_S512x1)
    broadcasts_S512x1_S512x2048

/-- A map, as the kernel keeps it: its three coordinates, the coordinates times −2, and the squared norms. -/
structure Cloud (F : FTy → Type) where
  m : V3 (FVec F S1x2048 .f32)
  m2 : FVec F S3x2048 .bf16
  sq : FVec F S1x2048 .f32

/-- The squared distances of the scan points of batch `b` to the map points. -/
def dist2 (b : Fin 8) (M : Cloud F) (P : V3 (FVec F S512x8 .f32)) : FVec F S512x2048 .f32 :=
  let o := vec (F := F) S512x8
  let pb := P.map o.nar
  addf (addf (broadcastTo S512x2048 (col b (dot o P P)) broadcasts_S512x1_S512x2048)
      (broadcastTo S512x2048 M.sq broadcasts_S1x2048_S512x2048))
    (matmul dot_S512x3_S3x2048_S512x2048_1_0_0_1_n_n none
      (truncf .bf16 (concatenate S512x3 1 [⟨S512x1, col b pb.x⟩, ⟨S512x1, col b pb.y⟩, ⟨S512x1, col b pb.z⟩]
        concatenates_S512x1_S512x1_S512x1_S512x3_d1) bitsLt_bf16_f32)
      M.m2 (constant S512x2048 .f32 0x00000000#32))

/-- Where each scan point's nearest map point is: the first place of the row's least value. -/
def nearest (io d : FVec F S512x2048 .f32) : IVec S512x2048 1 :=
  cmpf .oeq io (rowMin (select (cmpf .oeq d (rowMin d)) io (broadcast S512x2048 (Scalar.ofBits .f32 0x45000000#32))))

/-- The value of a map coordinate where the mask says. -/
def pick (k : IVec S512x2048 1) (r : FVec F S1x2048 .f32) : FVec F S512x1 .f32 :=
  shapeCast S512x1 (multiReduction .add [1] S512
    (select k (broadcastTo S512x2048 (shapeCast S1x2048 r shapeCasts_S1x2048_S1x2048) broadcasts_S1x2048_S512x2048)
      (broadcast S512x2048 (Scalar.ofBits .f32 0x00000000#32))) 0x00000000#32 reduces_S512x2048_S512 (.inl rfl) rfl)
    shapeCasts_S512_S512x1

/-- The columns of the eight batches side by side. -/
def cols (f : Fin 8 → FVec F S512x1 .f32) : FVec F S512x8 .f32 :=
  concatenate S512x8 1 [⟨S512x1, f 0⟩, ⟨S512x1, f 1⟩, ⟨S512x1, f 2⟩, ⟨S512x1, f 3⟩, ⟨S512x1, f 4⟩, ⟨S512x1, f 5⟩,
    ⟨S512x1, f 6⟩, ⟨S512x1, f 7⟩] concatenates_S512x1_S512x1_S512x1_S512x1_S512x1_S512x1_S512x1_S512x1_S512x8_d1

/-- Each scan point's nearest map point. -/
def neighbours (io : FVec F S512x2048 .f32) (M : Fin 8 → Cloud F) (P : V3 (FVec F S512x8 .f32)) :
    V3 (FVec F S512x8 .f32) :=
  ⟨cols fun b => pick (nearest io (dist2 b (M b) P)) (M b).m.x,
   cols fun b => pick (nearest io (dist2 b (M b) P)) (M b).m.y,
   cols fun b => pick (nearest io (dist2 b (M b) P)) (M b).m.z⟩

/-- What the loop carries: the nine entries of the rotations and the three of the translations. -/
abbrev Carry (F : FTy → Type) := FVec F S1x8 .f32 × FVec F S1x8 .f32 × FVec F S1x8 .f32 × FVec F S1x8 .f32 ×
  FVec F S1x8 .f32 × FVec F S1x8 .f32 × FVec F S1x8 .f32 × FVec F S1x8 .f32 × FVec F S1x8 .f32 × FVec F S1x8 .f32 ×
  FVec F S1x8 .f32 × FVec F S1x8 .f32

/-- The pose carried. -/
def toPose (a : Carry F) : Pose (FVec F S1x8 .f32) :=
  ⟨⟨⟨a.1, a.2.1, a.2.2.1⟩, ⟨a.2.2.2.1, a.2.2.2.2.1, a.2.2.2.2.2.1⟩,
    ⟨a.2.2.2.2.2.2.1, a.2.2.2.2.2.2.2.1, a.2.2.2.2.2.2.2.2.1⟩⟩,
   ⟨a.2.2.2.2.2.2.2.2.2.1, a.2.2.2.2.2.2.2.2.2.2.1, a.2.2.2.2.2.2.2.2.2.2.2⟩⟩

/-- A pose as it is carried. -/
def ofPose (T : Pose (FVec F S1x8 .f32)) : Carry F :=
  (T.R.x.x, T.R.x.y, T.R.x.z, T.R.y.x, T.R.y.y, T.R.y.z, T.R.z.x, T.R.z.y, T.R.z.z, T.t.x, T.t.y, T.t.z)

/-- One registration step on the carried pose. -/
def step (io : FVec F S512x2048 .f32) (S : V3 (FVec F S512x8 .f32)) (M : Fin 8 → Cloud F)
    (T : Pose (FVec F S1x8 .f32)) : Pose (FVec F S1x8 .f32) :=
  let P := moved (vec S512x8) (vec S1x8).nar bc S T
  compose (vec S1x8) sgn (moments (vec S512x8) (vec S1x8) rsum bc P (neighbours io M P)) T

set_option maxHeartbeats 0 in
/-- The region of the loop issues nothing and returns the step of what it carries. The values the parts of the region
    hand on are named as they are printed; each stage of the step is recognised from the parts that hold it. -/
theorem region_eq (arg0 : Memref sig .tc .vmem S3x512x8 .f32) (harg0 : arg0.IsWhole)
    (arg1 : Memref sig .tc .vmem S8x3x2048 .f32) (harg1 : arg1.IsWhole)
    (arg2 : Memref sig .tc .vmem S8x4x4 .f32) (harg2 : arg2.IsWhole)
    (arg3 : Memref sig .tc .vmem S1x1 .f32) (harg3 : arg3.IsWhole)
    (arg4 : Memref sig .tc .vmem S8x4x4 .f32) (harg4 : arg4.IsWhole)
    (v23 v25 v27 : FVec F S512x8 .f32)
    (v29 v31 v33 : FVec F S1x2048 .f32) (v38 : FVec F S3x2048 .bf16) (v43 : FVec F S1x2048 .f32)
    (v45 v47 v49 : FVec F S1x2048 .f32) (v54 : FVec F S3x2048 .bf16) (v59 : FVec F S1x2048 .f32)
    (v61 v63 v65 : FVec F S1x2048 .f32) (v70 : FVec F S3x2048 .bf16) (v75 : FVec F S1x2048 .f32)
    (v77 v79 v81 : FVec F S1x2048 .f32) (v86 : FVec F S3x2048 .bf16) (v91 : FVec F S1x2048 .f32)
    (v93 v95 v97 : FVec F S1x2048 .f32) (v102 : FVec F S3x2048 .bf16) (v107 : FVec F S1x2048 .f32)
    (v109 v111 v113 : FVec F S1x2048 .f32) (v118 : FVec F S3x2048 .bf16) (v123 : FVec F S1x2048 .f32)
    (v125 v127 v129 : FVec F S1x2048 .f32) (v134 : FVec F S3x2048 .bf16) (v139 : FVec F S1x2048 .f32)
    (v141 v143 v145 : FVec F S1x2048 .f32) (v150 : FVec F S3x2048 .bf16) (v155 : FVec F S1x2048 .f32)
    (v157 : FVec F S512x2048 .f32)
    (v174 v191 v208 v225 v242 v259 v276 v293 v310 v327 : FVec F S1x8 .f32)
    (v329 v331 v333 v335 v337 v339 : FVec F S1x1 .f32)
    (k : Fin k0_t1_loop.trips) (a : Carry F) :
      (k0_t1_body arg0 harg0 arg1 harg1 arg2 harg2 arg3 harg3 arg4 harg4 v23 v25 v27 v29 v31 v33 v38 v43 v45 v47
      v49 v54 v59 v61 v63 v65 v70 v75 v77 v79 v81 v86 v91 v93 v95 v97 v102 v107 v109 v111 v113 v118 v123 v125 v127
      v129 v134 v139 v141 v143 v145 v150 v155 v157 v174 v191 v208 v225 v242 v259 v276 v293 v310 v327 v329 v331 v333
      v335 v337 v339 k a)
      = .ret (ofPose (step v157 ⟨v23, v25, v27⟩
        ![⟨⟨v29, v31, v33⟩, v38, v43⟩, ⟨⟨v45, v47, v49⟩, v54, v59⟩, ⟨⟨v61, v63, v65⟩, v70, v75⟩, ⟨⟨v77, v79, v81⟩,
        v86, v91⟩, ⟨⟨v93, v95, v97⟩, v102, v107⟩, ⟨⟨v109, v111, v113⟩, v118, v123⟩, ⟨⟨v125, v127, v129⟩, v134,
        v139⟩, ⟨⟨v141, v143, v145⟩, v150, v155⟩]
        (toPose a))) := by
  obtain ⟨arg6, arg7, arg8, arg9, arg10, arg11, arg12, arg13, arg14, arg15, arg16, arg17⟩ := a
  unfold k0_t1_body
  dsimp only
  rw [k0_part39_eq_skeleton]
  unfold k0_part39_skel
  refine ret_step _ (by rw [k0_part1_eq_skeleton]; rfl) ?_
  rintro ⟨v520, v522, v524, v526, v528, v530, v532, v534, v536, v546, v556, v566, v571, v573, v575, v577⟩ h1
  refine ret_step _ (by rw [k0_part2_eq_skeleton]; rfl) ?_
  rintro ⟨v604, v610, v616, v622, v626⟩ h2
  refine ret_step _ (by rw [k0_part3_eq_skeleton]; rfl) ?_
  rintro ⟨v643, v649, v655, v673⟩ h3
  refine ret_step _ (by rw [k0_part4_eq_skeleton]; rfl) ?_
  rintro ⟨v682, v688, v694, v715, v721⟩ h4
  refine ret_step _ (by rw [k0_part5_eq_skeleton]; rfl) ?_
  rintro ⟨v727, v733, v754, v760, v766, cst_472, v768⟩ h5
  refine ret_step _ (by rw [k0_part6_eq_skeleton]; rfl) ?_
  rintro ⟨v772, v799, v805, v811, v816, cst_484⟩ h6
  refine ret_step _ (by rw [k0_part7_eq_skeleton]; rfl) ?_
  rintro ⟨v838, v844, v850, v865⟩ h7
  refine ret_step _ (by rw [k0_part8_eq_skeleton]; rfl) ?_
  rintro ⟨v890, v891, v892, v907, v909, v911, v912⟩ h8
  refine ret_step _ (by rw [k0_part9_eq_skeleton]; rfl) ?_
  rintro ⟨v922, v926, v930, v934, v938, v942, v952, v954, v957, v960, v963, v964⟩ h9
  refine ret_step _ (by rw [k0_part10_eq_skeleton]; rfl) ?_
  rintro ⟨v972, v975, v978, v981, v984, v987, v990, v993, v996, v1001, v1006, v1011, v1014, v1015⟩ h10
  refine ret_step _ (by rw [k0_part11_eq_skeleton]; rfl) ?_
  rintro ⟨v1016, v1021, v1026, v1027, v1028, v1029, v1030, v1031, v1032, v1033, v1034, v1035, v1038, v1056,
    v1057, v1058⟩ h11
  refine ret_step _ (by rw [k0_part12_eq_skeleton]; rfl) ?_
  rintro ⟨v1077, v1087, v1090, v1093, v1094, v1097, v1100, v1103, v1106, v1109, v1112⟩ h12
  refine ret_step _ (by rw [k0_part13_eq_skeleton]; rfl) ?_
  rintro ⟨v1142, v1144, v1154, v1156, v1159⟩ h13
  refine ret_step _ (by rw [k0_part14_eq_skeleton]; rfl) ?_
  rintro ⟨v1164, v1167, v1170, v1171, v1174, v1177, v1180, v1183, v1186, v1189, v1192, v1210, v1211⟩ h14
  refine ret_step _ (by rw [k0_part15_eq_skeleton]; rfl) ?_
  rintro ⟨v1219, v1231, v1241, v1244, v1247, v1248, v1251, v1254, v1257, v1260, v1263, v1264⟩ h15
  refine ret_step _ (by rw [k0_part16_eq_skeleton]; rfl) ?_
  rintro ⟨v1266, v1296, v1298, v1308, v1310, v1311⟩ h16
  refine ret_step _ (by rw [k0_part17_eq_skeleton]; rfl) ?_
  rintro ⟨v1318, v1321, v1324, v1325, v1328, v1331, v1334, v1337, v1340, v1343, v1346, v1357, v1363⟩ h17
  refine ret_step _ (by rw [k0_part18_eq_skeleton]; rfl) ?_
  rintro ⟨v1373, v1375, v1385, v1395, v1398, v1401, v1402, v1405, v1408, v1411, v1414, v1415, v1416⟩ h18
  refine ret_step _ (by rw [k0_part19_eq_skeleton]; rfl) ?_
  rintro ⟨v1417, v1420, v1450, v1452, v1462, v1464⟩ h19
  refine ret_step _ (by rw [k0_part20_eq_skeleton]; rfl) ?_
  rintro ⟨v1472, v1475, v1478, v1479, v1482, v1485, v1488, v1491, v1494, v1497, v1500, v1511, v1512, v1515⟩ h20
  refine ret_step _ (by rw [k0_part21_eq_skeleton]; rfl) ?_
  rintro ⟨v1527, v1529, v1539, v1549, v1552, v1555, v1556, v1559, v1562, v1565, v1568⟩ h21
  refine ret_step _ (by rw [k0_part22_eq_skeleton]; rfl) ?_
  rintro ⟨v1571, v1574, v1604, v1606, v1616⟩ h22
  refine ret_step _ (by rw [k0_part23_eq_skeleton]; rfl) ?_
  rintro ⟨v1626, v1629, v1632, v1633, v1636, v1639, v1642, v1645, v1648, v1651, v1654, v1665, v1666, v1667,
    cst_653⟩ h23
  refine ret_step _ (by rw [k0_part24_eq_skeleton]; rfl) ?_
  rintro ⟨v1681, v1683, v1693, v1703, v1706, v1709, v1710, v1713, v1716, v1719, v1720⟩ h24
  refine ret_step _ (by rw [k0_part25_eq_skeleton]; rfl) ?_
  rintro ⟨v1722, v1725, v1728, v1758, v1760, v1767, v1768⟩ h25
  refine ret_step _ (by rw [k0_part26_eq_skeleton]; rfl) ?_
  rintro ⟨v1770, v1780, v1783, v1786, v1787, v1790, v1793, v1796, v1799, v1802, v1805, v1808, v1814, v1819,
    v1820⟩ h26
  refine ret_step _ (by rw [k0_part27_eq_skeleton]; rfl) ?_
  rintro ⟨v1835, v1837, v1847, v1857, v1860, v1863, v1864, v1867, v1870, v1871, v1872⟩ h27
  refine ret_step _ (by rw [k0_part28_eq_skeleton]; rfl) ?_
  rintro ⟨v1873, v1876, v1879, v1882, v1912, v1914, v1916, v1920⟩ h28
  refine ret_step _ (by rw [k0_part29_eq_skeleton]; rfl) ?_
  rintro ⟨v1924, v1934, v1937, v1940, v1941, v1944, v1947, v1950, v1953, v1956, v1959, v1962, v1968, v1970,
    v1971, v1972⟩ h29
  refine ret_step _ (by rw [k0_part30_eq_skeleton]; rfl) ?_
  rintro ⟨v1989, v1991, v2001, v2011, v2014, v2017, v2018, v2021, v2024⟩ h30
  refine ret_step _ (by rw [k0_part31_eq_skeleton]; rfl) ?_
  rintro ⟨v2027, v2030, v2033, v2036, v2066, v2068, v2070, v2072⟩ h31
  refine ret_step _ (by rw [k0_part32_eq_skeleton]; rfl) ?_
  rintro ⟨v2078, v2088, v2091, v2094, v2097, v2100, v2103, v2106, v2109, v2112, v2123, v2124, v2125⟩ h32
  refine ret_step _ (by rw [k0_part33_eq_skeleton]; rfl) ?_
  rintro ⟨v2151, v2161, v2164, v2167, v2170, v2173, v2176, v2177, v2178⟩ h33
  refine ret_step _ (by rw [k0_part34_eq_skeleton]; rfl) ?_
  rintro ⟨v2179, v2203, v2213, v2220, v2222, v2225, v2227, cst_754⟩ h34
  refine ret_step _ (by rw [k0_part35_eq_skeleton]; rfl) ?_
  rintro ⟨v2229, v2231, v2238, v2240, v2246, v2252, v2258, v2264, v2270, v2276, v2282⟩ h35
  refine ret_step _ (by rw [k0_part36_eq_skeleton]; rfl) ?_
  rintro ⟨v2296, v2298, v2300, v2302, v2304, v2306, v2308, v2310, v2312, v2314, v2316, v2318, v2320, v2322,
    v2324, v2326, v2328, v2330, v2338, v2340, v2342⟩ h36
  refine ret_step _ (by rw [k0_part37_eq_skeleton]; rfl) ?_
  rintro ⟨v2346, v2354, v2362, v2370, v2378, v2386, v2394, v2402⟩ h37
  refine ret_step _ (by rw [k0_part38_eq_skeleton]; rfl) ?_
  rintro ⟨v2404, v2406, v2408, v2410, v2412, v2414, v2416, v2418, v2420, v2446, v2448, v2450, v2452, v2454,
    v2456, v2461, v2462⟩ h38
  have hP : moved (vec S512x8) (vec S1x8).nar bc ⟨v23, v25, v27⟩ (toPose (arg6, arg7, arg8, arg9, arg10, arg11, arg12,
      arg13, arg14, arg15, arg16, arg17)) = ⟨v546, v556, v566⟩ := by
    cases h1; rfl
  have hN : neighbours v157
        ![⟨⟨v29, v31, v33⟩, v38, v43⟩, ⟨⟨v45, v47, v49⟩, v54, v59⟩, ⟨⟨v61, v63, v65⟩, v70, v75⟩, ⟨⟨v77, v79, v81⟩,
        v86, v91⟩, ⟨⟨v93, v95, v97⟩, v102, v107⟩, ⟨⟨v109, v111, v113⟩, v118, v123⟩, ⟨⟨v125, v127, v129⟩, v134,
        v139⟩, ⟨⟨v141, v143, v145⟩, v150, v155⟩]
        ⟨v546, v556, v566⟩ = ⟨v890, v891, v892⟩ := by
    cases h8; cases h7; cases h6; cases h5; cases h4; cases h3; cases h2; cases h1; rfl
  have hM : moments (vec S512x8) (vec S1x8) rsum bc ⟨v546, v556, v566⟩ ⟨v890, v891, v892⟩
      = (⟨v922, v926, v930⟩, ⟨v934, v938, v942⟩, ⟨⟨v972, v975, v978⟩, ⟨v981, v984, v987⟩, ⟨v990, v993, v996⟩⟩) := by
    cases h10; cases h9; cases h8; rfl
  have hE1 : sweep (vec S1x8) (eig0 (vec S1x8) ⟨⟨v972, v975, v978⟩, ⟨v981, v984, v987⟩, ⟨v990, v993, v996⟩⟩) = ⟨v1154, v1244, v1247, v1231, v1248, v1241,
      ⟨⟨v1174, v1251, v1254⟩, ⟨v1180, v1257, v1260⟩, ⟨v1186, v1263, v1266⟩⟩⟩ := by
    cases h16; cases h15; cases h14; cases h13; cases h12; cases h11; cases h10; rfl
  have hE2 : sweep (vec S1x8) ⟨v1154, v1244, v1247, v1231, v1248, v1241,
      ⟨⟨v1174, v1251, v1254⟩, ⟨v1180, v1257, v1260⟩, ⟨v1186, v1263, v1266⟩⟩⟩ = ⟨v1385, v1475, v1478, v1462, v1479, v1472,
      ⟨⟨v1405, v1482, v1485⟩, ⟨v1411, v1488, v1491⟩, ⟨v1417, v1494, v1497⟩⟩⟩ := by
    cases h20; cases h19; cases h18; cases h17; cases h16; rfl
  have hE3 : sweep (vec S1x8) ⟨v1385, v1475, v1478, v1462, v1479, v1472,
      ⟨⟨v1405, v1482, v1485⟩, ⟨v1411, v1488, v1491⟩, ⟨v1417, v1494, v1497⟩⟩⟩ = ⟨v1616, v1706, v1709, v1693, v1710, v1703,
      ⟨⟨v1636, v1713, v1716⟩, ⟨v1642, v1719, v1722⟩, ⟨v1648, v1725, v1728⟩⟩⟩ := by
    cases h25; cases h24; cases h23; cases h22; cases h21; cases h20; rfl
  have hE4 : sweep (vec S1x8) ⟨v1616, v1706, v1709, v1693, v1710, v1703,
      ⟨⟨v1636, v1713, v1716⟩, ⟨v1642, v1719, v1722⟩, ⟨v1648, v1725, v1728⟩⟩⟩ = ⟨v1847, v1937, v1940, v1924, v1941, v1934,
      ⟨⟨v1867, v1944, v1947⟩, ⟨v1873, v1950, v1953⟩, ⟨v1879, v1956, v1959⟩⟩⟩ := by
    cases h31; cases h30; cases h29; cases h28; cases h27; cases h26; cases h25; rfl
  have hE5 : let e := sweep (vec S1x8) ⟨v1847, v1937, v1940, v1924, v1941, v1934,
      ⟨⟨v1867, v1944, v1947⟩, ⟨v1873, v1950, v1953⟩, ⟨v1879, v1956, v1959⟩⟩⟩
      e.a00 = v2078 ∧ e.a11 = v2151 ∧ e.a22 = v2161
        ∧ e.V = ⟨⟨v2094, v2164, v2167⟩, ⟨v2100, v2170, v2173⟩, ⟨v2106, v2176, v2179⟩⟩ := by
    cases h34; cases h33; cases h32; cases h31; cases h30; cases h29; exact ⟨rfl, rfl, rfl, rfl⟩
  have hR : rotationFrom (vec S1x8) sgn ⟨⟨v972, v975, v978⟩, ⟨v981, v984, v987⟩, ⟨v990, v993, v996⟩⟩
      ⟨v2078, v2151, v2161⟩ ⟨⟨v2094, v2164, v2167⟩, ⟨v2100, v2170, v2173⟩, ⟨v2106, v2176, v2179⟩⟩
      = ⟨⟨v2338, v2346, v2354⟩, ⟨v2362, v2370, v2378⟩, ⟨v2386, v2394, v2402⟩⟩ := by
    cases h37; cases h36; cases h35; cases h34; rfl
  have hB : bestRotation (vec S1x8) sgn ⟨⟨v972, v975, v978⟩, ⟨v981, v984, v987⟩, ⟨v990, v993, v996⟩⟩
      = ⟨⟨v2338, v2346, v2354⟩, ⟨v2362, v2370, v2378⟩, ⟨v2386, v2394, v2402⟩⟩ := by
    unfold bestRotation diagonalise
    rw [hE1, hE2, hE3, hE4]
    dsimp only
    rw [hE5.1, hE5.2.1, hE5.2.2.1, hE5.2.2.2]
    exact hR
  unfold step compose
  dsimp only
  rw [hP, hN, hM]
  dsimp only
  rw [hB]
  cases h38; cases h37; cases h1; rfl

/-- So the loop returns the eighth iterate of the step. -/
theorem loop_eq (arg0 : Memref sig .tc .vmem S3x512x8 .f32) (harg0 : arg0.IsWhole)
    (arg1 : Memref sig .tc .vmem S8x3x2048 .f32) (harg1 : arg1.IsWhole)
    (arg2 : Memref sig .tc .vmem S8x4x4 .f32) (harg2 : arg2.IsWhole)
    (arg3 : Memref sig .tc .vmem S1x1 .f32) (harg3 : arg3.IsWhole)
    (arg4 : Memref sig .tc .vmem S8x4x4 .f32) (harg4 : arg4.IsWhole)
    (v23 v25 v27 : FVec F S512x8 .f32)
    (v29 v31 v33 : FVec F S1x2048 .f32) (v38 : FVec F S3x2048 .bf16) (v43 : FVec F S1x2048 .f32)
    (v45 v47 v49 : FVec F S1x2048 .f32) (v54 : FVec F S3x2048 .bf16) (v59 : FVec F S1x2048 .f32)
    (v61 v63 v65 : FVec F S1x2048 .f32) (v70 : FVec F S3x2048 .bf16) (v75 : FVec F S1x2048 .f32)
    (v77 v79 v81 : FVec F S1x2048 .f32) (v86 : FVec F S3x2048 .bf16) (v91 : FVec F S1x2048 .f32)
    (v93 v95 v97 : FVec F S1x2048 .f32) (v102 : FVec F S3x2048 .bf16) (v107 : FVec F S1x2048 .f32)
    (v109 v111 v113 : FVec F S1x2048 .f32) (v118 : FVec F S3x2048 .bf16) (v123 : FVec F S1x2048 .f32)
    (v125 v127 v129 : FVec F S1x2048 .f32) (v134 : FVec F S3x2048 .bf16) (v139 : FVec F S1x2048 .f32)
    (v141 v143 v145 : FVec F S1x2048 .f32) (v150 : FVec F S3x2048 .bf16) (v155 : FVec F S1x2048 .f32)
    (v157 : FVec F S512x2048 .f32)
    (v174 v191 v208 v225 v242 v259 v276 v293 v310 v327 : FVec F S1x8 .f32)
    (v329 v331 v333 v335 v337 v339 : FVec F S1x1 .f32)
    (init : Carry F) :
    Scf.Loop.for k0_t1_loop k0_t1_ok init
      (k0_t1_body arg0 harg0 arg1 harg1 arg2 harg2 arg3 harg3 arg4 harg4 v23 v25 v27 v29 v31 v33 v38 v43 v45 v47
      v49 v54 v59 v61 v63 v65 v70 v75 v77 v79 v81 v86 v91 v93 v95 v97 v102 v107 v109 v111 v113 v118 v123 v125 v127
      v129 v134 v139 v141 v143 v145 v150 v155 v157 v174 v191 v208 v225 v242 v259 v276 v293 v310 v327 v329 v331 v333
      v335 v337 v339)
      = .ret (ofPose ((step v157 ⟨v23, v25, v27⟩
        ![⟨⟨v29, v31, v33⟩, v38, v43⟩, ⟨⟨v45, v47, v49⟩, v54, v59⟩, ⟨⟨v61, v63, v65⟩, v70, v75⟩, ⟨⟨v77, v79, v81⟩,
        v86, v91⟩, ⟨⟨v93, v95, v97⟩, v102, v107⟩, ⟨⟨v109, v111, v113⟩, v118, v123⟩, ⟨⟨v125, v127, v129⟩, v134,
        v139⟩, ⟨⟨v141, v143, v145⟩, v150, v155⟩])^[8]
        (toPose init))) := by
  refine (Scf.for_pure _ _ _ k0_t1_ok init _ _ (region_eq arg0 harg0 arg1 harg1 arg2 harg2 arg3 harg3 arg4 harg4
    v23 v25 v27 v29 v31 v33 v38 v43 v45 v47 v49 v54 v59 v61 v63 v65 v70 v75 v77 v79 v81 v86 v91 v93 v95 v97 v102
    v107 v109 v111 v113 v118 v123 v125 v127 v129 v134 v139 v141 v143 v145 v150 v155 v157 v174 v191 v208 v225 v242
    v259 v276 v293 v310 v327 v329 v331 v333 v335 v337 v339)).trans ?_
  rw [Scf.fold_eq, foldl_const, iterate_conj _ toPose ofPose (fun _ => rfl) (fun _ => rfl), List.length_finRange]
  rfl

end Cert.KernelIdeal.Body

end
-- ==== Proof.KernelIdeal.Output.lean ====
/-
  What the kernel leaves in its result, as a function of its four input blocks: the scan scaled and rounded, the eight
  maps, the eight starting poses, the eighth iterate of the step, and that pose written out as eight 4×4 matrices.
-/
module

public import proofs.«01_k».proof.Proof.KernelIdeal.Trip
public import proofs.«01_k».proof.Proof.Gen.KernelIdeal.Launch
public import Idealize.ShloMosaic.Lib.Pipeline.FrameBody
public import Idealize.ShloMosaic.Lib.Tactic

@[expose] public section

set_option maxRecDepth 65536

noncomputable section

namespace Cert.KernelIdeal.Body

open Idealize.ShloMosaic Idealize.ShloMosaic.TcCoe Idealize.SL.Sem
open Cert.KernelIdeal.Gen Icp

variable {F : FTy → Type} [FloatOps F]

theorem inb_plane : ∀ i : Fin 3, ∀ a, (![i.val, 0, 0] : Fin 3 → ℕ) a + S1x512x8.size a ≤ S3x512x8.size a := by decide
theorem inb_map : ∀ b : Fin 8, ∀ a, (![b.val, 0, 0] : Fin 3 → ℕ) a + S1x3x2048.size a ≤ S8x3x2048.size a := by decide
theorem inb_row : ∀ (b : Fin 8) (k : Fin 3),
    ∀ a, (![b.val, k.val, 0] : Fin 3 → ℕ) a + S1x1x2048.size a ≤ S8x3x2048.size a := by decide
theorem inb_entry : ∀ (b : Fin 8) (i j : Fin 4),
    ∀ a, (![b.val, i.val, j.val] : Fin 3 → ℕ) a + S1x1x1.size a ≤ S8x4x4.size a := by decide
theorem inb_block : ∀ b : Fin 8, ∀ a, (![b.val, 0, 0] : Fin 3 → ℕ) a + S1x4x4.size a ≤ S8x4x4.size a := by decide
theorem slices_lane : ∀ b : Fin 8, S1x8.Slices ![0, b.val] S1x1 := by decide

/-- One coordinate of the scan points, over 1.2, times the scale kept from being negative, rounded. -/
def scanPlane (i : Fin 3) (x0 : Vec F S3x512x8 .f32) (x3 : Vec F S1x1 .f32) : FVec F S512x8 .f32 :=
  (vec S512x8).nar (mulf
    (divf (shapeCast S512x8 (View.ld x0 (Rect.unit (s := S3x512x8) ![i.val, 0, 0] S1x512x8.size (inb_plane i)))
      shapeCasts_S1x512x8_S512x8) (broadcast S512x8 (Scalar.ofBits .f32 0x3F99999A#32)))
    (broadcastTo S512x8
      (maximumf (shapeCast S1x1 (View.ld x3 (Rect.unit (s := S1x1) ![0, 0] S1x1.size inb_S1x1_S1x1_0_0))
          shapeCasts_S1x1_S1x1)
        (broadcast S1x1 (Scalar.ofBits .f32 0x00000000#32))) broadcasts_S1x1_S512x8))

/-- The scan points, scaled. -/
def scan (x0 : Vec F S3x512x8 .f32) (x3 : Vec F S1x1 .f32) : V3 (FVec F S512x8 .f32) :=
  ⟨scanPlane 0 x0 x3, scanPlane 1 x0 x3, scanPlane 2 x0 x3⟩

/-- One coordinate of the map points of batch `b`. -/
def mapRow (b : Fin 8) (k : Fin 3) (x1 : Vec F S8x3x2048 .f32) : FVec F S1x2048 .f32 :=
  shapeCast S1x2048 (View.ld x1 (Rect.unit (s := S8x3x2048) ![b.val, k.val, 0] S1x1x2048.size (inb_row b k)))
    shapeCasts_S1x1x2048_S1x2048

/-- The map of batch `b`. -/
def cloud (x1 : Vec F S8x3x2048 .f32) (b : Fin 8) : Cloud F where
  m := ⟨mapRow b 0 x1, mapRow b 1 x1, mapRow b 2 x1⟩
  m2 := truncf .bf16 (mulf
    (shapeCast S3x2048 (View.ld x1 (Rect.unit (s := S8x3x2048) ![b.val, 0, 0] S1x3x2048.size (inb_map b)))
      shapeCasts_S1x3x2048_S3x2048) (broadcast S3x2048 (Scalar.ofBits .f32 0xC0000000#32))) bitsLt_bf16_f32
  sq := dot (vec S1x2048) ⟨mapRow b 0 x1, mapRow b 1 x1, mapRow b 2 x1⟩ ⟨mapRow b 0 x1, mapRow b 1 x1, mapRow b 2 x1⟩

/-- Entry `(i, j)` of the starting pose of batch `b`. -/
def startAt (b : Fin 8) (i j : Fin 4) (x2 : Vec F S8x4x4 .f32) : FVec F S1x1 .f32 :=
  shapeCast S1x1 (View.ld x2 (Rect.unit (s := S8x4x4) ![b.val, i.val, j.val] S1x1x1.size (inb_entry b i j)))
    shapeCasts_S1x1x1_S1x1

/-- Entry `(i, j)` of the starting poses, one per batch. -/
def startEntry (i j : Fin 4) (x2 : Vec F S8x4x4 .f32) : FVec F S1x8 .f32 :=
  concatenate S1x8 1 [⟨S1x1, startAt 0 i j x2⟩, ⟨S1x1, startAt 1 i j x2⟩, ⟨S1x1, startAt 2 i j x2⟩,
    ⟨S1x1, startAt 3 i j x2⟩, ⟨S1x1, startAt 4 i j x2⟩, ⟨S1x1, startAt 5 i j x2⟩, ⟨S1x1, startAt 6 i j x2⟩,
    ⟨S1x1, startAt 7 i j x2⟩] concatenates_S1x1_S1x1_S1x1_S1x1_S1x1_S1x1_S1x1_S1x1_S1x8_d1

/-- The starting poses. -/
def start (x2 : Vec F S8x4x4 .f32) : Pose (FVec F S1x8 .f32) where
  R := ⟨⟨startEntry 0 0 x2, startEntry 0 1 x2, startEntry 0 2 x2⟩,
    ⟨startEntry 1 0 x2, startEntry 1 1 x2, startEntry 1 2 x2⟩,
    ⟨startEntry 2 0 x2, startEntry 2 1 x2, startEntry 2 2 x2⟩⟩
  t := ⟨startEntry 0 3 x2, startEntry 1 3 x2, startEntry 2 3 x2⟩

/-- The place of each map point in its row, as a number. -/
def places : FVec F S512x2048 .f32 := sitofp .f32 (iota .tc S512x2048 32 [1] iota_S512x2048_d1_w32)

/-- The eight maps. -/
def clouds (x1 : Vec F S8x3x2048 .f32) : Fin 8 → Cloud F :=
  ![cloud x1 0, cloud x1 1, cloud x1 2, cloud x1 3, cloud x1 4, cloud x1 5, cloud x1 6, cloud x1 7]

/-- Eight trips. -/
@[irreducible] def eight (io : FVec F S512x2048 .f32) (S : V3 (FVec F S512x8 .f32)) (M : Fin 8 → Cloud F)
    (T : Pose (FVec F S1x8 .f32)) : Pose (FVec F S1x8 .f32) := (step io S M)^[8] T

theorem eight_eq (io : FVec F S512x2048 .f32) (S : V3 (FVec F S512x8 .f32)) (M : Fin 8 → Cloud F)
    (T : Pose (FVec F S1x8 .f32)) : (step io S M)^[8] T = eight io S M T := by
  unfold eight
  rfl

/-- The poses after eight trips. -/
def final (x0 : Vec F S3x512x8 .f32) (x1 : Vec F S8x3x2048 .f32) (x2 : Vec F S8x4x4 .f32) (x3 : Vec F S1x1 .f32) :
    Pose (FVec F S1x8 .f32) := eight places (scan x0 x3) (clouds x1) (start x2)

/-- One entry of a pose, for batch `b`. -/
def lane (b : Fin 8) (x : FVec F S1x8 .f32) : FVec F S1x1 .f32 :=
  extractStridedSlice S1x1 ![0, b.val] x (slices_lane b)

/-- A row of four. -/
def row4 (a b c d : FVec F S1x1 .f32) : FVec F S1x4 .f32 :=
  concatenate S1x4 1 [⟨S1x1, a⟩, ⟨S1x1, b⟩, ⟨S1x1, c⟩, ⟨S1x1, d⟩] concatenates_S1x1_S1x1_S1x1_S1x1_S1x4_d1

/-- The pose of batch `b` as a 4×4 matrix. -/
def block (b : Fin 8) (T : Pose (FVec F S1x8 .f32)) : FVec F S1x4x4 .f32 :=
  shapeCast S1x4x4 (concatenate S4x4 0 [
    ⟨S1x4, row4 (lane b T.R.x.x) (lane b T.R.x.y) (lane b T.R.x.z) (lane b T.t.x)⟩,
    ⟨S1x4, row4 (lane b T.R.y.x) (lane b T.R.y.y) (lane b T.R.y.z) (lane b T.t.y)⟩,
    ⟨S1x4, row4 (lane b T.R.z.x) (lane b T.R.z.y) (lane b T.R.z.z) (lane b T.t.z)⟩,
    ⟨S1x4, row4 (broadcast S1x1 (Scalar.ofBits .f32 0x00000000#32)) (broadcast S1x1 (Scalar.ofBits .f32 0x00000000#32))
      (broadcast S1x1 (Scalar.ofBits .f32 0x00000000#32)) (broadcast S1x1 (Scalar.ofBits .f32 0x3F800000#32))⟩]
    concatenates_S1x4_S1x4_S1x4_S1x4_S4x4_d0) shapeCasts_S4x4_S1x4x4

/-- Where the matrix of batch `b` is written. -/
abbrev place (b : Fin 8) : Rect S8x4x4 := Rect.unit (s := S8x4x4) ![b.val, 0, 0] S1x4x4.size (inb_block b)

/-- The result block: the eight matrices. -/
def written (T : Pose (FVec F S1x8 .f32)) : Vec F S8x4x4 .f32 :=
  View.canon [⟨place 7, block 7 T⟩, ⟨place 6, block 6 T⟩, ⟨place 5, block 5 T⟩, ⟨place 4, block 4 T⟩,
    ⟨place 3, block 3 T⟩, ⟨place 2, block 2 T⟩, ⟨place 1, block 1 T⟩, ⟨place 0, block 0 T⟩]

/-- The eight matrices fill the block. -/
theorem covered (p0 p1 p2 p3 p4 p5 p6 p7 : Vec F S1x4x4 .f32) (y : S8x4x4.Idx) :
    ∃ pc ∈ ([⟨place 7, p7⟩, ⟨place 6, p6⟩, ⟨place 5, p5⟩, ⟨place 4, p4⟩, ⟨place 3, p3⟩, ⟨place 2, p2⟩, ⟨place 1, p1⟩,
      ⟨place 0, p0⟩] : List (View.Piece (Elt F) S8x4x4 .f32)), y ∈ pc.1.set :=
  View.cover_of_tiled [⟨place 7, p7⟩, ⟨place 6, p6⟩, ⟨place 5, p5⟩, ⟨place 4, p4⟩, ⟨place 3, p3⟩, ⟨place 2, p2⟩,
    ⟨place 1, p1⟩, ⟨place 0, p0⟩] S1x4x4.size (by rfl) y

end Cert.KernelIdeal.Body

end
-- ==== Proof.KernelIdeal.Frame.lean ====
/-
  The kernel's launch: the body run once leaves `written (final …)` in the result's staging buffer and its inputs as
  they were, so the program terminates without a fault, ends with every semaphore at zero and its arguments unchanged,
  and its result array is what the body wrote.
-/
module

public import proofs.«01_k».proof.Proof.KernelIdeal.Output
public import proofs.«01_k».proof.Proof.Gen.KernelIdeal.Frame
public import Idealize.ShloMosaic.Lib.Claim

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Icp

variable {F : FTy → Type} [FloatOps F]

local notation "𝕄" => MT nD τ sig Unit (Elt F) ℕ (UR sig nD τ) ℕ

set_option maxHeartbeats 4000000 in
/-- The body, run on its windows' blocks. -/
theorem body_run (c : Dev nD) (E : Set ℕ)
    (arg0 : Memref sig .tc .vmem S3x512x8 .f32) (harg0 : arg0.IsWhole)
    (arg1 : Memref sig .tc .vmem S8x3x2048 .f32) (harg1 : arg1.IsWhole)
    (arg2 : Memref sig .tc .vmem S8x4x4 .f32) (harg2 : arg2.IsWhole)
    (arg3 : Memref sig .tc .vmem S1x1 .f32) (harg3 : arg3.IsWhole)
    (arg4 : Memref sig .tc .vmem S8x4x4 .f32) (harg4 : arg4.IsWhole)
    (x0 : Vec F S3x512x8 .f32) (x1 : Vec F S8x3x2048 .f32) (x2 : Vec F S8x4x4 .f32) (x3 : Vec F S1x1 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (written (final x0 x1 x2 x3))) -∗ K ⟨⟩))
      ⊢ wp frame (wpE (defs₀ (F := F)) Variants.none c none) E (cc0__icp_body arg0 harg0 arg1 harg1 arg2 harg2 arg3 harg3 arg4 harg4) K := by
  simp only [cc0__icp_body_eq_skeleton]
  unfold cc0__icp_body_skel
  simp only [k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton]
  simp only [k0_part52_skel, loop_eq, eight_eq]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _; isplitr
  swap
  · iexact H4
  ipureintro
  refine (View.read_writes_eq_canon _ _ _ (covered _ _ _ _ _ _ _ _)).trans ?_
  dsimp only [body_run.sl.r_96, body_run.sl.r_95, body_run.sl.r_94, body_run.sl.r_93, body_run.sl.r_92, body_run.sl.r_91]
  generalize hT : eight (F := F) _ _ _ _ = T
  have h2 : T = final (arg0.view.read (Elt F) f0) (arg1.view.read (Elt F) f1) (arg2.view.read (Elt F) f2)
      (arg3.view.read (Elt F) f3) := by
    rw [← hT]
    unfold final
    refine congr (congr (congr (congrArg (eight (F := F)) ?_) ?_) ?_) ?_
    · rfl
    · rfl
    · funext b; fin_cases b <;> rfl
    · rfl
  rw [← h2]
  clear hT h2
  obtain ⟨⟨⟨a, b, e⟩, ⟨g, h, i⟩, ⟨j, k, l⟩⟩, ⟨n, o, q⟩⟩ := T
  rfl

variable (m : (ℓ : Loc nD τ sig) → Buf (Elt F) ℓ) (ρ : Dev nD → PrngReg)

/-- What each window's staging buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => written (final (iblk m c 0 t) (iblk m c 1 t) (iblk m c 2 t) (iblk m c 3 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = written (final (iblk m c 0 t) (iblk m c 1 t) (iblk m c 2 t) (iblk m c 3 t)) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_run c Set.univ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]
  · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀
  rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the windows leave them, and every semaphore is at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem unchanged : type_of% (frame_of m ρ (dats m) (A_eq m) (run_main m ρ)) := frame_of m ρ (dats m) (A_eq m) (run_main m ρ)

/-- The arguments end as launched and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (unchanged m ρ) ((θ_run defs _ _).mono (fun _ h => h.2) (run_main_quiescent m ρ))

end Cert.KernelIdeal.Body

end
-- ==== Proof.Reference.Run.lean ====
/- The reference's run: its loop's states, its result after the eighth trip, and its frame. -/
module

public import proofs.«01_k».proof.Proof.Gen.ReferenceIdeal.StepRun
public import Idealize.ShloMosaic.Lib.Quiescent
public import Idealize.ShloMosaic.Lib.Claim

@[expose] public section

noncomputable section

namespace Cert.Reference

open Idealize.ShloMosaic Idealize.ShloMosaic.TcCoe Idealize.SL.Sem
open Cert.ReferenceIdeal Cert.ReferenceIdeal.Step Cert.ReferenceIdeal.StepRun

variable {F : FTy → Type} [FloatOps F]

/-- The states of the reference's loop: the first, then a step for each trip. -/
def states (s : State F) : ℕ → State F
  | 0 => s
  | n + 1 => step n (states s n)

variable (m : (ℓ : Loc nD τ sig) → Buf (Elt F) ℓ) (ρ : Dev nD → PrngReg)

/-- The reference ends with its result at the eighth state and its arguments as launched. -/
theorem run : θ_run (defs (F := F)) (onTc (τ := τ) (main (F := F))) ⟨m, fun _ => 0, ρ⟩ (fun r => ∀ c : Dev nD,
      r.2.mem ((c.tc : Thread nD τ).loc main_v7_5) = (states (initState m c) 8).main_v7_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_iter m ρ (fun c => states (initState m c)) (fun _ => rfl) (fun _ _ => rfl)

/-- The reference's arguments end as launched and every semaphore is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run m ρ)

end Cert.Reference

end
-- ==== Proof.KernelIdeal.Lane.lean ====
/-
  The kernel's values read at one batch and one point.
-/
module

public import proofs.«01_k».proof.Proof.KernelIdeal.Output
public import proofs.«01_k».proof.Proof.Math.First

@[expose] public section

set_option maxRecDepth 65536

noncomputable section

namespace Cert.KernelIdeal.Body

open Idealize.ShloMosaic Idealize.ShloMosaic.TcCoe Idealize.SL.Sem
open Cert.KernelIdeal.Gen Icp

/-- The value of batch `b`. -/
def at1 (b : Fin 8) (x : FVec Ideal S1x8 .f32) : EReal := x (ix2 0 b)
/-- The value of batch `b` at point `n`. -/
def at5 (b : Fin 8) (n : Fin 512) (x : FVec Ideal S512x8 .f32) : EReal := x (ix2 n b)

theorem absf_ideal (x : EReal) : (FloatOps.absf (F := Ideal) (φ := .f32) x : EReal) = max x (-x) := rfl

/-- The indicator of a comparison, as a number. -/
theorem flag (p : Prop) [Decidable p] : (FloatOps.sitofp (F := Ideal) .f32
    (BitVec.setWidth 32 (BitVec.ofBool (decide p))) : EReal) = if p then 1 else 0 := by
  by_cases hp : p <;> simp [hp, FloatOps.sitofp]

theorem like1 (b : Fin 8) : Like (vec (F := Ideal) S1x8) (at1 b) := by
  constructor <;> intros <;> unfold at1 <;> pointwise [vec] <;> first | exact absf_ideal _ | exact flag _

theorem like5 (b : Fin 8) (n : Fin 512) : Like (vec (F := Ideal) S512x8) (at5 b n) := by
  constructor <;> intros <;> unfold at5 <;> pointwise [vec] <;> first | exact absf_ideal _ | exact flag _

/-- The sum over the points of real numbers is a real number. -/
theorem is_rsum (b : Fin 8) {x : FVec Ideal S512x8 .f32} {f : Fin 512 → ℝ} (h : IsB (at5 b) x f) :
    Is (at1 b) (rsum x) (∑ n, f n) := by
  have e : at1 b (rsum x) = ∑ n, at5 b n x := by
    unfold at1 at5
    pointwise [rsum]
  unfold Is
  rw [e, coe_sum]
  exact Finset.sum_congr rfl fun n _ => h n

theorem is_bc (b : Fin 8) {x : FVec Ideal S1x8 .f32} {r : ℝ} (h : Is (at1 b) x r) : IsB (at5 b) (bc x) fun _ => r := by
  intro n
  unfold Is at5
  pointwise [bc]
  exact h

theorem is_sgn (b : Fin 8) {x : FVec Ideal S1x8 .f32} {r : ℝ} (h : Is (at1 b) x r) : Is (at1 b) (sgn x) (sign r) := by
  have h' : x (ix2 0 b) = r := h
  have hneg : Ideal.ofBits .f32 0xBF800000#32 = ((-1 : ℝ) : EReal) := by rw [lit_coe 0xBF800000#32, lit_neg_one]
  unfold Is at1
  pointwise [sgn, h']
  rw [absf_ideal, ← coe_abs, sign, hneg]
  by_cases h1 : 0 < |r|
  · rw [if_pos h1, if_pos (by exact_mod_cast h1)]
    by_cases h2 : r < 0
    · rw [if_pos h2, if_pos (by exact_mod_cast h2)]
    · rw [if_neg h2, if_neg (by exact_mod_cast h2)]; rfl
  · rw [if_neg h1, if_neg (by exact_mod_cast h1)]

/-- The kernel's map of a batch is the real points `M`. -/
structure IsCloud (C : Cloud Ideal) (M : Fin 2048 → V3 ℝ) : Prop where
  x : ∀ j, C.m.x (ix2 0 j) = (M j).x
  y : ∀ j, C.m.y (ix2 0 j) = (M j).y
  z : ∀ j, C.m.z (ix2 0 j) = (M j).z
  m2 : ∀ k j, C.m2 (ix2 k j) = (((M j).get k * lit 0xC0000000#32 : ℝ) : EReal)
  sq : ∀ j, C.sq (ix2 0 j) = (dot real (M j) (M j) : ℝ)

theorem is_dist2 (b : Fin 8) {C : Cloud Ideal} {M : Fin 2048 → V3 ℝ} (hC : IsCloud C M)
    {P : V3 (FVec Ideal S512x8 .f32)} {P' : V3 (Fin 512 → ℝ)} (hP : IsB3 (at5 b) P P') (n : Fin 512) (j : Fin 2048) :
    dist2 b C P (ix2 n j) = (apart (at' n P') (M j) : ℝ) := by
  have px : P.x (ix2 n b) = (P'.x n : ℝ) := (hP n).x
  have py : P.y (ix2 n b) = (P'.y n : ℝ) := (hP n).y
  have pz : P.z (ix2 n b) = (P'.z n : ℝ) := (hP n).z
  pointwise [dist2, vec, col, dot, V3.map]
  rw [Fin.sum_univ_three, hC.m2, hC.m2, hC.m2, hC.sq]
  simp only [Fin.val_zero, Fin.val_one, Fin.val_two, Nat.lt_irrefl, Nat.zero_lt_one, Nat.add_zero, Nat.sub_self,
    dif_pos, dif_neg, not_false_eq_true, px, py, pz, show ¬ 2 < 1 by decide, show ¬ 2 - 1 < 1 by decide,
    show 2 - 1 - 1 = 0 by rfl, V3.get, Matrix.cons_val_zero, Matrix.cons_val_one, Matrix.cons_val_two,
    Matrix.head_cons, Matrix.tail_cons]
  norm_cast
  unfold apart
  simp only [dot, real, at', V3.map, lit_neg_two]
  ring

theorem is_nearest {io d : FVec Ideal S512x2048 .f32} (hio : ∀ n j, io (ix2 n j) = ((j.val : ℝ) : EReal))
    {n : Fin 512} {e : Fin 2048 → ℝ} (hd : ∀ j, d (ix2 n j) = e j) {k : Fin 2048} (hk : IsFirst e k) (j : Fin 2048) :
    nearest io d (ix2 n j) = BitVec.ofBool (decide (j = k)) := by
  pointwise [nearest, rowMin]
  rw [fold_min _ e hd k hk.le]
  have hin : ∀ x, (if d (ix2 n x) = (e k : EReal) then io (ix2 n x) else Ideal.ofBits .f32 0x45000000#32)
      = ((if e x = e k then (x.val : ℝ) else 2048 : ℝ) : EReal) := by
    intro x
    rw [hd, hio, lit_coe 0x45000000#32, lit_2048]
    by_cases hx : e x = e k
    · rw [if_pos hx, if_pos (by rw [hx])]
    · rw [if_neg hx, if_neg (by exact_mod_cast hx)]
  rw [fold_min _ _ hin k, hio, if_pos rfl]
  · congr 1
    have : (((j.val : ℝ) : EReal) = ((k.val : ℝ) : EReal)) ↔ j = k := by
      rw [EReal.coe_eq_coe_iff, Nat.cast_inj, Fin.val_inj]
    exact decide_eq_decide.mpr this
  · intro x
    rw [if_pos rfl]
    split_ifs with hx
    · rcases lt_or_ge x k with h | h
      · exact absurd hx (hk.lt x h).ne'
      · exact_mod_cast h
    · exact_mod_cast k.isLt.le

theorem is_pick {m : IVec S512x2048 1} {n : Fin 512} {k : Fin 2048}
    (hm : ∀ j, m (ix2 n j) = BitVec.ofBool (decide (j = k))) (r : FVec Ideal S1x2048 .f32) :
    pick m r (ix2 n 0) = r (ix2 0 k) := by
  pointwise [pick]
  rw [Finset.sum_eq_single k]
  · rw [hm]; simp [Scalar.select]
  · intro j _ hj
    rw [hm]; simp [Scalar.select, hj]
  · intro h
    exact absurd (Finset.mem_univ k) h

theorem cols_at (f : Fin 8 → FVec Ideal S512x1 .f32) (n : Fin 512) (b : Fin 8) : cols f (ix2 n b) = f b (ix2 n 0) := by
  fin_cases b <;> pointwise [cols]

theorem is_neighbours (b : Fin 8) {io : FVec Ideal S512x2048 .f32} (hio : ∀ n j, io (ix2 n j) = ((j.val : ℝ) : EReal))
    {C : Fin 8 → Cloud Ideal} {M : Fin 2048 → V3 ℝ} (hC : IsCloud (C b) M)
    {P : V3 (FVec Ideal S512x8 .f32)} {P' : V3 (Fin 512 → ℝ)} (hP : IsB3 (at5 b) P P') :
    IsB3 (at5 b) (neighbours io C P) (nearR (n := 2047) M P') := by
  intro n
  have hm := is_nearest hio (is_dist2 b hC hP n) (near_first (n := 2047) M (at' n P'))
  refine ⟨?_, ?_, ?_⟩
  · exact (cols_at (fun b => pick (nearest io (dist2 b (C b) P)) (C b).m.x) n b).trans ((is_pick hm _).trans (hC.x _))
  · exact (cols_at (fun b => pick (nearest io (dist2 b (C b) P)) (C b).m.y) n b).trans ((is_pick hm _).trans (hC.y _))
  · exact (cols_at (fun b => pick (nearest io (dist2 b (C b) P)) (C b).m.z) n b).trans ((is_pick hm _).trans (hC.z _))

/-- A trip of the kernel, at a batch where everything is a real number, is a step over the reals. -/
theorem is_step (b : Fin 8) {io : FVec Ideal S512x2048 .f32} (hio : ∀ n j, io (ix2 n j) = ((j.val : ℝ) : EReal))
    {C : Fin 8 → Cloud Ideal} {M : Fin 2048 → V3 ℝ} (hC : IsCloud (C b) M)
    {S : V3 (FVec Ideal S512x8 .f32)} {S' : V3 (Fin 512 → ℝ)} (hS : IsB3 (at5 b) S S')
    {T : Pose (FVec Ideal S1x8 .f32)} {T' : Pose ℝ} (hT : IsPose (at1 b) T T') :
    IsPose (at1 b) (step io S C T) (nextR (n := 2047) M S' T') := by
  have hP := is_moved (like1 b) (like5 b) (is_bc b) hS hT
  have hm := is_moments (like1 b) (like5 b) (is_rsum b) (is_bc b) hP (is_neighbours b hio hC hP)
  exact is_composeWith (like1 b) (is_bestRotation (like1 b) (is_sgn b) hm.2.2) hm.1 hm.2.1 hT

/-- Eight trips of the kernel. -/
theorem is_eight (b : Fin 8) {io : FVec Ideal S512x2048 .f32} (hio : ∀ n j, io (ix2 n j) = ((j.val : ℝ) : EReal))
    {C : Fin 8 → Cloud Ideal} {M : Fin 2048 → V3 ℝ} (hC : IsCloud (C b) M)
    {S : V3 (FVec Ideal S512x8 .f32)} {S' : V3 (Fin 512 → ℝ)} (hS : IsB3 (at5 b) S S')
    {T : Pose (FVec Ideal S1x8 .f32)} {T' : Pose ℝ} (hT : IsPose (at1 b) T T') :
    IsPose (at1 b) (eight io S C T) ((nextR (n := 2047) M S')^[8] T') := by
  rw [← eight_eq]
  have go : ∀ k, IsPose (at1 b) ((step io S C)^[k] T) ((nextR (n := 2047) M S')^[k] T') := by
    intro k
    induction k with
    | zero => exact hT
    | succ k ih =>
      rw [Function.iterate_succ_apply', Function.iterate_succ_apply']
      exact is_step b hio hC hS ih
  exact go 8

theorem places_at (n : Fin 512) (j : Fin 2048) : places (F := Ideal) (ix2 n j) = ((j.val : ℝ) : EReal) := by
  pointwise [places]
  show ((((BitVec.ofNat 32 j.val).toInt : ℤ) : ℝ) : EReal) = _
  have e : (BitVec.ofNat 32 j.val).toInt = (j.val : ℤ) := by
    rw [BitVec.toInt_eq_toNat_of_lt] <;> simp <;> omega
  rw [e]
  rfl

end Cert.KernelIdeal.Body

end
-- ==== Proof.KernelIdeal.Inputs.lean ====
/-
  The kernel's inputs and result read at one batch: from input blocks that hold the inputs' real numbers, the result
  block is the starting pose stepped eight times over the reals.
-/
module

public import proofs.«01_k».proof.Proof.KernelIdeal.Lane
public import proofs.«01_k».proof.Proof.Math.Inputs
public import Idealize.ShloMosaic.Lib.Pipeline.ValueKit.Tiles

@[expose] public section

set_option maxRecDepth 65536

noncomputable section

namespace Cert.KernelIdeal.Body

open Idealize.ShloMosaic Idealize.ShloMosaic.TcCoe Idealize.SL.Sem
open Cert.KernelIdeal.Gen Icp

variable {x0 : Vec Ideal S3x512x8 .f32} {x1 : Vec Ideal S8x3x2048 .f32} {x2 : Vec Ideal S8x4x4 .f32}
  {x3 : Vec Ideal S1x1 .f32}

/-- A row of a map. -/
theorem mapRow_apply (b : Fin 8) (k : Fin 3) (j : Fin 2048) : mapRow b k x1 (ix2 0 j) = x1 (ix3 b k j) := by
  pointwise [mapRow, View.ld_apply]

/-- A plane with its axis of one dropped. -/
theorem drop_plane (y : FVec Ideal S1x512x8 .f32) (n : Fin 512) (b : Fin 8) :
    shapeCast S512x8 y shapeCasts_S1x512x8_S512x8 (ix2 n b) = y (ix3 0 n b) := by pointwise

/-- A map with its axis of one dropped. -/
theorem drop_map (y : FVec Ideal S1x3x2048 .f32) (k : Fin 3) (j : Fin 2048) :
    shapeCast S3x2048 y shapeCasts_S1x3x2048_S3x2048 (ix2 k j) = y (ix3 0 k j) := by pointwise

/-- A coordinate of the scan points, as loaded. -/
theorem plane_apply (i : Fin 3) (n : Fin 512) (b : Fin 8) :
    shapeCast S512x8 (View.ld x0 (Rect.unit (s := S3x512x8) ![i.val, 0, 0] S1x512x8.size (inb_plane i)))
      shapeCasts_S1x512x8_S512x8 (ix2 n b) = x0 (ix3 i n b) :=
  (drop_plane _ n b).trans (View.ld_unit_apply_of x0 _ _ _ _ _ fun a => by fin_cases a <;> simp [ix3])

/-- The scale, as loaded. -/
theorem scale_apply : shapeCast S1x1 (View.ld x3 (Rect.unit (s := S1x1) ![0, 0] S1x1.size inb_S1x1_S1x1_0_0))
    shapeCasts_S1x1_S1x1 (ix2 0 0) = x3 (ix2 0 0) := by
  pointwise [View.ld_apply]

/-- A coordinate of the scan, for any points and any scale. -/
theorem scaled_apply (p : FVec Ideal S512x8 .f32) (q : FVec Ideal S1x1 .f32) (n : Fin 512) (b : Fin 8) :
    (vec (F := Ideal) S512x8).nar (mulf (divf p (broadcast S512x8 (Scalar.ofBits .f32 0x3F99999A#32)))
      (broadcastTo S512x8 (maximumf q (broadcast S1x1 (Scalar.ofBits .f32 0x00000000#32))) broadcasts_S1x1_S512x8)) (ix2 n b)
      = Ideal.div (p (ix2 n b)) (Ideal.ofBits .f32 0x3F99999A#32) * max (q (ix2 0 0)) 0 := by
  pointwise [vec]

/-- A coordinate of the scan. -/
theorem scanPlane_apply (i : Fin 3) (n : Fin 512) (b : Fin 8) : scanPlane i x0 x3 (ix2 n b)
    = Ideal.div (x0 (ix3 i n b)) (Ideal.ofBits .f32 0x3F99999A#32) * max (x3 (ix2 0 0)) 0 := by
  unfold scanPlane
  rw [scaled_apply, plane_apply, scale_apply]

/-- An entry of a starting pose. -/
theorem startAt_apply (b : Fin 8) (i j : Fin 4) : startAt b i j x2 (ix2 0 0) = x2 (ix3 b i j) := by
  pointwise [startAt, View.ld_apply]

/-- An entry of the starting poses. -/
theorem startEntry_apply (i j : Fin 4) (b : Fin 8) : startEntry i j x2 (ix2 0 b) = x2 (ix3 b i j) := by
  fin_cases b <;> pointwise [startEntry] <;> exact startAt_apply _ i j

/-- A map times minus two. -/
theorem scaled_map (y : FVec Ideal S3x2048 .f32) (k : Fin 3) (j : Fin 2048) :
    truncf (F := Ideal) .bf16 (mulf y (broadcast S3x2048 (Scalar.ofBits .f32 0xC0000000#32))) bitsLt_bf16_f32 (ix2 k j)
      = y (ix2 k j) * Ideal.ofBits .f32 0xC0000000#32 := by pointwise

/-- The map of a batch is the map's real points. -/
theorem is_cloud {b : Fin 8} {M : Fin 2048 → V3 ℝ} (h : ∀ k j, x1 (ix3 b k j) = (((M j).get k : ℝ) : EReal)) :
    IsCloud (cloud x1 b) M := by
  have e : ∀ k j, mapRow b k x1 (ix2 0 j) = (((M j).get k : ℝ) : EReal) := fun k j => (mapRow_apply b k j).trans (h k j)
  refine ⟨fun j => e 0 j, fun j => e 1 j, fun j => e 2 j, fun k j => ?_, fun j => ?_⟩
  · have e1 := (drop_map (View.ld x1 (Rect.unit (s := S8x3x2048) ![b.val, 0, 0] S1x3x2048.size (inb_map b))) k j).trans
      (View.ld_unit_apply_of x1 _ _ _ _ (ix3 b k j) fun a => by fin_cases a <;> simp [ix3])
    refine (scaled_map _ k j).trans ?_
    rw [ e1, h k j, lit_coe 0xC0000000#32, ← EReal.coe_mul]
  · pointwise [cloud, dot, vec]
    rw [e 0 j, e 1 j, e 2 j]
    simp only [V3.get, Matrix.cons_val_zero, Matrix.cons_val_one, Matrix.cons_val_two, Matrix.head_cons,
      Matrix.tail_cons, dot, real, EReal.coe_add, EReal.coe_mul]

/-- The eight maps, one by one. -/
theorem clouds_apply (b : Fin 8) : clouds x1 b = cloud x1 b := by
  fin_cases b <;> rfl

/-- The scan of a batch is the real scan. -/
theorem is_scan {b : Fin 8} {S : V3 (Fin 512 → ℝ)}
    (h : ∀ i n, Ideal.div (x0 (ix3 i n b)) (Ideal.ofBits .f32 0x3F99999A#32) * max (x3 (ix2 0 0)) 0
      = (((at' n S).get i : ℝ) : EReal)) : IsB3 (at5 b) (scan x0 x3) S := fun n =>
  ⟨(scanPlane_apply 0 n b).trans (h 0 n), (scanPlane_apply 1 n b).trans (h 1 n), (scanPlane_apply 2 n b).trans (h 2 n)⟩

/-- The starting pose of a batch is the real pose. -/
theorem is_start {b : Fin 8} {T : Pose ℝ} (h : ∀ i j, x2 (ix3 b i j) = ((T.mat i j : ℝ) : EReal)) :
    IsPose (at1 b) (start x2) T := by
  have e : ∀ i j, at1 b (startEntry i j x2) = ((T.mat i j : ℝ) : EReal) := fun i j => (startEntry_apply i j b).trans (h i j)
  exact ⟨⟨⟨e 0 0, e 0 1, e 0 2⟩, ⟨e 1 0, e 1 1, e 1 2⟩, ⟨e 2 0, e 2 1, e 2 2⟩⟩, ⟨e 0 3, e 1 3, e 2 3⟩⟩

/-- One batch's matrix. -/
theorem block_apply {b : Fin 8} {T : Pose (FVec Ideal S1x8 .f32)} {T' : Pose ℝ} (h : IsPose (at1 b) T T') (i j : Fin 4) :
    block b T (ix3 0 i j) = ((T'.mat i j : ℝ) : EReal) := by
  fin_cases i <;> fin_cases j <;> pointwise [block, row4, lane] <;>
    first
    | rfl | exact h.R.x.x | exact h.R.x.y | exact h.R.x.z | exact h.t.x
    | exact h.R.y.x | exact h.R.y.y | exact h.R.y.z | exact h.t.y
    | exact h.R.z.x | exact h.R.z.y | exact h.R.z.z | exact h.t.z

/-- The result block holds each batch's matrix. -/
theorem written_apply {T : Pose (FVec Ideal S1x8 .f32)} {T' : Fin 8 → Pose ℝ} (h : ∀ b, IsPose (at1 b) T (T' b))
    (b : Fin 8) (i j : Fin 4) : written T (ix3 b i j) = (((T' b).mat i j : ℝ) : EReal) := by
  refine (View.canon_apply_of_pieces (fun y : S8x4x4.Idx => (((T' (y 0)).mat (y 1) (y 2) : ℝ) : EReal)) _ ?_ _
    (covered _ _ _ _ _ _ _ _ _)).trans rfl
  have e : ∀ b : Fin 8, ∀ x : (place b).shape.Idx, block b T x
      = (((T' ((place b).emb x 0)).mat ((place b).emb x 1) ((place b).emb x 2) : ℝ) : EReal) := by
    intro b x
    have hx : x = ix3 (n0 := 1) (n1 := 4) (n2 := 4) 0 (x 1) (x 2) := by
      funext a
      fin_cases a
      · exact Subsingleton.elim (α := Fin 1) _ _
      · rfl
      · rfl
    have h0 : (place b).emb x 0 = b := Fin.ext (by
      rw [show ((place b).emb x 0 : ℕ) = b.val + 1 * (x 0).val from rfl, Nat.lt_one_iff.mp (x 0).isLt, Nat.mul_zero]; rfl)
    have h1 : (place b).emb x 1 = x 1 := Fin.ext (by
      rw [show ((place b).emb x 1 : ℕ) = 0 + 1 * (x 1).val from rfl]; omega)
    have h2 : (place b).emb x 2 = x 2 := Fin.ext (by
      rw [show ((place b).emb x 2 : ℕ) = 0 + 1 * (x 2).val from rfl]; omega)
    rw [h0, h1, h2, hx]
    exact block_apply (h b) (x 1) (x 2)
  simp only [List.forall_mem_cons, List.not_mem_nil, false_imp_iff, implies_true, and_true]
  exact ⟨e 7, e 6, e 5, e 4, e 3, e 2, e 1, e 0⟩

/-- The result block, of input blocks that hold the real map `M b`, the real scan `S b` and the real pose `T b` of each
    batch `b`: the pose stepped eight times. -/
theorem written_final {M : Fin 8 → Fin 2048 → V3 ℝ} {S : Fin 8 → V3 (Fin 512 → ℝ)} {T : Fin 8 → Pose ℝ}
    (hM : ∀ b k j, x1 (ix3 b k j) = (((M b j).get k : ℝ) : EReal))
    (hS : ∀ b i n, Ideal.div (x0 (ix3 i n b)) (Ideal.ofBits .f32 0x3F99999A#32) * max (x3 (ix2 0 0)) 0
      = (((at' n (S b)).get i : ℝ) : EReal))
    (hT : ∀ b i j, x2 (ix3 b i j) = (((T b).mat i j : ℝ) : EReal)) (b : Fin 8) (i j : Fin 4) :
    written (final x0 x1 x2 x3) (ix3 b i j) = ((((nextR (n := 2047) (M b) (S b))^[8] (T b)).mat i j : ℝ) : EReal) :=
  written_apply (fun b => is_eight b places_at (clouds_apply b ▸ is_cloud (hM b)) (is_scan (hS b)) (is_start (hT b))) b i j

end Cert.KernelIdeal.Body

end
-- ==== Proof.KernelIdeal.Result.lean ====
/-
  The kernel's run read at its result: the four input blocks are the arguments rearranged, and the result array is the
  block the body writes.
-/
module

public import proofs.«01_k».proof.Proof.KernelIdeal.Frame
public import proofs.«01_k».proof.Proof.KernelIdeal.Inputs
public import Idealize.ShloMosaic.Lib.StableHlo.RunRead
public import Idealize.ShloMosaic.Lib.Pipeline.ValueKit.Geometry

@[expose] public section

set_option maxRecDepth 65536

noncomputable section

namespace Cert.KernelIdeal.Body

open Idealize.ShloMosaic Idealize.ShloMosaic.TcCoe Idealize.SL.Sem
open Cert.KernelIdeal.Gen Icp

variable (m : (ℓ : Loc nD τ sig) → Buf (Elt Ideal) ℓ) (ρ : Dev nD → PrngReg) (c : Dev nD)

/-- The scan as launched: the argument turned over. -/
theorem V_scan : V m c main_v0
    = transpose S3x512x8 [2, 1, 0] (m ((c.tc : Thread nD τ).loc main_arg0)) transposes_S8x512x3_S3x512x8_2_1_0 := by
  show StableHlo.after hostOps0 _ main_v0 = _
  after_reads_simp

/-- The map as launched: the argument with its last two axes exchanged. -/
theorem V_map : V m c main_v1
    = transpose S8x3x2048 [0, 2, 1] (m ((c.tc : Thread nD τ).loc main_arg1)) transposes_S8x2048x3_S8x3x2048_0_2_1 := by
  show StableHlo.after hostOps0 _ main_v1 = _
  after_reads_simp

/-- The scale as launched: the argument as a matrix of one entry. -/
theorem V_scale : V m c main_v2 = shapeCast S1x1 (m ((c.tc : Thread nD τ).loc main_arg3)) shapeCasts_S_S1x1 := by
  show StableHlo.after hostOps0 _ main_v2 = _
  after_reads_simp
  rfl

/-- The window of the scan is the whole array. -/
theorem block_scan : iblk m c 0 t0_0 = V m c main_v0 :=
  Memref.read_access_unit_zero (Elt Ideal) main_v0
    (show (fun a => (win0_0.index t0_0) a * main_v0.ty.shape.size a) = fun _ => 0 from
      funext fun a => by fin_cases a <;> decide) (fun a => by fin_cases a <;> decide) _

/-- The window of the map is the whole array. -/
theorem block_map : iblk m c 1 t0_0 = V m c main_v1 :=
  Memref.read_access_unit_zero (Elt Ideal) main_v1
    (show (fun a => (win0_1.index t0_0) a * main_v1.ty.shape.size a) = fun _ => 0 from
      funext fun a => by fin_cases a <;> decide) (fun a => by fin_cases a <;> decide) _

/-- The window of the starting poses is the whole array. -/
theorem block_pose : iblk m c 2 t0_0 = V m c main_arg2 :=
  Memref.read_access_unit_zero (Elt Ideal) main_arg2
    (show (fun a => (win0_2.index t0_0) a * main_arg2.ty.shape.size a) = fun _ => 0 from
      funext fun a => by fin_cases a <;> decide) (fun a => by fin_cases a <;> decide) _

/-- The window of the scale is the whole array. -/
theorem block_scale : iblk m c 3 t0_0 = V m c main_v2 :=
  Memref.read_access_unit_zero (Elt Ideal) main_v2
    (show (fun a => (win0_3.index t0_0) a * main_v2.ty.shape.size a) = fun _ => 0 from
      funext fun a => by fin_cases a <;> decide) (fun a => by fin_cases a <;> decide) _

/-- The result block of core `c`. -/
def result : Vec Ideal S8x4x4 .f32 :=
  written (final (iblk m c 0 t0_0) (iblk m c 1 t0_0) (iblk m c 2 t0_0) (iblk m c 3 t0_0))

/-- The result array ends as the block the body writes. -/
theorem arr_result : (dats m 0 c).arrAt 4 cfg0.N = result m c :=
  (dats m 0 c).arrAt_eq_of_after_last 4 t0_0 (by decide +kernel) _ fun j => by
    rw [after0_4]
    rfl

/-- The run ends with the result block in the result array and the arguments as launched. -/
theorem run_result : θ_run (defs (F := Ideal)) (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (arr_result m c), h.2 c⟩)
    (Idealize.ShloMosaic.θ_run_and (run_main m ρ) (unchanged m ρ))

/-- The result block, of inputs that are as the precondition says: each batch's starting pose stepped eight times. -/
theorem read_result (h : Given (m ((c.tc : Thread nD τ).loc main_arg0)) (m ((c.tc : Thread nD τ).loc main_arg1))
      (m ((c.tc : Thread nD τ).loc main_arg2)) (m ((c.tc : Thread nD τ).loc main_arg3))) (b : Fin 8) (i j : Fin 4) :
    result m c (ix3 b i j) = ((((nextR (n := 2047) (realMap (m ((c.tc : Thread nD τ).loc main_arg1)) b)
      (realScan (m ((c.tc : Thread nD τ).loc main_arg0)) (m ((c.tc : Thread nD τ).loc main_arg3)) b))^[8]
      (realPose (m ((c.tc : Thread nD τ).loc main_arg2)) b)).mat i j : ℝ) : EReal) := by
  unfold result
  rw [block_scan, block_map, block_pose, block_scale, V_scan, V_map, V_scale, V_main_arg2]
  refine written_final (fun b k j => ?_) (fun b i n => ?_) (fun b i j => h.read_pose i j) b i j
  · refine Eq.trans ?_ (h.read_map j k)
    pointwise
  · refine Eq.trans ?_ (h.read_scan n i)
    refine congrArg₂ (fun x y : EReal => Ideal.div x (Ideal.ofBits .f32 0x3F99999A#32) * max y 0) ?_ ?_
    · pointwise
    · pointwise

end Cert.KernelIdeal.Body

end
-- ==== Proof.Reference.Turn.lean ====
/-
  One Jacobi rotation as the reference performs it: its matrices, read at one batch, are the rotation over the reals.
-/
module

public import proofs.«01_k».proof.Proof.Math.Jacobi
public import proofs.«01_k».proof.Proof.Reference.Run
public import Idealize.ShloMosaic.Lib.Pointwise

@[expose] public section

set_option maxRecDepth 65536

noncomputable section

namespace Cert.Reference

open Idealize.ShloMosaic
open Cert.ReferenceIdeal Cert.ReferenceIdeal.Gen Icp

/-- One number per batch. -/
abbrev Each := FVec Ideal S8x1x1 .f32
/-- One 3×3 matrix per batch. -/
abbrev Mats := FVec Ideal S8x3x3 .f32

/-- The reference's arithmetic on one number per batch. -/
def hst : Ops Each where
  add x y := addf x y
  sub x y := subf x y
  mul x y := mulf x y
  div x y := Host.divf x y
  max x y := maximumf x y
  sqrt x := Host.sqrt x
  abs x := Host.absf x
  nar x := x
  lit w := broadcastInDim S8x1x1 ![] bcast_S_S8x1x1 (constant S_ .f32 w)
  iflt x y a c := select (cmpf .olt x y) a c
  ifle x y a c := select (cmpf .ole x y) a c
  ifge x y a c := select (cmpf .oge x y) a c
  ifgt x y a c := select (cmpf .ogt x y) a c
  ifeq x y a c := select (cmpf .oeq x y) a c
  lt01 x y := uitofp .f32 (cmpf .olt x y)

/-- The number of batch `b`. -/
def atE (b : Fin 8) (x : Each) : EReal := x (ix3 b 0 0)

theorem absf_host (x : EReal) : (FloatOps.absf (F := Ideal) (φ := .f32) x : EReal) = max x (-x) := rfl

/-- The indicator of a comparison, as a number. -/
theorem flag_host (p : Prop) [Decidable p] : (FloatOps.uitofp (F := Ideal) .f32
    (BitVec.ofBool (decide p)) : EReal) = if p then 1 else 0 := by
  by_cases hp : p <;> simp [hp, FloatOps.uitofp]

theorem likeE (b : Fin 8) : Like hst (atE b) := by
  constructor <;> intros <;> unfold atE <;> pointwise [hst] <;> first | exact absf_host _ | exact flag_host _

/-- The nine entries, laid out as a matrix. -/
def grid (a0 a1 a2 b0 b1 b2 c0 c1 c2 : Each) : Mats :=
  concatenate S8x3x3 1 [
    ⟨S8x1x3, concatenate S8x1x3 2 [⟨S8x1x1, a0⟩, ⟨S8x1x1, a1⟩, ⟨S8x1x1, a2⟩]
      concatenates_S8x1x1_S8x1x1_S8x1x1_S8x1x3_d2⟩,
    ⟨S8x1x3, concatenate S8x1x3 2 [⟨S8x1x1, b0⟩, ⟨S8x1x1, b1⟩, ⟨S8x1x1, b2⟩]
      concatenates_S8x1x1_S8x1x1_S8x1x1_S8x1x3_d2⟩,
    ⟨S8x1x3, concatenate S8x1x3 2 [⟨S8x1x1, c0⟩, ⟨S8x1x1, c1⟩, ⟨S8x1x1, c2⟩]
      concatenates_S8x1x1_S8x1x1_S8x1x1_S8x1x3_d2⟩]
    concatenates_S8x1x3_S8x1x3_S8x1x3_S8x3x3_d1

/-- At batch `b` the matrix is the real matrix `m`. -/
def IsMat (b : Fin 8) (x : Mats) (m : Mat 3 3) : Prop := ∀ i k, x (ix3 b i k) = (m i k : EReal)

theorem is_grid {b : Fin 8} {a0 a1 a2 b0 b1 b2 c0 c1 c2 : Each} {m : Mat 3 3}
    (h00 : Is (atE b) a0 (m 0 0)) (h01 : Is (atE b) a1 (m 0 1)) (h02 : Is (atE b) a2 (m 0 2))
    (h10 : Is (atE b) b0 (m 1 0)) (h11 : Is (atE b) b1 (m 1 1)) (h12 : Is (atE b) b2 (m 1 2))
    (h20 : Is (atE b) c0 (m 2 0)) (h21 : Is (atE b) c1 (m 2 1)) (h22 : Is (atE b) c2 (m 2 2)) :
    IsMat b (grid a0 a1 a2 b0 b1 b2 c0 c1 c2) m := by
  intro i k
  fin_cases i <;> fin_cases k <;> pointwise [grid] <;> assumption

/-- The product of two matrices, of the first turned over with the second, and of the first with the second turned over. -/
def times (x y : Mats) : Mats := Host.dotGeneral dot_S8x3x3_S8x3x3_S8x3x3_2_1_1_2_0_0 none x y
def timesT (x y : Mats) : Mats := Host.dotGeneral dot_S8x3x3_S8x3x3_S8x3x3_1_1_2_2_0_0 none x y
def timesTr (x y : Mats) : Mats := Host.dotGeneral dot_S8x3x3_S8x3x3_S8x3x3_2_2_1_1_0_0 none x y

/-- A sum of three products of real numbers. -/
theorem real_sum3 (f g : Fin 3 → ℝ) : ∑ x, ((f x : EReal) * (g x : EReal)) = ((∑ x, f x * g x : ℝ) : EReal) := by
  rw [Fin.sum_univ_three, Fin.sum_univ_three]
  norm_cast

theorem is_times {b : Fin 8} {x y : Mats} {m n : Mat 3 3} (hx : IsMat b x m) (hy : IsMat b y n) :
    IsMat b (times x y) (mul m n) := by
  intro i k
  have e : times x y (ix3 b i k) = ∑ l, x (ix3 b i l) * y (ix3 b l k) := by pointwise [times]
  rw [e]
  simp only [hx _ _, hy _ _]
  exact real_sum3 _ _
theorem is_timesT {b : Fin 8} {x y : Mats} {m n : Mat 3 3} (hx : IsMat b x m) (hy : IsMat b y n) :
    IsMat b (timesT x y) (mulT m n) := by
  intro i k
  have e : timesT x y (ix3 b i k) = ∑ l, x (ix3 b l i) * y (ix3 b l k) := by pointwise [timesT]
  rw [e]
  simp only [hx _ _, hy _ _]
  exact real_sum3 (fun l => m l i) (fun l => n l k)
theorem is_timesTr {b : Fin 8} {x y : Mats} {m n : Mat 3 3} (hx : IsMat b x m) (hy : IsMat b y n) :
    IsMat b (timesTr x y) (mulTr m n) := by
  intro i k
  have e : timesTr x y (ix3 b i k) = ∑ l, x (ix3 b i l) * y (ix3 b k l) := by pointwise [timesTr]
  rw [e]
  simp only [hx _ _, hy _ _]
  exact real_sum3 (fun l => m i l) (fun l => n k l)

/-- One number, the same for every batch. -/
def num (w : BitVec 32) : Each := broadcastInDim S8x1x1 ![] bcast_S_S8x1x1 (constant S_ .f32 w)
/-- One and zero. -/
def h1 : Each := num 0x3F800000#32
def h0 : Each := num 0x00000000#32
/-- Whether the entry is tiny; half the cotangent of twice the angle; the tangent; the cosine; the sine. -/
def hm (w : Each) : IVec S8x1x1 1 := cmpf .olt (Host.absf w) (num 0x02081CEA#32)
def htau (p q w : Each) : Each := Host.divf (subf q p) (mulf (num 0x40000000#32) (select (hm w) h1 w))
def ht (m : IVec S8x1x1 1) (x : Each) : Each :=
  select m h0 (Host.divf (select (cmpf .oge x h0) h1 (num 0xBF800000#32))
    (addf (Host.absf x) (Host.sqrt (addf h1 (mulf x x)))))
def hcos (t : Each) : Each := Host.divf h1 (Host.sqrt (addf h1 (mulf t t)))
def hsin (t : Each) : Each := mulf t (hcos t)

/-- Cosine and sine of the rotation of the entries `p`, `q`, `w`. -/
def hc (p q w : Each) : Each := hcos (ht (hm w) (htau p q w))
def hs (p q w : Each) : Each := hsin (ht (hm w) (htau p q w))
theorem hc_eq (p q w : Each) : hc p q w = (cosSin' hst p q w).1 := by
  simp only [hc, hcos, ht, hm, htau, h1, h0, num, cosSin', hst]
theorem hs_eq (p q w : Each) : hs p q w = (cosSin' hst p q w).2 := by
  simp only [hs, hsin, hcos, ht, hm, htau, h1, h0, num, cosSin', hst]

/-- The rotation matrices of the three pairs of axes and their masks. -/
def j01 (c s : Each) : Mats := grid c s h0 (Host.negf s) c h0 h0 h0 h1
def j02 (c s : Each) : Mats := grid c h0 s h0 h1 h0 (Host.negf s) h0 c
def j12 (c s : Each) : Mats := grid h1 h0 h0 h0 c s h0 (Host.negf s) c
def k01 : Mats := grid h1 h0 h1 h0 h1 h1 h1 h1 h1
def k02 : Mats := grid h1 h1 h0 h1 h1 h1 h0 h1 h1
def k12 : Mats := grid h1 h1 h1 h1 h1 h0 h1 h0 h1

/-- The entries of a matrix the rotations read. -/
def e00 (x : Mats) : Each := extractStridedSlice S8x1x1 ![0, 0, 0] x slices_S8x3x3_S8x1x1_0_0_0
def e11 (x : Mats) : Each := extractStridedSlice S8x1x1 ![0, 1, 1] x slices_S8x3x3_S8x1x1_0_1_1
def e22 (x : Mats) : Each := extractStridedSlice S8x1x1 ![0, 2, 2] x slices_S8x3x3_S8x1x1_0_2_2
def e01 (x : Mats) : Each := extractStridedSlice S8x1x1 ![0, 0, 1] x slices_S8x3x3_S8x1x1_0_0_1
def e02 (x : Mats) : Each := extractStridedSlice S8x1x1 ![0, 0, 2] x slices_S8x3x3_S8x1x1_0_0_2
def e12 (x : Mats) : Each := extractStridedSlice S8x1x1 ![0, 1, 2] x slices_S8x3x3_S8x1x1_0_1_2

/-- The rotation of each pair of axes for the matrix `A`. -/
def r01 (A : Mats) : Mats := j01 (hc (e00 A) (e11 A) (e01 A)) (hs (e00 A) (e11 A) (e01 A))
def r02 (A : Mats) : Mats := j02 (hc (e00 A) (e22 A) (e02 A)) (hs (e00 A) (e22 A) (e02 A))
def r12 (A : Mats) : Mats := j12 (hc (e11 A) (e22 A) (e12 A)) (hs (e11 A) (e22 A) (e12 A))

/-- The matrix after the rotation `J`, with the entries the mask `K` names cleared. -/
def turned (J K A : Mats) : Mats := mulf (timesT J (times A J)) K

theorem is_turned {b : Fin 8} {J K A : Mats} {j k a : Mat 3 3} (hJ : IsMat b J j) (hK : IsMat b K k) (hA : IsMat b A a) :
    IsMat b (turned J K A) (turnA j k a) := by
  intro x y
  have e : turned J K A (ix3 b x y) = timesT J (times A J) (ix3 b x y) * K (ix3 b x y) := by pointwise [turned]
  rw [e, is_timesT hJ (is_times hA hJ) x y, hK x y, ← EReal.coe_mul]
  rfl

theorem is_h1 (b : Fin 8) : Is (atE b) h1 1 := by
  have := (likeE b).lit 0x3F800000#32
  rwa [show real.lit 0x3F800000#32 = 1 from lit_one] at this
theorem is_h0 (b : Fin 8) : Is (atE b) h0 0 := by
  have := (likeE b).lit 0x00000000#32
  rwa [show real.lit 0x00000000#32 = 0 from lit_zero] at this
theorem is_neg {b : Fin 8} {x : Each} {r : ℝ} (h : Is (atE b) x r) : Is (atE b) (Host.negf x) (-r) := by
  have e : atE b (Host.negf x) = -atE b x := by
    unfold atE
    pointwise
  unfold Is at h ⊢
  rw [e, h, EReal.coe_neg]

theorem is_entry {b : Fin 8} {A : Mats} {a : Mat 3 3} (h : IsMat b A a) :
    Is (atE b) (e00 A) (a 0 0) ∧ Is (atE b) (e11 A) (a 1 1) ∧ Is (atE b) (e22 A) (a 2 2) ∧
    Is (atE b) (e01 A) (a 0 1) ∧ Is (atE b) (e02 A) (a 0 2) ∧ Is (atE b) (e12 A) (a 1 2) := by
  refine ⟨?_, ?_, ?_, ?_, ?_, ?_⟩ <;> unfold Is atE <;> rw [← h] <;> pointwise [e00, e11, e22, e01, e02, e12]

theorem is_k01 (b : Fin 8) : IsMat b k01 K01 := by
  apply is_grid <;> first | exact is_h0 b | exact is_h1 b
theorem is_k02 (b : Fin 8) : IsMat b k02 K02 := by
  apply is_grid <;> first | exact is_h0 b | exact is_h1 b
theorem is_k12 (b : Fin 8) : IsMat b k12 K12 := by
  apply is_grid <;> first | exact is_h0 b | exact is_h1 b

/-- At batch `b` the matrices `A`, `V` are the real state `e` of the diagonalisation. -/
structure IsEigM (b : Fin 8) (A V : Mats) (e : Eig ℝ) : Prop where
  A : IsMat b A e.mat
  V : IsMat b V (ent e.V)

theorem is_rot01 {b : Fin 8} {A V : Mats} {e : Eig ℝ} (h : IsEigM b A V e) :
    IsEigM b (turned (r01 A) k01 A) (times V (r01 A)) (rot01 real e) := by
  obtain ⟨p00, p11, p22, p01, p02, p12⟩ := is_entry h.A
  obtain ⟨pc, ps⟩ := is_cosSin' (likeE b) p00 p11 p01
  rw [← hc_eq] at pc
  rw [← hs_eq] at ps
  have hJ : IsMat b (r01 A) (J01 (cosSin real e.a00 e.a11 e.a01).1 (cosSin real e.a00 e.a11 e.a01).2) := by
    apply is_grid <;> first | exact is_h0 b | exact is_h1 b | exact pc | exact ps | exact is_neg ps
  constructor
  · rw [rot01_A]; exact is_turned hJ (is_k01 b) h.A
  · rw [rot01_V]; exact is_times h.V hJ

theorem is_rot02 {b : Fin 8} {A V : Mats} {e : Eig ℝ} (h : IsEigM b A V e) :
    IsEigM b (turned (r02 A) k02 A) (times V (r02 A)) (rot02 real e) := by
  obtain ⟨p00, p11, p22, p01, p02, p12⟩ := is_entry h.A
  obtain ⟨pc, ps⟩ := is_cosSin' (likeE b) p00 p22 p02
  rw [← hc_eq] at pc
  rw [← hs_eq] at ps
  have hJ : IsMat b (r02 A) (J02 (cosSin real e.a00 e.a22 e.a02).1 (cosSin real e.a00 e.a22 e.a02).2) := by
    apply is_grid <;> first | exact is_h0 b | exact is_h1 b | exact pc | exact ps | exact is_neg ps
  constructor
  · rw [rot02_A]; exact is_turned hJ (is_k02 b) h.A
  · rw [rot02_V]; exact is_times h.V hJ

theorem is_rot12 {b : Fin 8} {A V : Mats} {e : Eig ℝ} (h : IsEigM b A V e) :
    IsEigM b (turned (r12 A) k12 A) (times V (r12 A)) (rot12 real e) := by
  obtain ⟨p00, p11, p22, p01, p02, p12⟩ := is_entry h.A
  obtain ⟨pc, ps⟩ := is_cosSin' (likeE b) p11 p22 p12
  rw [← hc_eq] at pc
  rw [← hs_eq] at ps
  have hJ : IsMat b (r12 A) (J12 (cosSin real e.a11 e.a22 e.a12).1 (cosSin real e.a11 e.a22 e.a12).2) := by
    apply is_grid <;> first | exact is_h0 b | exact is_h1 b | exact pc | exact ps | exact is_neg ps
  constructor
  · rw [rot12_A]; exact is_turned hJ (is_k12 b) h.A
  · rw [rot12_V]; exact is_times h.V hJ

/-- One sweep over the three pairs of axes, as the reference performs it. -/
def sweepM (x : Mats × Mats) : Mats × Mats :=
  let a := (turned (r01 x.1) k01 x.1, times x.2 (r01 x.1))
  let c := (turned (r02 a.1) k02 a.1, times a.2 (r02 a.1))
  (turned (r12 c.1) k12 c.1, times c.2 (r12 c.1))

theorem is_sweepM {b : Fin 8} {x : Mats × Mats} {e : Eig ℝ} (h : IsEigM b x.1 x.2 e) :
    IsEigM b (sweepM x).1 (sweepM x).2 (sweep real e) := is_rot12 (is_rot02 (is_rot01 h))

end Cert.Reference

end
-- ==== Proof.Reference.Head.lean ====
/-
  The greatest entry of a row under the total order, by its place: the first place of the row's greatest value.
-/
module

public import proofs.«01_k».proof.Proof.Math.First
public import proofs.«01_k».proof.Proof.Reference.Run
public import Idealize.ShloMosaic.Lib.SortFacts
public import Idealize.ShloMosaic.Lib.ValueIdxCore

@[expose] public section

set_option maxRecDepth 65536

noncomputable section

namespace Cert.Reference

open Idealize.ShloMosaic Icp
open Cert.ReferenceIdeal Cert.ReferenceIdeal.Gen Cert.ReferenceIdeal.Step

/-- The head of a stable sort of places in increasing order is the first place of the least key. -/
theorem head_stableSort {n : ℕ} (d : Fin n → ℝ) (before : Fin n → Fin n → Bool)
    (hb : ∀ a b, before a b = true ↔ d a < d b) (l : List (Fin n)) (hl : l.Pairwise (· < ·)) (k : Fin n)
    (t : List (Fin n)) (h : stableSort before l = k :: t) :
    k ∈ l ∧ (∀ j ∈ l, d k ≤ d j) ∧ ∀ j ∈ l, j < k → d k < d j := by
  induction l generalizing k t with
  | nil => exact absurd h (by simp [stableSort])
  | cons a l ih =>
    rw [List.pairwise_cons] at hl
    unfold stableSort at h
    rcases hs : stableSort before l with _ | ⟨b, m⟩
    · have hnil : l = [] := by
        have := (perm_stableSort before l).length_eq
        rw [hs] at this
        exact List.length_eq_zero_iff.mp this.symm
      subst hnil
      rw [hs] at h
      obtain ⟨rfl, -⟩ := List.cons.inj h
      simp
    · obtain ⟨hbl, hle, hlt⟩ := ih hl.2 b m hs
      rw [hs, insertBefore] at h
      split at h
      · rename_i hba
        obtain ⟨rfl, -⟩ := List.cons.inj h
        have hba := (hb _ _).mp hba
        refine ⟨List.mem_cons_of_mem _ hbl, ?_, ?_⟩
        · intro j hj
          rcases List.mem_cons.mp hj with rfl | hj
          · exact hba.le
          · exact hle j hj
        · intro j hj hjk
          rcases List.mem_cons.mp hj with rfl | hj
          · exact hba
          · exact hlt j hj hjk
      · rename_i hba
        obtain ⟨rfl, -⟩ := List.cons.inj h
        have hab : d a ≤ d b := by
          by_contra hc
          exact hba ((hb _ _).mpr (not_le.mp hc))
        refine ⟨List.mem_cons_self, ?_, ?_⟩
        · intro j hj
          rcases List.mem_cons.mp hj with rfl | hj
          · exact le_rfl
          · exact hab.trans (hle j hj)
        · intro j hj hja
          rcases List.mem_cons.mp hj with rfl | hj
          · exact absurd hja (lt_irrefl _)
          · exact absurd hja (not_lt.mpr (hl.1 j hj).le)

/-- The place a stable sort puts first. -/
theorem sortedFrom_first {n : ℕ} (d : Fin n → ℝ) (before : Fin n → Fin n → Bool)
    (hb : ∀ a b, before a b = true ↔ d a < d b) {k : Fin n} (hk : IsFirst d k) (z : Fin n) (hz : z.val = 0) :
    sortedFrom before z = k := by
  have hmem : ∀ (l : List (Fin n)) (h : 0 < l.length), ∃ t, l = l.get ⟨0, h⟩ :: t := by
    intro l h
    cases l with
    | nil => exact absurd h (lt_irrefl _)
    | cons a t => exact ⟨t, rfl⟩
  have hlen : 0 < (sortPositions n before).length := by rw [length_sortPositions]; exact z.pos
  obtain ⟨t, ht⟩ := hmem (sortPositions n before) hlen
  have ha := head_stableSort d before hb (List.finRange n) (List.pairwise_lt_finRange n) _ t ht
  have hz' : z.cast (length_sortPositions n before).symm = ⟨0, hlen⟩ := Fin.ext hz
  unfold sortedFrom
  rw [hz']
  exact IsFirst.unique ⟨fun j => ha.2.1 j (List.mem_finRange j), fun j => ha.2.2 j (List.mem_finRange j)⟩ hk

/-- The place of the greatest of a row of numbers turned negative: the first place of the least. -/
theorem topK_head {s t : Shape} {d : ℕ} (hd : d < s.rank) (x : FVec Ideal s .f32) (h : s.Slices (fun _ => 0) t)
    (i : t.Idx) (hz : (i (Fin.cast h.1.symm ⟨d, hd⟩)).val = 0) (src : Fin (s.size ⟨d, hd⟩) → s.Idx)
    (hsrc : ∀ c a, (src c a).val = if a = ⟨d, hd⟩ then c.val else (i (Fin.cast h.1.symm a)).val)
    (e : Fin (s.size ⟨d, hd⟩) → ℝ) (hx : ∀ c, x (src c) = ((-e c : ℝ) : EReal)) {k : Fin (s.size ⟨d, hd⟩)}
    (hk : IsFirst e k) :
    (Host.topK t d (FloatOps.cmpfTotal (F := Ideal) (φ := .f32) .gt) x h).2 i = BitVec.ofNat 32 k.val := by
  have hgt : ∀ a c : Fin (s.size ⟨d, hd⟩),
      (FloatOps.cmpfTotal (F := Ideal) (φ := .f32) .gt (x (src a)) (x (src c)) == 1#1) = true ↔ e a < e c := by
    intro a c
    rw [hx, hx]
    show (BitVec.ofBool (decide (((-e a : ℝ) : EReal) > ((-e c : ℝ) : EReal))) == 1#1) = true ↔ _
    have hiff : ((-e a : ℝ) : EReal) > ((-e c : ℝ) : EReal) ↔ e a < e c := by
      rw [gt_iff_lt, EReal.coe_lt_coe_iff, neg_lt_neg_iff]
    by_cases hlt : e a < e c
    · rw [decide_eq_true (hiff.2 hlt)]; simp [hlt]
    · rw [decide_eq_false (fun h => hlt (hiff.1 h))]; simp [hlt]
  unfold Host.topK Host.sort2
  simp only [extractStridedSlice, dif_pos hd]
  unfold iotaInDim
  rw [Shape.Idx.along, Function.update_self]
  congr 2
  refine sortedFrom_first e _ ?_ hk _ ?_
  · intro a c
    have hal : ∀ c, src c = Shape.Idx.along (fun a => ⟨0 + (i (Fin.cast h.1.symm a)).val,
        Nat.lt_of_lt_of_le (Nat.add_lt_add_left (i _).isLt _) (h.2 a)⟩) ⟨d, hd⟩ c := by
      intro c
      funext a
      apply Fin.ext
      rw [hsrc]
      unfold Shape.Idx.along
      by_cases ha : a = ⟨d, hd⟩
      · subst ha
        rw [if_pos rfl, Function.update_self]
      · rw [if_neg ha, Function.update_of_ne ha]
        simp
    rw [← hal a, ← hal c]
    exact hgt a c
  · simpa using hz

/-- The place of the greatest of each row of distances turned negative. -/
theorem topK_points {x : FVec Ideal S8x512x2048 .f32} {b : Fin 8} {n : Fin 512} {d : Fin 2048 → ℝ}
    (hx : ∀ j, x (ix3 b n j) = ((-d j : ℝ) : EReal)) {k : Fin 2048} (hk : IsFirst d k) :
    (Host.topK S8x512x1 2 (FloatOps.cmpfTotal (F := Ideal) (φ := .f32) .gt) x sliceFits_S8x512x2048_S8x512x1).2
      (ix3 b n 0) = BitVec.ofNat 32 k.val :=
  have hd : 2 < S8x512x2048.rank := by decide
  topK_head (s := S8x512x2048) (t := S8x512x1) (d := 2) hd x _ (ix3 b n 0) rfl (fun c : Fin 2048 => ix3 b n c)
    (by intro c a; fin_cases a <;> rfl) d hx hk

/-- The place of the greatest of three eigenvalues turned negative. -/
theorem topK_values {x : FVec Ideal S8x3 .f32} {b : Fin 8} {d : Fin 3 → ℝ}
    (hx : ∀ j, x (ix2 b j) = ((-d j : ℝ) : EReal)) {k : Fin 3} (hk : IsFirst d k) :
    (Host.topK S8x1 1 (FloatOps.cmpfTotal (F := Ideal) (φ := .f32) .gt) x sliceFits_S8x3_S8x1).2
      (ix2 b 0) = BitVec.ofNat 32 k.val :=
  have hd : 1 < S8x3.rank := by decide
  topK_head (s := S8x3) (t := S8x1) (d := 1) hd x _ (ix2 b 0) rfl (fun c : Fin 3 => ix2 b c)
    (by intro c a; fin_cases a <;> rfl) d hx hk

/-- A place below 2048 read back from its word. -/
theorem toInt_place {N : ℕ} (k : Fin N) (hN : N ≤ 2048) : (BitVec.ofNat 32 k.val).toInt.toNat = k.val := by
  have := k.isLt
  rw [BitVec.toInt_eq_toNat_of_lt (by rw [BitVec.toNat_ofNat]; omega), BitVec.toNat_ofNat, Int.toNat_natCast]
  omega

/-- The row of the map at a place. -/
theorem gather_points (x : FVec Ideal S8x2048x3 .f32) (idx : IVec S8x512x1 32) (b : Fin 8) (n : Fin 512) (i : Fin 3)
    (k : Fin 2048) (hk : idx (ix3 b n 0) = BitVec.ofNat 32 k.val) :
    Host.gather gather_S8x2048x3_S8x512x1_S8x512x3_2_1_0_0_1_2_113 x idx (ix3 b n i) = x (ix3 b k i) := by
  have hst : gather_S8x2048x3_S8x512x1_S8x512x3_2_1_0_0_1_2_113.start (ix3 b n i) idx 1 = k.val := by
    have : gather_S8x2048x3_S8x512x1_S8x512x3_2_1_0_0_1_2_113.start (ix3 b n i) idx 1
        = min (idx (ix3 b n 0)).toInt.toNat 2047 := by
      unfold GatherDims.start
      rw [dif_pos (by decide)]
      congr 3
      congr 1
      funext a
      fin_cases a <;> rfl
    rw [this, hk, toInt_place k le_rfl]
    omega
  unfold Host.gather
  congr 1
  funext a
  apply Fin.ext
  fin_cases a
  · show 0 + b.val + 0 = b.val
    omega
  · show gather_S8x2048x3_S8x512x1_S8x512x3_2_1_0_0_1_2_113.start (ix3 b n i) idx 1 + 0 + 0 = k.val
    omega
  · show 0 + 0 + i.val = i.val
    omega

/-- The diagonal of a matrix, gathered. -/
theorem gather_diag (x : FVec Ideal S8x3x3 .f32) (idx : IVec S3x2 32) (b : Fin 8) (i : Fin 3)
    (h0 : idx (ix2 i 0) = BitVec.ofNat 32 i.val) (h1 : idx (ix2 i 1) = BitVec.ofNat 32 i.val) :
    Host.gather gather_S8x3x3_S3x2_S8x3_0_12_n_n_12_1_811 x idx (ix2 b i) = x (ix3 b i i) := by
  have e1 : gather_S8x3x3_S3x2_S8x3_0_12_n_n_12_1_811.start (ix2 b i) idx 1 = i.val := by
    have : gather_S8x3x3_S3x2_S8x3_0_12_n_n_12_1_811.start (ix2 b i) idx 1 = min (idx (ix2 i 0)).toInt.toNat 2 := by
      unfold GatherDims.start
      rw [dif_pos (by decide)]
      congr 3
      congr 1
      funext a
      fin_cases a <;> rfl
    rw [this, h0, toInt_place i (by omega)]
    omega
  have e2 : gather_S8x3x3_S3x2_S8x3_0_12_n_n_12_1_811.start (ix2 b i) idx 2 = i.val := by
    have : gather_S8x3x3_S3x2_S8x3_0_12_n_n_12_1_811.start (ix2 b i) idx 2 = min (idx (ix2 i 1)).toInt.toNat 2 := by
      unfold GatherDims.start
      rw [dif_pos (by decide)]
      congr 3
      congr 1
      funext a
      fin_cases a <;> rfl
    rw [this, h1, toInt_place i (by omega)]
    omega
  unfold Host.gather
  congr 1
  funext a
  apply Fin.ext
  fin_cases a
  · show 0 + 0 + b.val = b.val
    omega
  · show gather_S8x3x3_S3x2_S8x3_0_12_n_n_12_1_811.start (ix2 b i) idx 1 + 0 + 0 = i.val
    omega
  · show gather_S8x3x3_S3x2_S8x3_0_12_n_n_12_1_811.start (ix2 b i) idx 2 + 0 + 0 = i.val
    omega

end Cert.Reference

end
-- ==== Proof.Reference.Points.lean ====
/-
  The points of one trip of the reference, read at one batch: the moved scan, the nearest map points, the weights, the
  weighted means and the weighted covariance are those of the step over the reals.
-/
module

public import proofs.«01_k».proof.Proof.Reference.Head
public import proofs.«01_k».proof.Proof.Math.Jacobi
public import Idealize.ShloMosaic.Lib.Pointwise

@[expose] public section

set_option maxRecDepth 65536

noncomputable section

namespace Cert.Reference

open Idealize.ShloMosaic
open Cert.ReferenceIdeal Cert.ReferenceIdeal.Gen Cert.ReferenceIdeal.Step Icp

/-- At batch `b` the state holds the real map `M`, the real scan `S` and the real pose `T`. -/
structure IsState (b : Fin 8) (s : State Ideal) (M : Fin 2048 → V3 ℝ) (S : V3 (Fin 512 → ℝ)) (T : Pose ℝ) : Prop where
  T : ∀ i k, s.main_v7_5 (ix3 b i k) = ((T.mat i k : ℝ) : EReal)
  S : ∀ n k, s.main_v7_0 (ix3 b n k) = (((at' n S).get k : ℝ) : EReal)
  sq : ∀ n, s.main_v7_1 (ix2 b n) = ((dot real (M n) (M n) : ℝ) : EReal)
  M : ∀ n k, s.main_v7_2 (ix3 b n k) = (((M n).get k : ℝ) : EReal)

variable {b : Fin 8} {j : ℕ} {s : State Ideal} {M : Fin 2048 → V3 ℝ} {S : V3 (Fin 512 → ℝ)} {T : Pose ℝ}

/-- A sum of three products, term by term. -/
theorem dot_sum (u v : V3 ℝ) : ∑ x, (((u.get x : ℝ) : EReal) * ((v.get x : ℝ) : EReal)) = ((dot real u v : ℝ) : EReal) := by
  rw [Fin.sum_univ_three]
  simp only [V3.get, Matrix.cons_val_zero, Matrix.cons_val_one, Matrix.cons_val_two, Matrix.head_cons,
    Matrix.tail_cons, dot, real, EReal.coe_add, EReal.coe_mul]

/-- The moved points. -/
theorem read_points (h : IsState b s M S T) (n : Fin 512) (i : Fin 3) :
    b8 j s (ix3 b n i) = (((at' n (movedR S T)).get i : ℝ) : EReal) := by
  pointwise [b8, b7, b6, b5, b4, b3, b2]
  simp only [h.S, h.T]
  rw [Fin.sum_univ_three]
  fin_cases i <;>
    simp [at', V3.get, V3.map, Pose.mat, moved, V3.zip, pts, real]

/-- The squared distances. -/
theorem read_apart (h : IsState b s M S T) (n : Fin 512) (i : Fin 2048) :
    b21 j s (ix3 b n i) = ((apart (at' n (movedR S T)) (M i) : ℝ) : EReal) := by
  pointwise [b21, b20, b19, b18, b17, b16, b15, b14, b13, b12, b11, b10, b9]
  simp only [read_points h, h.M, h.sq, dot_sum]
  rw [lit_coe 0x40000000#32, lit_two]
  norm_cast

/-- The nearest map points. -/
theorem read_near (h : IsState b s M S T) (n : Fin 512) (i : Fin 3) :
    b27 j s (ix3 b n i) = (((at' n (nearR (n := 2047) M (movedR S T))).get i : ℝ) : EReal) := by
  have hk := near_first (n := 2047) M (at' n (movedR S T))
  have hneg : ∀ c, b22 j s (ix3 b n c) = ((-apart (at' n (movedR S T)) (M c) : ℝ) : EReal) := by
    intro c
    pointwise [b22]
    rw [read_apart h, EReal.coe_neg]
  have h24 : b24 j s (ix3 b n 0) = BitVec.ofNat 32 (near (n := 2047) M (at' n (movedR S T))).val := topK_points hneg hk
  have h26 : b26 j s (ix3 b n 0) = BitVec.ofNat 32 (near (n := 2047) M (at' n (movedR S T))).val := by
    rw [← h24]
    pointwise [b26, b25]
  unfold b27
  rw [gather_points _ _ b n i _ h26, h.M]
  rfl

/-- The distance of two points, kept away from zero. -/
def gap (P N : V3 ℝ) : ℝ :=
  real.sqrt (real.add (dot real (V3.zip real.sub P N) (V3.zip real.sub P N)) (real.lit 0x2B8CBCCC#32))

theorem gap_ne (P N : V3 ℝ) : gap P N ≠ 0 := (Real.sqrt_pos.mpr (dist_pos P N)).ne'

/-- The weight by the distance. -/
theorem weight_gap (P N : V3 ℝ) : weight real P N
    = (if gap P N < lit 0x40A00000#32 then 1 else 0) * (if 1 < gap P N then 1 / gap P N else 1) := by
  have e : weight real P N = (if gap P N < lit 0x40A00000#32 then 1 else 0)
      * (if gap P N > lit 0x3F800000#32 then lit 0x3F800000#32 / gap P N else lit 0x3F800000#32) := rfl
  rw [e, lit_one]

/-- The distances to the nearest points. -/
theorem read_gap (h : IsState b s M S T) (n : Fin 512) : b35 j s (ix2 b n)
    = ((gap (at' n (movedR S T)) (at' n (nearR (n := 2047) M (movedR S T))) : ℝ) : EReal) := by
  have e : b35 j s (ix2 b n) = Ideal.sqrt (∑ x, (b8 j s (ix3 b n x) - b27 j s (ix3 b n x))
      * (b8 j s (ix3 b n x) - b27 j s (ix3 b n x)) + Ideal.ofBits .f32 0x2B8CBCCC#32) := by
    pointwise [b35, b34, b33, b32, b31, b30, b29, b28]
  have hr : ∀ x, b8 j s (ix3 b n x) - b27 j s (ix3 b n x) = (((V3.zip real.sub (at' n (movedR S T))
      (at' n (nearR (n := 2047) M (movedR S T)))).get x : ℝ) : EReal) := by
    intro x
    rw [read_points h, read_near h, ← EReal.coe_sub]
    fin_cases x <;> rfl
  rw [e]
  simp only [hr, dot_sum]
  rw [lit_coe 0x2B8CBCCC#32, ← EReal.coe_add]
  exact sqrt_coe _ (dist_pos _ _).le

/-- The weights. -/
theorem read_weight (h : IsState b s M S T) (n : Fin 512) : b50 j s (ix2 b n)
    = ((weight real (at' n (movedR S T)) (at' n (nearR (n := 2047) M (movedR S T))) : ℝ) : EReal) := by
  have e : b50 j s (ix2 b n) = FloatOps.uitofp (F := Ideal) .f32 (BitVec.ofBool (decide
      (b35 j s (ix2 b n) < Ideal.ofBits .f32 0x40A00000#32)))
      * if 1 < b35 j s (ix2 b n) then Ideal.div 1 (b35 j s (ix2 b n)) else 1 := by
    pointwise [b50, b49, b48, b47, b46, b45, b44, b43, b42, b41, b40, b39, b38, b37, b36]
  have hflag : ∀ (p : Prop) [Decidable p], (FloatOps.uitofp (F := Ideal) .f32
      (BitVec.ofBool (decide p)) : EReal) = ((if p then 1 else 0 : ℝ) : EReal) := by
    intro p _
    by_cases hp : p <;> simp [hp, FloatOps.uitofp]
  have h1 : (1 : EReal) = ((1 : ℝ) : EReal) := rfl
  rw [e, read_gap h, hflag, lit_coe 0x40A00000#32, weight_gap, h1, div_coe _ _ (gap_ne _ _), EReal.coe_mul]
  simp only [EReal.coe_lt_coe_iff]
  congr 1
  split_ifs <;> rfl

/-- The mean of the moved points and of their nearest points. -/
theorem mean_left {ι : Type} [Fintype ι] (P N : V3 (ι → ℝ)) (i : Fin 3) : (momentsR P N).1.get i
    = (∑ n, weight real (at' n P) (at' n N) * (at' n P).get i) / total P N := by
  fin_cases i <;> rfl
theorem mean_right {ι : Type} [Fintype ι] (P N : V3 (ι → ℝ)) (i : Fin 3) : (momentsR P N).2.1.get i
    = (∑ n, weight real (at' n P) (at' n N) * (at' n N).get i) / total P N := by
  fin_cases i <;> rfl
/-- The covariance. -/
theorem covariance {ι : Type} [Fintype ι] (P N : V3 (ι → ℝ)) (i k : Fin 3) : ent (momentsR P N).2.2 i k
    = ∑ n, weight real (at' n P) (at' n N) * ((at' n P).get i - (momentsR P N).1.get i)
        * ((at' n N).get k - (momentsR P N).2.1.get k) := by
  fin_cases i <;> fin_cases k <;> rfl

theorem read_mean_left (h : IsState b s M S T) (i : Fin 3) : b62 j s (ix2 b i)
    = (((momentsR (movedR S T) (nearR (n := 2047) M (movedR S T))).1.get i : ℝ) : EReal) := by
  pointwise [b62, b61, b60, b59, b58, b57, b56, b55, b54, b53, b52, b51]
  simp only [read_weight h, read_points h, ← EReal.coe_mul, ← coe_sum]
  rw [lit_coe 0x3089705F#32, ← EReal.coe_add, mean_left]
  exact div_coe _ _ (total_pos _ _).ne'

theorem read_mean_right (h : IsState b s M S T) (i : Fin 3) : b68 j s (ix2 b i)
    = (((momentsR (movedR S T) (nearR (n := 2047) M (movedR S T))).2.1.get i : ℝ) : EReal) := by
  pointwise [b68, b67, b66, b65, b64, b63, b56, b55, b54, b53, b52, b51]
  simp only [read_weight h, read_near h, ← EReal.coe_mul, ← coe_sum]
  rw [lit_coe 0x3089705F#32, ← EReal.coe_add, mean_right]
  exact div_coe _ _ (total_pos _ _).ne'

theorem read_covariance (h : IsState b s M S T) (i k : Fin 3) : b77 j s (ix3 b i k)
    = ((ent (momentsR (movedR S T) (nearR (n := 2047) M (movedR S T))).2.2 i k : ℝ) : EReal) := by
  pointwise [b77, b76, b75, b74, b73, b72, b71, b70, b69, b51]
  simp only [read_weight h, read_points h, read_near h, read_mean_left h, read_mean_right h, ← EReal.coe_mul,
    ← EReal.coe_sub, ← coe_sum]
  rw [covariance]

end Cert.Reference

end
-- ==== Proof.Reference.Rotation.lean ====
/-
  The rotation and the new pose of one trip of the reference, read at one batch: those of the step over the reals.
-/
module

public import proofs.«01_k».proof.Proof.Reference.Turn
public import proofs.«01_k».proof.Proof.Reference.Points

@[expose] public section

set_option maxRecDepth 65536

noncomputable section

namespace Cert.Reference

open Idealize.ShloMosaic
open Cert.ReferenceIdeal Cert.ReferenceIdeal.Gen Cert.ReferenceIdeal.Step Icp

variable {b : Fin 8} {j : ℕ} {s : State Ideal}

/-- The five sweeps of a trip, each the generic one of the values before it. -/
theorem sweep_1 : (b274 j s, b275 j s) = sweepM (b78 j s, b86 j s) := rfl
theorem sweep_2 : (b463 j s, b464 j s) = sweepM (b274 j s, b275 j s) := rfl
theorem sweep_3 : (b652 j s, b653 j s) = sweepM (b463 j s, b464 j s) := rfl
theorem sweep_4 : (b841 j s, b842 j s) = sweepM (b652 j s, b653 j s) := rfl
theorem sweep_5 : (b1030 j s, b1031 j s) = sweepM (b841 j s, b842 j s) := rfl

/-- The diagonalisation. -/
theorem read_eig {H : M3 ℝ} (hH : IsMat b (b77 j s) (ent H)) :
    IsEigM b (b1030 j s) (b1031 j s) (diagonalise real H) := by
  have h0 : IsEigM b (b78 j s) (b86 j s) (eig0 real H) := by
    constructor
    · rw [eig0_A]
      exact is_timesT hH hH
    · rw [eig0_V]
      intro i k
      pointwise [b86, b85, b84, b83, b82, b81, b80, b79]
      fin_cases i <;> fin_cases k <;> simp [IntOp.cmpi, IntOp.addi, FloatOps.uitofp]
  have h1 : IsEigM b (b274 j s) (b275 j s) (sweep real (eig0 real H)) := is_sweepM (x := (b78 j s, b86 j s)) h0
  have h2 : IsEigM b (b463 j s) (b464 j s) _ := is_sweepM (x := (b274 j s, b275 j s)) h1
  have h3 : IsEigM b (b652 j s) (b653 j s) _ := is_sweepM (x := (b463 j s, b464 j s)) h2
  have h4 : IsEigM b (b841 j s) (b842 j s) _ := is_sweepM (x := (b652 j s, b653 j s)) h3
  exact is_sweepM (x := (b841 j s, b842 j s)) h4

/-- The eigenvalues. -/
theorem read_values {H : M3 ℝ} (hH : IsMat b (b77 j s) (ent H)) (i : Fin 3) : b1051 j s (ix2 b i)
    = (((⟨(diagonalise real H).a00, (diagonalise real H).a11, (diagonalise real H).a22⟩ : V3 ℝ).get i : ℝ) : EReal) := by
  have hidx : ∀ (i : Fin 3) (c : Fin 2), b1050 (F := Ideal) j s (ix2 i c) = BitVec.ofNat 32 i.val := by
    intro i c
    fin_cases c <;>
    · pointwise [b1050, b1049, b1048, b1047, b1046, b1045, b1044, b1043, b1042, b1041, b1040, b1039, b1038, b1037,
        b1036, b1035, b1034, b1033, b1032]
      fin_cases i <;> rfl
  unfold b1051
  rw [gather_diag _ _ b i (hidx i 0) (hidx i 1), (read_eig hH).A i i]
  fin_cases i <;> rfl

/-- The left singular vectors. -/
theorem read_left {H : M3 ℝ} (hH : IsMat b (b77 j s) (ent H)) : IsMat b (b1059 j s) (leftVecs (ent H)
    (ent (diagonalise real H).V)
    (⟨(diagonalise real H).a00, (diagonalise real H).a11, (diagonalise real H).a22⟩ : V3 ℝ).get) := by
  intro i k
  have e : b1056 j s (ix3 b i k) = _ := is_times hH (read_eig hH).V i k
  pointwise [b1059, b1058, b1057, b1055, b1054, b1053, b1052]
  rw [e, read_values hH, lit_coe 0x0DA24260#32, ← coe_max, sqrt_coe, div_coe]
  · rfl
  · exact (sigma_pos' _).ne'
  · exact (lit_pos 0x0DA24260#32).le.trans (le_max_right _ _)

/-- The determinant of the uncorrected rotation. -/
theorem read_det {m : Mat 3 3} (h : IsMat b (b1060 j s) m) : b1104 j s (ix1 b) = ((det m : ℝ) : EReal) := by
  pointwise [b1104, b1103, b1102, b1101, b1100, b1099, b1098, b1097, b1096, b1095, b1094, b1093, b1092, b1091, b1090,
    b1089, b1088, b1087, b1086, b1085, b1084, b1083, b1082, b1081, b1080, b1079, b1078, b1077, b1076, b1075, b1074,
    b1073, b1072, b1071, b1070, b1069, b1068, b1067, b1066, b1065, b1064, b1063, b1062, b1061]
  simp only [h _ _]
  norm_cast

/-- The sign of a real number among the extended reals. -/
theorem sign_coe (x : ℝ) : Ideal.sign (x : EReal) = ((sign x : ℝ) : EReal) := by
  have e : Ideal.sign (x : EReal) = (((SignType.sign x : SignType) : ℝ) : EReal) := rfl
  rw [sign_eq, e]
  rcases lt_trichotomy x 0 with h | h | h
  · simp [h, not_lt.mpr h.le]
  · simp [h]
  · simp [h]

/-- The eigenvalues of a covariance. -/
def values (H : M3 ℝ) : V3 ℝ := ⟨(diagonalise real H).a00, (diagonalise real H).a11, (diagonalise real H).a22⟩

/-- The sign of the uncorrected rotation. -/
theorem read_sign {H : M3 ℝ} (hH : IsMat b (b77 j s) (ent H)) : Ideal.sign (b1104 j s (ix1 b))
    = ((sign (det (mulTr (ent (diagonalise real H).V)
      (leftVecs (ent H) (ent (diagonalise real H).V) (values H).get))) : ℝ) : EReal) := by
  have h : IsMat b (b1060 j s) (mulTr (ent (diagonalise real H).V)
      (leftVecs (ent H) (ent (diagonalise real H).V) (values H).get)) :=
    is_timesTr (read_eig hH).V (read_left hH)
  rw [read_det h, sign_coe]

/-- The place of the least eigenvalue. -/
theorem read_least {H : M3 ℝ} (hH : IsMat b (b77 j s) (ent H)) {k : Fin 3} (hk : IsFirst (values H).get k) :
    b1108 j s (ix2 b 0) = BitVec.ofNat 32 k.val := by
  have hneg : ∀ c, b1106 j s (ix2 b c) = ((-(values H).get c : ℝ) : EReal) := by
    intro c
    pointwise [b1106]
    rw [read_values hH, EReal.coe_neg]
    rfl
  exact topK_values hneg hk

/-- The eigenvectors with their signs. -/
theorem read_signed {V : Mat 3 3} (hV : IsMat b (b1031 j s) V) {d : ℝ} (hd : Ideal.sign (b1104 j s (ix1 b)) = (d : EReal))
    {k : Fin 3} (hk : b1108 j s (ix2 b 0) = BitVec.ofNat 32 k.val) :
    IsMat b (b1122 j s) fun i x => V i x * if x = k then d else 1 := by
  intro i x
  pointwise [b1122, b1121, b1120, b1119, b1118, b1117, b1116, b1115, b1114, b1113, b1112, b1111, b1110, b1109, b1105]
  rw [hk, hd, hV i x, EReal.coe_mul]
  refine congrArg (fun z => (V i x : EReal) * z) ?_
  by_cases hx : x = k
  · subst hx
    simp [IntOp.cmpi, Scalar.select]
  · have hne : BitVec.ofNat 32 x.val ≠ BitVec.ofNat 32 k.val := by
      intro he
      apply hx
      have := congrArg BitVec.toNat he
      rw [BitVec.toNat_ofNat, BitVec.toNat_ofNat] at this
      apply Fin.ext
      omega
    have hb : (BitVec.ofNat 32 x.val == BitVec.ofNat 32 k.val) = false := beq_eq_false_iff_ne.mpr hne
    simp [IntOp.cmpi, Scalar.select, hx, hb]

/-- The rotation. -/
theorem read_rotation {H : M3 ℝ} (hH : IsMat b (b77 j s) (ent H)) :
    IsMat b (b1123 j s) (ent (bestRotation real sign H)) := by
  obtain ⟨k, hk⟩ := exists_first (n := 2) (values H).get
  have e : ent (bestRotation real sign H) = _ :=
    rotationFrom_eq H (diagonalise real H).V (values H) (det_diagonalise H) k hk
  rw [e]
  exact is_timesTr (read_signed (read_eig hH).V (read_sign hH) (read_least hH hk)) (read_left hH)

variable {M : Fin 2048 → V3 ℝ} {S : V3 (Fin 512 → ℝ)} {T : Pose ℝ}

/-- The motion of a trip. -/
theorem read_motion (h : IsState b s M S T) (i k : Fin 4) : b1137 j s (ix3 b i k)
    = (((motion (bestRotation real sign (momentsR (movedR S T) (nearR (n := 2047) M (movedR S T))).2.2)
        (momentsR (movedR S T) (nearR (n := 2047) M (movedR S T))).1
        (momentsR (movedR S T) (nearR (n := 2047) M (movedR S T))).2.1).mat i k : ℝ) : EReal) := by
  have hR := read_rotation (b := b) (j := j) (s := s) (read_covariance h)
  have ht : ∀ i, b1125 j s (ix2 b i) = (((momentsR (movedR S T) (nearR (n := 2047) M (movedR S T))).2.1.get i
      - ∑ x, ent (bestRotation real sign (momentsR (movedR S T) (nearR (n := 2047) M (movedR S T))).2.2) i x
        * (momentsR (movedR S T) (nearR (n := 2047) M (movedR S T))).1.get x : ℝ) : EReal) := by
    intro i
    pointwise [b1125, b1124]
    simp only [hR _ _, read_mean_left h, read_mean_right h, ← EReal.coe_mul, ← coe_sum, ← EReal.coe_sub]
  generalize momentsR (movedR S T) (nearR (n := 2047) M (movedR S T)) = m at *
  pointwise [b1137, b1136, b1135, b1134, b1133, b1132, b1131, b1130, b1129, b1128, b1127, b1126]
  simp only [hR _ _, ht]
  fin_cases i <;> fin_cases k <;>
    simp [motion, Pose.mat, ent, V3.get, Fin.sum_univ_three, dot, real, IntOp.cmpi, IntOp.addi, FloatOps.uitofp]

/-- One trip is one step over the reals. -/
theorem read_step (h : IsState b s M S T) : IsState b (step j s) M S (nextR (n := 2047) M S T) := by
  refine ⟨?_, h.S, h.sq, h.M⟩
  intro i k
  rw [step_main_v7_5]
  have e : b1138 j s (ix3 b i k) = ∑ x, b1137 j s (ix3 b i x) * s.main_v7_5 (ix3 b x k) := by pointwise [b1138]
  rw [e]
  simp only [read_motion h, h.T, ← EReal.coe_mul, ← coe_sum]
  unfold nextR stepR compose
  rw [composeWith_mat]
  rfl

end Cert.Reference

end
-- ==== Proof.Reference.Start.lean ====
/-
  The reference's loop from its first state: every state holds the same map and scan, and the pose stepped over the reals.
-/
module

public import proofs.«01_k».proof.Proof.Reference.Rotation
public import proofs.«01_k».proof.Proof.Reference.Run
public import proofs.«01_k».proof.Proof.Math.Inputs

@[expose] public section

set_option maxRecDepth 65536

noncomputable section

namespace Cert.Reference

open Idealize.ShloMosaic
open Cert.ReferenceIdeal Cert.ReferenceIdeal.Gen Cert.ReferenceIdeal.Step Icp

/-- The first state holds the inputs' real numbers. -/
theorem read_init {a0 : FVec Ideal S8x512x3 .f32} {a1 : FVec Ideal S8x2048x3 .f32} {a2 : FVec Ideal S8x4x4 .f32}
    {a3 : FVec Ideal S_ .f32} (h : Given a0 a1 a2 a3) (b : Fin 8) :
    IsState b (init (F := Ideal) a2 a1 a0 a3) (realMap a1 b) (realScan a0 a3 b) (realPose a2 b) := by
  refine ⟨fun i k => h.read_pose i k, fun n k => ?_, fun n => ?_, fun n k => h.read_map n k⟩
  · rw [← h.read_scan n k]
    show A_main_v4 (F := Ideal) a0 a1 a3 (ix3 b n k) = _
    pointwise [A_main_v4, A_main_v3, A_main_v2, A_main_v1, K_main_v0, K_main_cst, K_main_cst_0]
  · show A_main_v6 (F := Ideal) a0 a1 a3 (ix2 b n) = _
    rw [← dot_sum]
    pointwise [A_main_v6, A_main_v5, K_main_cst_1]
    simp only [h.read_map n _]

/-- Every state of the loop. -/
theorem read_states {b : Fin 8} {s : State Ideal} {M : Fin 2048 → V3 ℝ} {S : V3 (Fin 512 → ℝ)} {T : Pose ℝ}
    (h : IsState b s M S T) : ∀ n, IsState b (states s n) M S ((nextR (n := 2047) M S)^[n] T)
  | 0 => h
  | n + 1 => by
    rw [Function.iterate_succ_apply']
    exact read_step (read_states h n)

end Cert.Reference

end
-- ==== Proof.Value.lean ====
/-
  The kernel's result is the reference's: at every batch both are the starting pose stepped eight times over the reals.
-/
module

public import proofs.«01_k».proof.Defs
public import proofs.«01_k».proof.Proof.Given
public import proofs.«01_k».proof.Proof.KernelIdeal.Result
public import proofs.«01_k».proof.Proof.Reference.Start

@[expose] public section

set_option maxRecDepth 65536

noncomputable section

namespace Cert.Proof

open Idealize.ShloMosaic Icp

/-- From arguments that satisfy the precondition, the kernel and the reference end with equal results. -/
theorem value [Cert.Pre_finite_and_affine.Facts] : algebraic_KernelIdeal_ReferenceIdeal_pre_finite_and_affine := by
  intro m g m' g' hpre hargs
  refine ⟨KernelIdeal.Body.result m, KernelIdeal.Body.run_result m g, ?_⟩
  refine (θ_run _ _ _).mono (fun r h c => ⟨(h c).1.trans ?_, (h c).2⟩) (Reference.run m' g')
  obtain ⟨h0, h1, h2, h3⟩ := hargs c
  have hg := Pre_finite_and_affine.given (hpre c)
  funext y
  obtain ⟨b, i, j, rfl⟩ : ∃ (b : Fin 8) (i j : Fin 4), y = ix3 b i j :=
    ⟨y 0, y 1, y 2, by funext a; fin_cases a <;> rfl⟩
  refine Eq.trans ?_ (KernelIdeal.Body.read_result m c hg b i j).symm
  have hs := Reference.read_states (Reference.read_init hg b) 8
  rw [← h0, ← h1, ← h2, ← h3] at hs ⊢
  exact hs.T i j

end Cert.Proof

end
-- ==== Proof.lean ====
/- The certificate's proof. Each program's frame is its own run read at the claim's values; the one rewrite of the
   idealization is closed by its rule; the value claim is `Cert.Proof.value`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Given
public import proofs.«01_k».proof.Proof.Kernel.Frame
public import proofs.«01_k».proof.Proof.KernelIdeal.Frame
public import proofs.«01_k».proof.Proof.Reference.Run
public import proofs.«01_k».proof.Proof.Value

@[expose] public section

open Idealize.ShloMosaic

theorem Cert.Proof.claim : Cert.Claim :=
  have hpre := Cert.Pre_finite_and_affine.facts
  ⟨Cert.Kernel.Gen.facts, Cert.KernelIdeal.Gen.facts, Cert.ReferenceIdeal.Gen.facts, hpre,
    fun m ρ _ => Cert.Kernel.Body.frame m ρ,
    fun m ρ _ => Cert.KernelIdeal.Body.frame m ρ, fun m ρ _ => Cert.KernelIdeal.Body.frame m ρ,
    fun m ρ _ => Cert.Reference.frame m ρ, fun m ρ _ => Cert.Reference.frame m ρ,
    IdealRules.sign_bit.statement Cert.KernelIdeal.S1x8 .f32, Cert.Proof.value⟩

end
